-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2 = (fun _ => 1#1)

def Pre_Reference (m : (ℓ : Loc Cert.Reference.nD Cert.Reference.τ Cert.Reference.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Reference2 (m : (ℓ : Loc Cert.Reference2.nD Cert.Reference2.τ Cert.Reference2.sig) → Buf (Elt Bits) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Reference3 (m : (ℓ : Loc Cert.Reference3.nD Cert.Reference3.τ Cert.Reference3.sig) → Buf (Elt Bits) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_conv [hPre_finite_conv : Cert.Pre_finite_conv.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_conv.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).1 = (fun _ => 1#1)
    ∧ (Cert.Pre_finite_conv.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_conv [hPre_finite_conv : Cert.Pre_finite_conv.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_conv.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).1 = (fun _ => 1#1)
    ∧ (Cert.Pre_finite_conv.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2 = (fun _ => 1#1)

def Pre_Reference4 (m : (ℓ : Loc Cert.Reference4.nD Cert.Reference4.τ Cert.Reference4.sig) → Buf (Elt Bits) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Reference5 (m : (ℓ : Loc Cert.Reference5.nD Cert.Reference5.τ Cert.Reference5.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8)
      ∧ r.2.mem ((c.tc : Thread Cert.Reference.nD Cert.Reference.τ).loc Cert.Reference.main_arg9) = m ((c.tc : Thread Cert.Reference.nD Cert.Reference.τ).loc Cert.Reference.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2 [hReference2 : Cert.Reference2.Facts] : Prop :=
  ∀ (m : (ℓ : Loc Cert.Reference2.nD Cert.Reference2.τ Cert.Reference2.sig) → Buf (Elt Bits) ℓ) (g : Dev Cert.Reference2.nD → PrngReg), Pre_Reference2 m →
    θ_run (Cert.Reference2.defs (F := Bits)) (onTc (τ := Cert.Reference2.τ) (Cert.Reference2.main (F := Bits))) ⟨m, fun _ => 0, g⟩ (fun r => (∀ c : Dev Cert.Reference2.nD,
      r.2.mem ((c.tc : Thread Cert.Reference2.nD Cert.Reference2.τ).loc Cert.Reference2.main_arg0) = m ((c.tc : Thread Cert.Reference2.nD Cert.Reference2.τ).loc Cert.Reference2.main_arg0)
      ∧ r.2.mem ((c.tc : Thread Cert.Reference2.nD Cert.Reference2.τ).loc Cert.Reference2.main_arg1) = m ((c.tc : Thread Cert.Reference2.nD Cert.Reference2.τ).loc Cert.Reference2.main_arg1)
      ∧ r.2.mem ((c.tc : Thread Cert.Reference2.nD Cert.Reference2.τ).loc Cert.Reference2.main_arg2) = m ((c.tc : Thread Cert.Reference2.nD Cert.Reference2.τ).loc Cert.Reference2.main_arg2)
      ∧ r.2.mem ((c.tc : Thread Cert.Reference2.nD Cert.Reference2.τ).loc Cert.Reference2.main_arg3) = m ((c.tc : Thread Cert.Reference2.nD Cert.Reference2.τ).loc Cert.Reference2.main_arg3)
      ∧ r.2.mem ((c.tc : Thread Cert.Reference2.nD Cert.Reference2.τ).loc Cert.Reference2.main_arg4) = m ((c.tc : Thread Cert.Reference2.nD Cert.Reference2.τ).loc Cert.Reference2.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Reference3 [hReference3 : Cert.Reference3.Facts] : Prop :=
  ∀ (m : (ℓ : Loc Cert.Reference3.nD Cert.Reference3.τ Cert.Reference3.sig) → Buf (Elt Bits) ℓ) (g : Dev Cert.Reference3.nD → PrngReg), Pre_Reference3 m →
    θ_run (Cert.Reference3.defs (F := Bits)) (onTc (τ := Cert.Reference3.τ) (Cert.Reference3.main (F := Bits))) ⟨m, fun _ => 0, g⟩ (fun r => (∀ c : Dev Cert.Reference3.nD,
      r.2.mem ((c.tc : Thread Cert.Reference3.nD Cert.Reference3.τ).loc Cert.Reference3.main_arg0) = m ((c.tc : Thread Cert.Reference3.nD Cert.Reference3.τ).loc Cert.Reference3.main_arg0)
      ∧ r.2.mem ((c.tc : Thread Cert.Reference3.nD Cert.Reference3.τ).loc Cert.Reference3.main_arg1) = m ((c.tc : Thread Cert.Reference3.nD Cert.Reference3.τ).loc Cert.Reference3.main_arg1)
      ∧ r.2.mem ((c.tc : Thread Cert.Reference3.nD Cert.Reference3.τ).loc Cert.Reference3.main_arg2) = m ((c.tc : Thread Cert.Reference3.nD Cert.Reference3.τ).loc Cert.Reference3.main_arg2)
      ∧ r.2.mem ((c.tc : Thread Cert.Reference3.nD Cert.Reference3.τ).loc Cert.Reference3.main_arg3) = m ((c.tc : Thread Cert.Reference3.nD Cert.Reference3.τ).loc Cert.Reference3.main_arg3)
      ∧ r.2.mem ((c.tc : Thread Cert.Reference3.nD Cert.Reference3.τ).loc Cert.Reference3.main_arg4) = m ((c.tc : Thread Cert.Reference3.nD Cert.Reference3.τ).loc Cert.Reference3.main_arg4)
      ∧ r.2.mem ((c.tc : Thread Cert.Reference3.nD Cert.Reference3.τ).loc Cert.Reference3.main_arg5) = m ((c.tc : Thread Cert.Reference3.nD Cert.Reference3.τ).loc Cert.Reference3.main_arg5)
      ∧ r.2.mem ((c.tc : Thread Cert.Reference3.nD Cert.Reference3.τ).loc Cert.Reference3.main_arg6) = m ((c.tc : Thread Cert.Reference3.nD Cert.Reference3.τ).loc Cert.Reference3.main_arg6)
      ∧ r.2.mem ((c.tc : Thread Cert.Reference3.nD Cert.Reference3.τ).loc Cert.Reference3.main_arg7) = m ((c.tc : Thread Cert.Reference3.nD Cert.Reference3.τ).loc Cert.Reference3.main_arg7)
      ∧ r.2.mem ((c.tc : Thread Cert.Reference3.nD Cert.Reference3.τ).loc Cert.Reference3.main_arg8) = m ((c.tc : Thread Cert.Reference3.nD Cert.Reference3.τ).loc Cert.Reference3.main_arg8)
      ∧ r.2.mem ((c.tc : Thread Cert.Reference3.nD Cert.Reference3.τ).loc Cert.Reference3.main_arg9) = m ((c.tc : Thread Cert.Reference3.nD Cert.Reference3.τ).loc Cert.Reference3.main_arg9)
      ∧ r.2.mem ((c.tc : Thread Cert.Reference3.nD Cert.Reference3.τ).loc Cert.Reference3.main_arg10) = m ((c.tc : Thread Cert.Reference3.nD Cert.Reference3.τ).loc Cert.Reference3.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite_conv [hKernel4Ideal : Cert.Kernel4Ideal.Facts] [hPre_finite_conv : Cert.Pre_finite_conv.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_conv m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite_conv [hReference4Ideal : Cert.Reference4Ideal.Facts] [hPre_finite_conv : Cert.Pre_finite_conv.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_conv m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4 [hReference4 : Cert.Reference4.Facts] : Prop :=
  ∀ (m : (ℓ : Loc Cert.Reference4.nD Cert.Reference4.τ Cert.Reference4.sig) → Buf (Elt Bits) ℓ) (g : Dev Cert.Reference4.nD → PrngReg), Pre_Reference4 m →
    θ_run (Cert.Reference4.defs (F := Bits)) (onTc (τ := Cert.Reference4.τ) (Cert.Reference4.main (F := Bits))) ⟨m, fun _ => 0, g⟩ (fun r => (∀ c : Dev Cert.Reference4.nD,
      r.2.mem ((c.tc : Thread Cert.Reference4.nD Cert.Reference4.τ).loc Cert.Reference4.main_arg0) = m ((c.tc : Thread Cert.Reference4.nD Cert.Reference4.τ).loc Cert.Reference4.main_arg0)
      ∧ r.2.mem ((c.tc : Thread Cert.Reference4.nD Cert.Reference4.τ).loc Cert.Reference4.main_arg1) = m ((c.tc : Thread Cert.Reference4.nD Cert.Reference4.τ).loc Cert.Reference4.main_arg1)
      ∧ r.2.mem ((c.tc : Thread Cert.Reference4.nD Cert.Reference4.τ).loc Cert.Reference4.main_arg2) = m ((c.tc : Thread Cert.Reference4.nD Cert.Reference4.τ).loc Cert.Reference4.main_arg2)
      ∧ r.2.mem ((c.tc : Thread Cert.Reference4.nD Cert.Reference4.τ).loc Cert.Reference4.main_arg3) = m ((c.tc : Thread Cert.Reference4.nD Cert.Reference4.τ).loc Cert.Reference4.main_arg3)
      ∧ r.2.mem ((c.tc : Thread Cert.Reference4.nD Cert.Reference4.τ).loc Cert.Reference4.main_arg4) = m ((c.tc : Thread Cert.Reference4.nD Cert.Reference4.τ).loc Cert.Reference4.main_arg4)
      ∧ r.2.mem ((c.tc : Thread Cert.Reference4.nD Cert.Reference4.τ).loc Cert.Reference4.main_arg5) = m ((c.tc : Thread Cert.Reference4.nD Cert.Reference4.τ).loc Cert.Reference4.main_arg5)
      ∧ r.2.mem ((c.tc : Thread Cert.Reference4.nD Cert.Reference4.τ).loc Cert.Reference4.main_arg6) = m ((c.tc : Thread Cert.Reference4.nD Cert.Reference4.τ).loc Cert.Reference4.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5 [hReference5 : Cert.Reference5.Facts] : Prop :=
  ∀ (m : (ℓ : Loc Cert.Reference5.nD Cert.Reference5.τ Cert.Reference5.sig) → Buf (Elt Bits) ℓ) (g : Dev Cert.Reference5.nD → PrngReg), Pre_Reference5 m →
    θ_run (Cert.Reference5.defs (F := Bits)) (onTc (τ := Cert.Reference5.τ) (Cert.Reference5.main (F := Bits))) ⟨m, fun _ => 0, g⟩ (fun r => (∀ c : Dev Cert.Reference5.nD,
      r.2.mem ((c.tc : Thread Cert.Reference5.nD Cert.Reference5.τ).loc Cert.Reference5.main_arg0) = m ((c.tc : Thread Cert.Reference5.nD Cert.Reference5.τ).loc Cert.Reference5.main_arg0)
      ∧ r.2.mem ((c.tc : Thread Cert.Reference5.nD Cert.Reference5.τ).loc Cert.Reference5.main_arg1) = m ((c.tc : Thread Cert.Reference5.nD Cert.Reference5.τ).loc Cert.Reference5.main_arg1)
      ∧ r.2.mem ((c.tc : Thread Cert.Reference5.nD Cert.Reference5.τ).loc Cert.Reference5.main_arg2) = m ((c.tc : Thread Cert.Reference5.nD Cert.Reference5.τ).loc Cert.Reference5.main_arg2)
      ∧ r.2.mem ((c.tc : Thread Cert.Reference5.nD Cert.Reference5.τ).loc Cert.Reference5.main_arg3) = m ((c.tc : Thread Cert.Reference5.nD Cert.Reference5.τ).loc Cert.Reference5.main_arg3)
      ∧ r.2.mem ((c.tc : Thread Cert.Reference5.nD Cert.Reference5.τ).loc Cert.Reference5.main_arg4) = m ((c.tc : Thread Cert.Reference5.nD Cert.Reference5.τ).loc Cert.Reference5.main_arg4)
      ∧ r.2.mem ((c.tc : Thread Cert.Reference5.nD Cert.Reference5.τ).loc Cert.Reference5.main_arg5) = m ((c.tc : Thread Cert.Reference5.nD Cert.Reference5.τ).loc Cert.Reference5.main_arg5)
      ∧ r.2.mem ((c.tc : Thread Cert.Reference5.nD Cert.Reference5.τ).loc Cert.Reference5.main_arg6) = m ((c.tc : Thread Cert.Reference5.nD Cert.Reference5.τ).loc Cert.Reference5.main_arg6))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def preserves_Reference_ReferenceIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def preserves_Reference2_Reference2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def preserves_Reference3_Reference3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v63) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def preserves_Reference4_Reference4Ideal : Prop :=
  True

def algebraic_Kernel4Ideal_Reference4Ideal_pre_finite_conv [hKernel4Ideal : Cert.Kernel4Ideal.Facts] [hReference4Ideal : Cert.Reference4Ideal.Facts] [hPre_finite_conv : Cert.Pre_finite_conv.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_conv m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v59) = v0 c
          ∧ r.2.mem ((c.tc : Thread Cert.Reference4Ideal.nD Cert.Reference4Ideal.τ).loc Cert.Reference4Ideal.main_v61) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  IdealRules.named_const.Statement Cert.Kernel5Ideal.κ "qscale" .f32 0x3E38AA3B#32 (((Real.log 256)⁻¹ : ℝ) : EReal)

def preserves_Reference5_Reference5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v64_0)) (v1 : (c : Dev Cert.Kernel5Ideal.nD) → Buf (Elt Ideal) ((c.tc : Thread Cert.Kernel5Ideal.nD Cert.Kernel5Ideal.τ).loc Cert.Kernel5Ideal.main_v64_1)) (v2 : (c : Dev Cert.Kernel5Ideal.nD) → Buf (Elt Ideal) ((c.tc : Thread Cert.Kernel5Ideal.nD Cert.Kernel5Ideal.τ).loc Cert.Kernel5Ideal.main_v64_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v64_0) = v0 c
          ∧ r.2.mem ((c.tc : Thread Cert.Kernel5Ideal.nD Cert.Kernel5Ideal.τ).loc Cert.Kernel5Ideal.main_v64_1) = v1 c
          ∧ r.2.mem ((c.tc : Thread Cert.Kernel5Ideal.nD Cert.Kernel5Ideal.τ).loc Cert.Kernel5Ideal.main_v64_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v191) = v0 c
          ∧ r.2.mem ((c.tc : Thread Cert.Reference5Ideal.nD Cert.Reference5Ideal.τ).loc Cert.Reference5Ideal.main_v192) = v1 c
          ∧ r.2.mem ((c.tc : Thread Cert.Reference5Ideal.nD Cert.Reference5Ideal.τ).loc Cert.Reference5Ideal.main_v193) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hReference2 : Cert.Reference2.Facts) (hKernel3 : Cert.Kernel3.Facts) (hKernel3Ideal : Cert.Kernel3Ideal.Facts) (hReference3Ideal : Cert.Reference3Ideal.Facts) (hReference3 : Cert.Reference3.Facts) (hKernel4 : Cert.Kernel4.Facts) (hKernel4Ideal : Cert.Kernel4Ideal.Facts) (hReference4Ideal : Cert.Reference4Ideal.Facts) (hReference4 : Cert.Reference4.Facts) (hKernel5 : Cert.Kernel5.Facts) (hKernel5Ideal : Cert.Kernel5Ideal.Facts) (hReference5Ideal : Cert.Reference5Ideal.Facts) (hReference5 : Cert.Reference5.Facts) (hPre_finite_scores : Cert.Pre_finite_scores.Facts) (hPre_finite_conv : Cert.Pre_finite_conv.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Reference (hReference := hReference)
    ∧ quiescent_Kernel2 (hKernel2 := hKernel2)
    ∧ quiescent_Kernel2Ideal (hKernel2Ideal := hKernel2Ideal)
    ∧ quiescent_Reference2Ideal (hReference2Ideal := hReference2Ideal)
    ∧ quiescent_Reference2 (hReference2 := hReference2)
    ∧ quiescent_Kernel3 (hKernel3 := hKernel3)
    ∧ quiescent_Kernel3Ideal (hKernel3Ideal := hKernel3Ideal)
    ∧ quiescent_Reference3Ideal (hReference3Ideal := hReference3Ideal)
    ∧ quiescent_Reference3 (hReference3 := hReference3)
    ∧ quiescent_Kernel4 (hKernel4 := hKernel4)
    ∧ quiescent_Kernel4Ideal (hKernel4Ideal := hKernel4Ideal)
    ∧ quiescent_Kernel4Ideal_pre_finite_conv (hKernel4Ideal := hKernel4Ideal) (hPre_finite_conv := hPre_finite_conv)
    ∧ quiescent_Reference4Ideal (hReference4Ideal := hReference4Ideal)
    ∧ quiescent_Reference4Ideal_pre_finite_conv (hReference4Ideal := hReference4Ideal) (hPre_finite_conv := hPre_finite_conv)
    ∧ quiescent_Reference4 (hReference4 := hReference4)
    ∧ quiescent_Kernel5 (hKernel5 := hKernel5)
    ∧ quiescent_Kernel5Ideal (hKernel5Ideal := hKernel5Ideal)
    ∧ quiescent_Reference5Ideal (hReference5Ideal := hReference5Ideal)
    ∧ quiescent_Reference5 (hReference5 := hReference5)
    ∧ preserves_Kernel_KernelIdeal
    ∧ preserves_Reference_ReferenceIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ preserves_Reference2_Reference2Ideal
    ∧ algebraic_Kernel2Ideal_Reference2Ideal (hKernel2Ideal := hKernel2Ideal) (hReference2Ideal := hReference2Ideal)
    ∧ preserves_Kernel3_Kernel3Ideal
    ∧ preserves_Reference3_Reference3Ideal
    ∧ algebraic_Kernel3Ideal_Reference3Ideal (hKernel3Ideal := hKernel3Ideal) (hReference3Ideal := hReference3Ideal)
    ∧ preserves_Kernel4_Kernel4Ideal
    ∧ preserves_Reference4_Reference4Ideal
    ∧ algebraic_Kernel4Ideal_Reference4Ideal_pre_finite_conv (hKernel4Ideal := hKernel4Ideal) (hReference4Ideal := hReference4Ideal) (hPre_finite_conv := hPre_finite_conv)
    ∧ preserves_Kernel5_Kernel5Ideal
    ∧ preserves_Reference5_Reference5Ideal
    ∧ algebraic_Kernel5Ideal_Reference5Ideal (hKernel5Ideal := hKernel5Ideal) (hReference5Ideal := hReference5Ideal)
-- ==== Pre_finite_conv.lean ====
abbrev S65536x1024 : Shape := ⟨2, ![65536, 1024]⟩
abbrev S16x6x1024 : Shape := ⟨3, ![16, 6, 1024]⟩
abbrev S1024 : Shape := ⟨1, ![1024]⟩
abbrev S1024x3072 : Shape := ⟨2, ![1024, 3072]⟩
abbrev S3072 : Shape := ⟨1, ![3072]⟩
abbrev S3x3072 : Shape := ⟨2, ![3, 3072]⟩
abbrev S_ : Shape := ⟨0, ![]⟩

class Facts : Prop where
  bcast_S_S3072 : S_.BroadcastsInDim S3072 (![] : Fin 0 → Fin S3072.rank)
  bcast_S_S3x3072 : S_.BroadcastsInDim S3x3072 (![] : Fin 0 → Fin S3x3072.rank)

variable [Facts]

def fn {F : FTy → Type} [FloatOps F] (main_arg0 : FVec F S65536x1024 .f32) (main_arg1 : FVec F S16x6x1024 .f32) (main_arg2 : FVec F S1024 .f32) (main_arg3 : FVec F S1024x3072 .f32) (main_arg4 : FVec F S3072 .f32) (main_arg5 : FVec F S3x3072 .f32) (main_arg6 : FVec F S3072 .f32) : IVec S3072 1 × IVec S3x3072 1 :=
  let main_v0 : FVec F S3072 .f32 := Host.absf main_arg4
  let main_cst : FVec F S_ .f32 := constant S_ .f32 0x7F800000#32
  let main_v1 : FVec F S3072 .f32 := broadcastInDim S3072 ![] bcast_S_S3072 main_cst
  let main_v2 : IVec S3072 1 := cmpf .olt main_v0 main_v1
  let main_v3 : FVec F S3x3072 .f32 := Host.absf main_arg5
  let main_cst_0 : FVec F S_ .f32 := constant S_ .f32 0x7F800000#32
  let main_v4 : FVec F S3x3072 .f32 := broadcastInDim S3x3072 ![] bcast_S_S3x3072 main_cst_0
  let main_v5 : IVec S3x3072 1 := cmpf .olt main_v3 main_v4
  (main_v2, main_v5)
-- ==== Pre_finite_scores.lean ====
abbrev S65536x1024 : Shape := ⟨2, ![65536, 1024]⟩
abbrev S256x65536 : Shape := ⟨2, ![256, 65536]⟩
abbrev S65536x256 : Shape := ⟨2, ![65536, 256]⟩
abbrev S256x2048 : Shape := ⟨2, ![256, 2048]⟩
abbrev S2048x256 : Shape := ⟨2, ![2048, 256]⟩
abbrev S16 : Shape := ⟨1, ![16]⟩
abbrev S16x6x1024 : Shape := ⟨3, ![16, 6, 1024]⟩
abbrev S1024x1024 : Shape := ⟨2, ![1024, 1024]⟩
abbrev S1024 : Shape := ⟨1, ![1024]⟩
abbrev S_ : Shape := ⟨0, ![]⟩

class Facts : Prop where
  bitsLt_bf16_f32 : FTy.bits .bf16 < FTy.bits .f32
  bcast_S_S65536x1024 : S_.BroadcastsInDim S65536x1024 (![] : Fin 0 → Fin S65536x1024.rank)
  bcast_S_S256x65536 : S_.BroadcastsInDim S256x65536 (![] : Fin 0 → Fin S256x65536.rank)
  bcast_S_S256x2048 : S_.BroadcastsInDim S256x2048 (![] : Fin 0 → Fin S256x2048.rank)
  bcast_S_S16 : S_.BroadcastsInDim S16 (![] : Fin 0 → Fin S16.rank)

variable [Facts]

def fn {F : FTy → Type} [FloatOps F] (main_arg0 : FVec F S65536x1024 .f32) (main_arg1 : FVec F S65536x1024 .bf16) (main_arg2 : FVec F S256x65536 .bf16) (main_arg3 : FVec F S65536x256 .bf16) (main_arg4 : FVec F S256x2048 .bf16) (main_arg5 : FVec F S2048x256 .bf16) (main_arg6 : FVec F S16 .f32) (main_arg7 : FVec F S16x6x1024 .f32) (main_arg8 : FVec F S1024x1024 .f32) (main_arg9 : FVec F S1024 .f32) : IVec S65536x1024 1 × IVec S256x65536 1 × IVec S256x2048 1 × IVec S16 1 :=
  let main_v0 : FVec F S65536x1024 .f32 := (extf .f32 · bitsLt_bf16_f32) main_arg1
  let main_v1 : FVec F S65536x1024 .f32 := Host.absf main_v0
  let main_cst : FVec F S_ .f32 := constant S_ .f32 0x7F800000#32
  let main_v2 : FVec F S65536x1024 .f32 := broadcastInDim S65536x1024 ![] bcast_S_S65536x1024 main_cst
  let main_v3 : IVec S65536x1024 1 := cmpf .olt main_v1 main_v2
  let main_v4 : FVec F S256x65536 .f32 := (extf .f32 · bitsLt_bf16_f32) main_arg2
  let main_v5 : FVec F S256x65536 .f32 := Host.absf main_v4
  let main_cst_0 : FVec F S_ .f32 := constant S_ .f32 0x7F800000#32
  let main_v6 : FVec F S256x65536 .f32 := broadcastInDim S256x65536 ![] bcast_S_S256x65536 main_cst_0
  let main_v7 : IVec S256x65536 1 := cmpf .olt main_v5 main_v6
  let main_v8 : FVec F S256x2048 .f32 := (extf .f32 · bitsLt_bf16_f32) main_arg4
  let main_v9 : FVec F S256x2048 .f32 := Host.absf main_v8
  let main_cst_1 : FVec F S_ .f32 := constant S_ .f32 0x7F800000#32
  let main_v10 : FVec F S256x2048 .f32 := broadcastInDim S256x2048 ![] bcast_S_S256x2048 main_cst_1
  let main_v11 : IVec S256x2048 1 := cmpf .olt main_v9 main_v10
  let main_v12 : FVec F S16 .f32 := Host.absf main_arg6
  let main_cst_2 : FVec F S_ .f32 := constant S_ .f32 0x7F800000#32
  let main_v13 : FVec F S16 .f32 := broadcastInDim S16 ![] bcast_S_S16 main_cst_2
  let main_v14 : IVec S16 1 := cmpf .olt main_v12 main_v13
  (main_v3, main_v7, main_v11, main_v14)
-- ==== Kernel.lean ====
abbrev S65536x1024 : Shape := ⟨2, ![65536, 1024]⟩
abbrev S256x65536 : Shape := ⟨2, ![256, 65536]⟩
abbrev S65536x256 : Shape := ⟨2, ![65536, 256]⟩
abbrev S256x2048 : Shape := ⟨2, ![256, 2048]⟩
abbrev S2048x256 : Shape := ⟨2, ![2048, 256]⟩
abbrev S16 : Shape := ⟨1, ![16]⟩
abbrev S16x6x1024 : Shape := ⟨3, ![16, 6, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S256x128 : Shape := ⟨2, ![256, 128]⟩
abbrev S256x512 : Shape := ⟨2, ![256, 512]⟩
abbrev S256x256 : Shape := ⟨2, ![256, 256]⟩
abbrev S128x256 : Shape := ⟨2, ![128, 256]⟩
abbrev S512x256 : Shape := ⟨2, ![512, 256]⟩
abbrev S1x6x1024 : Shape := ⟨3, ![1, 6, 1024]⟩
abbrev S128x128 : Shape := ⟨2, ![128, 128]⟩
abbrev S64x768 : Shape := ⟨2, ![64, 768]⟩
abbrev S64x128 : Shape := ⟨2, ![64, 128]⟩
abbrev S64x512 : Shape := ⟨2, ![64, 512]⟩
abbrev S128x64 : Shape := ⟨2, ![128, 64]⟩
abbrev S512x64 : Shape := ⟨2, ![512, 64]⟩
abbrev S768x64 : Shape := ⟨2, ![768, 64]⟩
abbrev S64x256 : Shape := ⟨2, ![64, 256]⟩
abbrev S256x64 : Shape := ⟨2, ![256, 64]⟩
abbrev S128x768 : Shape := ⟨2, ![128, 768]⟩
abbrev S256x768 : Shape := ⟨2, ![256, 768]⟩
abbrev S128x640 : Shape := ⟨2, ![128, 640]⟩
abbrev S128 : Shape := ⟨1, ![128]⟩
abbrev S128x1 : Shape := ⟨2, ![128, 1]⟩
abbrev S1 : Shape := ⟨1, ![1]⟩
abbrev S128x384 : Shape := ⟨2, ![128, 384]⟩
abbrev S256x1 : Shape := ⟨2, ![256, 1]⟩
abbrev S1x1x1024 : Shape := ⟨3, ![1, 1, 1024]⟩

abbrev nBuf : Space → Nat
  | .hbm => 13
  | .vmem => 27
  | .smem => 1
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S256x65536, .bf16⟩
  | .hbm, ⟨3, _⟩ => ⟨S65536x256, .bf16⟩
  | .hbm, ⟨4, _⟩ => ⟨S256x2048, .bf16⟩
  | .hbm, ⟨5, _⟩ => ⟨S2048x256, .bf16⟩
  | .hbm, ⟨6, _⟩ => ⟨S16, .f32⟩
  | .hbm, ⟨7, _⟩ => ⟨S16x6x1024, .f32⟩
  | .hbm, ⟨8, _⟩ => ⟨S1024x1024, .f32⟩
  | .hbm, ⟨9, _⟩ => ⟨S1024, .f32⟩
  | .hbm, ⟨10, _⟩ => ⟨S1024x1024, .bf16⟩
  | .hbm, ⟨11, _⟩ => ⟨S1x1024, .f32⟩
  | .hbm, ⟨12, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S256x128, .bf16⟩
  | .local _ .vmem, ⟨5, _⟩ => ⟨S256x128, .bf16⟩
  | .local _ .vmem, ⟨6, _⟩ => ⟨S256x512, .bf16⟩
  | .local _ .vmem, ⟨7, _⟩ => ⟨S256x512, .bf16⟩
  | .local _ .vmem, ⟨8, _⟩ => ⟨S256x128, .bf16⟩
  | .local _ .vmem, ⟨9, _⟩ => ⟨S256x128, .bf16⟩
  | .local _ .vmem, ⟨10, _⟩ => ⟨S256x256, .bf16⟩
  | .local _ .vmem, ⟨11, _⟩ => ⟨S256x256, .bf16⟩
  | .local _ .vmem, ⟨12, _⟩ => ⟨S128x256, .bf16⟩
  | .local _ .vmem, ⟨13, _⟩ => ⟨S128x256, .bf16⟩
  | .local _ .vmem, ⟨14, _⟩ => ⟨S512x256, .bf16⟩
  | .local _ .vmem, ⟨15, _⟩ => ⟨S512x256, .bf16⟩
  | .local _ .vmem, ⟨16, _⟩ => ⟨S128x256, .bf16⟩
  | .local _ .vmem, ⟨17, _⟩ => ⟨S128x256, .bf16⟩
  | .local _ .vmem, ⟨18, _⟩ => ⟨S256x256, .bf16⟩
  | .local _ .vmem, ⟨19, _⟩ => ⟨S256x256, .bf16⟩
  | .local _ .vmem, ⟨20, _⟩ => ⟨S1x6x1024, .f32⟩
  | .local _ .vmem, ⟨21, _⟩ => ⟨S1x6x1024, .f32⟩
  | .local _ .vmem, ⟨22, _⟩ => ⟨S1024x1024, .bf16⟩
  | .local _ .vmem, ⟨23, _⟩ => ⟨S1x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .bf16⟩
  | .local _ .smem, ⟨0, _⟩ => ⟨S16, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_scratch0 : Ref sig .tc := ⟨.vmem, 26, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨2, ![8, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let v2 : BitVec 32 := Scalar.muli v1 c4_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![c0_i32_0.toNat, v4.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.addi v1 c1_i32
  let c4_i32 : BitVec 32 := 4#32
  let v3 : BitVec 32 := Scalar.muli v2 c4_i32
  let c511_i32 : BitVec 32 := 511#32
  let v4 : BitVec 32 := Scalar.minsi v3 c511_i32
  let c0_i32 : BitVec 32 := 0#32
  let c0_i32_0 : BitVec 32 := 0#32
  ![c0_i32.toNat, v4.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let v2 : BitVec 32 := Scalar.muli v1 c4_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.addi v1 c1_i32
  let c4_i32 : BitVec 32 := 4#32
  let v3 : BitVec 32 := Scalar.muli v2 c4_i32
  let c511_i32 : BitVec 32 := 511#32
  let v4 : BitVec 32 := Scalar.minsi v3 c511_i32
  let c0_i32 : BitVec 32 := 0#32
  let c0_i32_0 : BitVec 32 := 0#32
  ![v4.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x6x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== Reference.lean ====
abbrev S65536x1024 : Shape := ⟨2, ![65536, 1024]⟩
abbrev S256x65536 : Shape := ⟨2, ![256, 65536]⟩
abbrev S65536x256 : Shape := ⟨2, ![65536, 256]⟩
abbrev S256x2048 : Shape := ⟨2, ![256, 2048]⟩
abbrev S2048x256 : Shape := ⟨2, ![2048, 256]⟩
abbrev S16 : Shape := ⟨1, ![16]⟩
abbrev S16x6x1024 : Shape := ⟨3, ![16, 6, 1024]⟩
abbrev S1024x1024 : Shape := ⟨2, ![1024, 1024]⟩
abbrev S1024 : Shape := ⟨1, ![1024]⟩
abbrev S_ : Shape := ⟨0, ![]⟩
abbrev S8x8192x4x4x64 : Shape := ⟨5, ![8, 8192, 4, 4, 64]⟩
abbrev S8x8192x4x64 : Shape := ⟨4, ![8, 8192, 4, 64]⟩
abbrev S8x256x4x64 : Shape := ⟨4, ![8, 256, 4, 64]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x4x8192x8192x4 : Shape := ⟨5, ![8, 4, 8192, 8192, 4]⟩
abbrev S8x4x4x8192x8192 : Shape := ⟨5, ![8, 4, 4, 8192, 8192]⟩
abbrev S8x4x256x8192x4 : Shape := ⟨5, ![8, 4, 256, 8192, 4]⟩
abbrev S8x4x4x8192x256 : Shape := ⟨5, ![8, 4, 4, 8192, 256]⟩
abbrev S1x4x4x1x1 : Shape := ⟨5, ![1, 4, 4, 1, 1]⟩
abbrev S8x4x4x8192x1 : Shape := ⟨5, ![8, 4, 4, 8192, 1]⟩
abbrev S8x4x4x8192x8449 : Shape := ⟨5, ![8, 4, 4, 8192, 8449]⟩
abbrev S8x4x4x8192 : Shape := ⟨4, ![8, 4, 4, 8192]⟩
abbrev S8x4x64x4x8192 : Shape := ⟨5, ![8, 4, 64, 4, 8192]⟩
abbrev S8x8192x1024 : Shape := ⟨3, ![8, 8192, 1024]⟩
abbrev S1x1x1024 : Shape := ⟨3, ![1, 1, 1024]⟩
abbrev S8x1x1024 : Shape := ⟨3, ![8, 1, 1024]⟩
abbrev S8x1024 : Shape := ⟨2, ![8, 1024]⟩

abbrev nBuf : Space → Nat
  | .hbm => 84
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S256x65536, .bf16⟩
  | .hbm, ⟨3, _⟩ => ⟨S65536x256, .bf16⟩
  | .hbm, ⟨4, _⟩ => ⟨S256x2048, .bf16⟩
  | .hbm, ⟨5, _⟩ => ⟨S2048x256, .bf16⟩
  | .hbm, ⟨6, _⟩ => ⟨S16, .f32⟩
  | .hbm, ⟨7, _⟩ => ⟨S16x6x1024, .f32⟩
  | .hbm, ⟨8, _⟩ => ⟨S1024x1024, .f32⟩
  | .hbm, ⟨9, _⟩ => ⟨S1024, .f32⟩
  | .hbm, ⟨10, _⟩ => ⟨S_, .f32⟩
  | .hbm, ⟨11, _⟩ => ⟨S_, .f32⟩
  | .hbm, ⟨12, _⟩ => ⟨S65536x1024, .f32⟩
  | .hbm, ⟨13, _⟩ => ⟨S8x8192x4x4x64, .f32⟩
  | .hbm, ⟨14, _⟩ => ⟨S256x65536, .f32⟩
  | .hbm, ⟨15, _⟩ => ⟨S65536x256, .f32⟩
  | .hbm, ⟨16, _⟩ => ⟨S8x8192x4x64, .f32⟩
  | .hbm, ⟨17, _⟩ => ⟨S256x2048, .f32⟩
  | .hbm, ⟨18, _⟩ => ⟨S2048x256, .f32⟩
  | .hbm, ⟨19, _⟩ => ⟨S8x256x4x64, .f32⟩
  | .hbm, ⟨20, _⟩ => ⟨S65536x256, .f32⟩
  | .hbm, ⟨21, _⟩ => ⟨S8x8192x4x64, .f32⟩
  | .hbm, ⟨22, _⟩ => ⟨S2048x256, .f32⟩
  | .hbm, ⟨23, _⟩ => ⟨S8x256x4x64, .f32⟩
  | .hbm, ⟨24, _⟩ => ⟨S8192, .i32⟩
  | .hbm, ⟨25, _⟩ => ⟨S1x8192, .i32⟩
  | .hbm, ⟨26, _⟩ => ⟨S8192, .i32⟩
  | .hbm, ⟨27, _⟩ => ⟨S8192x1, .i32⟩
  | .hbm, ⟨28, _⟩ => ⟨S8192x8192, .i32⟩
  | .hbm, ⟨29, _⟩ => ⟨S8192x8192, .i32⟩
  | .hbm, ⟨30, _⟩ => ⟨S8192x8192, .i32⟩
  | .hbm, ⟨31, _⟩ => ⟨S8192x8192, .i32⟩
  | .hbm, ⟨32, _⟩ => ⟨S_, .i32⟩
  | .hbm, ⟨33, _⟩ => ⟨S8192x8192, .i32⟩
  | .hbm, ⟨34, _⟩ => ⟨S8192x8192, .i1⟩
  | .hbm, ⟨35, _⟩ => ⟨S8x4x8192x8192x4, .f32⟩
  | .hbm, ⟨36, _⟩ => ⟨S8x4x4x8192x8192, .f32⟩
  | .hbm, ⟨37, _⟩ => ⟨S8x4x4x8192x8192, .f32⟩
  | .hbm, ⟨38, _⟩ => ⟨S8x4x4x8192x8192, .f32⟩
  | .hbm, ⟨39, _⟩ => ⟨S_, .f32⟩
  | .hbm, ⟨40, _⟩ => ⟨S_, .f32⟩
  | .hbm, ⟨41, _⟩ => ⟨S8x4x4x8192x8192, .i1⟩
  | .hbm, ⟨42, _⟩ => ⟨S8x4x4x8192x8192, .f32⟩
  | .hbm, ⟨43, _⟩ => ⟨S8x4x4x8192x8192, .f32⟩
  | .hbm, ⟨44, _⟩ => ⟨S8x4x256x8192x4, .f32⟩
  | .hbm, ⟨45, _⟩ => ⟨S8x4x4x8192x256, .f32⟩
  | .hbm, ⟨46, _⟩ => ⟨S8x4x4x8192x256, .f32⟩
  | .hbm, ⟨47, _⟩ => ⟨S8x4x4x8192x256, .f32⟩
  | .hbm, ⟨48, _⟩ => ⟨S1x4x4x1x1, .f32⟩
  | .hbm, ⟨49, _⟩ => ⟨S8x4x4x8192x1, .f32⟩
  | .hbm, ⟨50, _⟩ => ⟨S8x4x4x8192x8449, .f32⟩
  | .hbm, ⟨51, _⟩ => ⟨S_, .f32⟩
  | .hbm, ⟨52, _⟩ => ⟨S8x4x4x8192, .f32⟩
  | .hbm, ⟨53, _⟩ => ⟨S_, .f32⟩
  | .hbm, ⟨54, _⟩ => ⟨S8x4x4x8192, .f32⟩
  | .hbm, ⟨55, _⟩ => ⟨S8x4x4x8192, .f32⟩
  | .hbm, ⟨56, _⟩ => ⟨S8x4x4x8192x1, .f32⟩
  | .hbm, ⟨57, _⟩ => ⟨S8x4x4x8192x8449, .f32⟩
  | .hbm, ⟨58, _⟩ => ⟨S8x4x4x8192x8449, .f32⟩
  | .hbm, ⟨59, _⟩ => ⟨S8x4x4x8192x8449, .f32⟩
  | .hbm, ⟨60, _⟩ => ⟨S_, .f32⟩
  | .hbm, ⟨61, _⟩ => ⟨S8x4x4x8192, .f32⟩
  | .hbm, ⟨62, _⟩ => ⟨S8x4x4x8192x1, .f32⟩
  | .hbm, ⟨63, _⟩ => ⟨S8x4x4x8192x8449, .f32⟩
  | .hbm, ⟨64, _⟩ => ⟨S8x4x4x8192x8449, .f32⟩
  | .hbm, ⟨65, _⟩ => ⟨S8x4x4x8192x8192, .f32⟩
  | .hbm, ⟨66, _⟩ => ⟨S8x4x64x4x8192, .f32⟩
  | .hbm, ⟨67, _⟩ => ⟨S8x8192x4x4x64, .f32⟩
  | .hbm, ⟨68, _⟩ => ⟨S8x4x4x8192x256, .f32⟩
  | .hbm, ⟨69, _⟩ => ⟨S8x4x64x4x8192, .f32⟩
  | .hbm, ⟨70, _⟩ => ⟨S8x8192x4x4x64, .f32⟩
  | .hbm, ⟨71, _⟩ => ⟨S8x8192x4x4x64, .f32⟩
  | .hbm, ⟨72, _⟩ => ⟨S8x8192x1024, .f32⟩
  | .hbm, ⟨73, _⟩ => ⟨S8x8192x1024, .f32⟩
  | .hbm, ⟨74, _⟩ => ⟨S1x1x1024, .f32⟩
  | .hbm, ⟨75, _⟩ => ⟨S8x8192x1024, .f32⟩
  | .hbm, ⟨76, _⟩ => ⟨S8x8192x1024, .f32⟩
  | .hbm, ⟨77, _⟩ => ⟨S8x1x1024, .f32⟩
  | .hbm, ⟨78, _⟩ => ⟨S8x1024, .f32⟩
  | .hbm, ⟨79, _⟩ => ⟨S8x1x1024, .f32⟩
  | .hbm, ⟨80, _⟩ => ⟨S8x8192x1024, .f32⟩
  | .hbm, ⟨81, _⟩ => ⟨S8x8192x1024, .f32⟩
  | .hbm, ⟨82, _⟩ => ⟨S65536x1024, .f32⟩
  | .hbm, ⟨83, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_0 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_1 : Ref sig .tc := ⟨.hbm, 51, rfl⟩
abbrev main_v35 : Ref sig .tc := ⟨.hbm, 52, rfl⟩
abbrev main_cst_2 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_3 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩

abbrev nD : Nat := 1
abbrev τ : Topo := Topo.v7x

variable {F : FTy → Type} [FloatOps F]
-- ==== Kernel2.lean ====
abbrev S65536x1024 : Shape := ⟨2, ![65536, 1024]⟩
abbrev S16x6x1024 : Shape := ⟨3, ![16, 6, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S1x6x1024 : Shape := ⟨3, ![1, 6, 1024]⟩
abbrev S1x1x1024 : Shape := ⟨3, ![1, 1, 1024]⟩
abbrev S1024x1 : Shape := ⟨2, ![1024, 1]⟩

abbrev nBuf : Space → Nat
  | .hbm => 9
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S16x6x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1024x4096, .bf16⟩
  | .hbm, ⟨6, _⟩ => ⟨S4096x1024, .bf16⟩
  | .hbm, ⟨7, _⟩ => ⟨S1x1024, .f32⟩
  | .hbm, ⟨8, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x4096, .bf16⟩
  | .local _ .vmem, ⟨6, _⟩ => ⟨S4096x1024, .bf16⟩
  | .local _ .vmem, ⟨7, _⟩ => ⟨S1024x1024, .f32⟩
  | .local _ .vmem, ⟨8, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2.lean ====
abbrev S65536x1024 : Shape := ⟨2, ![65536, 1024]⟩
abbrev S16x6x1024 : Shape := ⟨3, ![16, 6, 1024]⟩
abbrev S1024 : Shape := ⟨1, ![1024]⟩
abbrev S1024x4096 : Shape := ⟨2, ![1024, 4096]⟩
abbrev S4096x1024 : Shape := ⟨2, ![4096, 1024]⟩
abbrev S8x1x1024 : Shape := ⟨3, ![8, 1, 1024]⟩
abbrev S8x1024 : Shape := ⟨2, ![8, 1024]⟩
abbrev S8x8192x1024 : Shape := ⟨3, ![8, 8192, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x4096 : Shape := ⟨3, ![8, 8192, 4096]⟩

abbrev nBuf : Space → Nat
  | .hbm => 57
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S16x6x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S8x1x1024, .f32⟩
  | .hbm, ⟨6, _⟩ => ⟨S8x1024, .f32⟩
  | .hbm, ⟨7, _⟩ => ⟨S8x1x1024, .f32⟩
  | .hbm, ⟨8, _⟩ => ⟨S8x1x1024, .f32⟩
  | .hbm, ⟨9, _⟩ => ⟨S8x1024, .f32⟩
  | .hbm, ⟨10, _⟩ => ⟨S8x1x1024, .f32⟩
  | .hbm, ⟨11, _⟩ => ⟨S8x1x1024, .f32⟩
  | .hbm, ⟨12, _⟩ => ⟨S8x1024, .f32⟩
  | .hbm, ⟨13, _⟩ => ⟨S8x1x1024, .f32⟩
  | .hbm, ⟨14, _⟩ => ⟨S8x1x1024, .f32⟩
  | .hbm, ⟨15, _⟩ => ⟨S8x1024, .f32⟩
  | .hbm, ⟨16, _⟩ => ⟨S8x1x1024, .f32⟩
  | .hbm, ⟨17, _⟩ => ⟨S8x1x1024, .f32⟩
  | .hbm, ⟨18, _⟩ => ⟨S8x1024, .f32⟩
  | .hbm, ⟨19, _⟩ => ⟨S8x1x1024, .f32⟩
  | .hbm, ⟨20, _⟩ => ⟨S8x1x1024, .f32⟩
  | .hbm, ⟨21, _⟩ => ⟨S8x1024, .f32⟩
  | .hbm, ⟨22, _⟩ => ⟨S8x1x1024, .f32⟩
  | .hbm, ⟨23, _⟩ => ⟨S8x8192x1024, .f32⟩
  | .hbm, ⟨24, _⟩ => ⟨S8x8192x1024, .f32⟩
  | .hbm, ⟨25, _⟩ => ⟨S_, .f32⟩
  | .hbm, ⟨26, _⟩ => ⟨S8x8192, .f32⟩
  | .hbm, ⟨27, _⟩ => ⟨S8x8192x1, .f32⟩
  | .hbm, ⟨28, _⟩ => ⟨S_, .f32⟩
  | .hbm, ⟨29, _⟩ => ⟨S8x8192x1, .f32⟩
  | .hbm, ⟨30, _⟩ => ⟨S8x8192x1, .f32⟩
  | .hbm, ⟨31, _⟩ => ⟨S_, .f32⟩
  | .hbm, ⟨32, _⟩ => ⟨S8x8192x1, .f32⟩
  | .hbm, ⟨33, _⟩ => ⟨S8x8192x1, .f32⟩
  | .hbm, ⟨34, _⟩ => ⟨S8x8192x1, .f32⟩
  | .hbm, ⟨35, _⟩ => ⟨S8x8192x1024, .f32⟩
  | .hbm, ⟨36, _⟩ => ⟨S8x8192x1024, .f32⟩
  | .hbm, ⟨37, _⟩ => ⟨S1x1x1024, .f32⟩
  | .hbm, ⟨38, _⟩ => ⟨S8x8192x1024, .f32⟩
  | .hbm, ⟨39, _⟩ => ⟨S8x8192x1024, .f32⟩
  | .hbm, ⟨40, _⟩ => ⟨S_, .f32⟩
  | .hbm, ⟨41, _⟩ => ⟨S8x1x1024, .f32⟩
  | .hbm, ⟨42, _⟩ => ⟨S8x1x1024, .f32⟩
  | .hbm, ⟨43, _⟩ => ⟨S8x8192x1024, .f32⟩
  | .hbm, ⟨44, _⟩ => ⟨S8x8192x1024, .f32⟩
  | .hbm, ⟨45, _⟩ => ⟨S8x8192x1024, .f32⟩
  | .hbm, ⟨46, _⟩ => ⟨S8x8192x1024, .f32⟩
  | .hbm, ⟨47, _⟩ => ⟨S8x8192x4096, .f32⟩
  | .hbm, ⟨48, _⟩ => ⟨S_, .f32⟩
  | .hbm, ⟨49, _⟩ => ⟨S8x8192x4096, .f32⟩
  | .hbm, ⟨50, _⟩ => ⟨S8x8192x4096, .f32⟩
  | .hbm, ⟨51, _⟩ => ⟨S8x8192x4096, .f32⟩
  | .hbm, ⟨52, _⟩ => ⟨S8x8192x1024, .f32⟩
  | .hbm, ⟨53, _⟩ => ⟨S8x8192x1024, .f32⟩
  | .hbm, ⟨54, _⟩ => ⟨S8x8192x1024, .f32⟩
  | .hbm, ⟨55, _⟩ => ⟨S8x8192x1024, .f32⟩
  | .hbm, ⟨56, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_call0_cst : Ref sig .tc := ⟨.hbm, 48, rfl⟩
abbrev main_call0_v0 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩

abbrev nD : Nat := 1
abbrev τ : Topo := Topo.v7x

variable {F : FTy → Type} [FloatOps F]
-- ==== Kernel3.lean ====
abbrev S65536x1024 : Shape := ⟨2, ![65536, 1024]⟩
abbrev S16x6x1024 : Shape := ⟨3, ![16, 6, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S1x6x1024 : Shape := ⟨3, ![1, 6, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 18
  | .vmem => 18
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S65536x1024, .bf16⟩
  | .hbm, ⟨3, _⟩ => ⟨S65536x1024, .bf16⟩
  | .hbm, ⟨4, _⟩ => ⟨S16x6x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x4096, .f32⟩
  | .hbm, ⟨10, _⟩ => ⟨S4096x1024, .f32⟩
  | .hbm, ⟨11, _⟩ => ⟨S1024x1024, .bf16⟩
  | .hbm, ⟨12, _⟩ => ⟨S1024x4096, .bf16⟩
  | .hbm, ⟨13, _⟩ => ⟨S4096x1024, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x6x1024, .f32⟩
  | .local _ .vmem, ⟨9, _⟩ => ⟨S1x6x1024, .f32⟩
  | .local _ .vmem, ⟨10, _⟩ => ⟨S1x1024, .f32⟩
  | .local _ .vmem, ⟨11, _⟩ => ⟨S1024x1024, .bf16⟩
  | .local _ .vmem, ⟨12, _⟩ => ⟨S1x1024, .f32⟩
  | .local _ .vmem, ⟨13, _⟩ => ⟨S1x1024, .f32⟩
  | .local _ .vmem, ⟨14, _⟩ => ⟨S1024x4096, .bf16⟩
  | .local _ .vmem, ⟨15, _⟩ => ⟨S4096x1024, .bf16⟩
  | .local _ .vmem, ⟨16, _⟩ => ⟨S512x1024, .f32⟩
  | .local _ .vmem, ⟨17, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3.lean ====
abbrev S65536x1024 : Shape := ⟨2, ![65536, 1024]⟩
abbrev S16x6x1024 : Shape := ⟨3, ![16, 6, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S8x1x1024 : Shape := ⟨3, ![8, 1, 1024]⟩
abbrev S8x1024 : Shape := ⟨2, ![8, 1024]⟩
abbrev S8x8192x1024 : Shape := ⟨3, ![8, 8192, 1024]⟩
abbrev S1x1x1024 : Shape := ⟨3, ![1, 1, 1024]⟩
abbrev S_ : Shape := ⟨0, ![]⟩
abbrev S8x8192 : Shape := ⟨2, ![8, 8192]⟩
abbrev S8x8192x1 : Shape := ⟨3, ![8, 8192, 1]⟩
abbrev S8x8192x4096 : Shape := ⟨3, ![8, 8192, 4096]⟩

abbrev nBuf : Space → Nat
  | .hbm => 81
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S65536x1024, .bf16⟩
  | .hbm, ⟨3, _⟩ => ⟨S65536x1024, .bf16⟩
  | .hbm, ⟨4, _⟩ => ⟨S16x6x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x4096, .f32⟩
  | .hbm, ⟨10, _⟩ => ⟨S4096x1024, .f32⟩
  | .hbm, ⟨11, _⟩ => ⟨S8x1x1024, .f32⟩
  | .hbm, ⟨12, _⟩ => ⟨S8x1024, .f32⟩
  | .hbm, ⟨13, _⟩ => ⟨S8x1x1024, .f32⟩
  | .hbm, ⟨14, _⟩ => ⟨S8x1x1024, .f32⟩
  | .hbm, ⟨15, _⟩ => ⟨S8x1024, .f32⟩
  | .hbm, ⟨16, _⟩ => ⟨S8x1x1024, .f32⟩
  | .hbm, ⟨17, _⟩ => ⟨S8x1x1024, .f32⟩
  | .hbm, ⟨18, _⟩ => ⟨S8x1024, .f32⟩
  | .hbm, ⟨19, _⟩ => ⟨S8x1x1024, .f32⟩
  | .hbm, ⟨20, _⟩ => ⟨S8x1x1024, .f32⟩
  | .hbm, ⟨21, _⟩ => ⟨S8x1024, .f32⟩
  | .hbm, ⟨22, _⟩ => ⟨S8x1x1024, .f32⟩
  | .hbm, ⟨23, _⟩ => ⟨S8x1x1024, .f32⟩
  | .hbm, ⟨24, _⟩ => ⟨S8x1024, .f32⟩
  | .hbm, ⟨25, _⟩ => ⟨S8x1x1024, .f32⟩
  | .hbm, ⟨26, _⟩ => ⟨S8x1x1024, .f32⟩
  | .hbm, ⟨27, _⟩ => ⟨S8x1024, .f32⟩
  | .hbm, ⟨28, _⟩ => ⟨S8x1x1024, .f32⟩
  | .hbm, ⟨29, _⟩ => ⟨S8x8192x1024, .f32⟩
  | .hbm, ⟨30, _⟩ => ⟨S65536x1024, .f32⟩
  | .hbm, ⟨31, _⟩ => ⟨S8x8192x1024, .f32⟩
  | .hbm, ⟨32, _⟩ => ⟨S65536x1024, .f32⟩
  | .hbm, ⟨33, _⟩ => ⟨S8x8192x1024, .f32⟩
  | .hbm, ⟨34, _⟩ => ⟨S65536x1024, .f32⟩
  | .hbm, ⟨35, _⟩ => ⟨S8x8192x1024, .f32⟩
  | .hbm, ⟨36, _⟩ => ⟨S1x1x1024, .f32⟩
  | .hbm, ⟨37, _⟩ => ⟨S8x8192x1024, .f32⟩
  | .hbm, ⟨38, _⟩ => ⟨S8x8192x1024, .f32⟩
  | .hbm, ⟨39, _⟩ => ⟨S8x8192x1024, .f32⟩
  | .hbm, ⟨40, _⟩ => ⟨S8x8192x1024, .f32⟩
  | .hbm, ⟨41, _⟩ => ⟨S8x8192x1024, .f32⟩
  | .hbm, ⟨42, _⟩ => ⟨S1x1x1024, .f32⟩
  | .hbm, ⟨43, _⟩ => ⟨S8x8192x1024, .f32⟩
  | .hbm, ⟨44, _⟩ => ⟨S8x8192x1024, .f32⟩
  | .hbm, ⟨45, _⟩ => ⟨S8x8192x1024, .f32⟩
  | .hbm, ⟨46, _⟩ => ⟨S8x8192x1024, .f32⟩
  | .hbm, ⟨47, _⟩ => ⟨S8x8192x1024, .f32⟩
  | .hbm, ⟨48, _⟩ => ⟨S8x8192x1024, .f32⟩
  | .hbm, ⟨49, _⟩ => ⟨S_, .f32⟩
  | .hbm, ⟨50, _⟩ => ⟨S8x8192, .f32⟩
  | .hbm, ⟨51, _⟩ => ⟨S8x8192x1, .f32⟩
  | .hbm, ⟨52, _⟩ => ⟨S_, .f32⟩
  | .hbm, ⟨53, _⟩ => ⟨S8x8192x1, .f32⟩
  | .hbm, ⟨54, _⟩ => ⟨S8x8192x1, .f32⟩
  | .hbm, ⟨55, _⟩ => ⟨S_, .f32⟩
  | .hbm, ⟨56, _⟩ => ⟨S8x8192x1, .f32⟩
  | .hbm, ⟨57, _⟩ => ⟨S8x8192x1, .f32⟩
  | .hbm, ⟨58, _⟩ => ⟨S8x8192x1, .f32⟩
  | .hbm, ⟨59, _⟩ => ⟨S8x8192x1024, .f32⟩
  | .hbm, ⟨60, _⟩ => ⟨S8x8192x1024, .f32⟩
  | .hbm, ⟨61, _⟩ => ⟨S1x1x1024, .f32⟩
  | .hbm, ⟨62, _⟩ => ⟨S8x8192x1024, .f32⟩
  | .hbm, ⟨63, _⟩ => ⟨S8x8192x1024, .f32⟩
  | .hbm, ⟨64, _⟩ => ⟨S_, .f32⟩
  | .hbm, ⟨65, _⟩ => ⟨S8x1x1024, .f32⟩
  | .hbm, ⟨66, _⟩ => ⟨S8x1x1024, .f32⟩
  | .hbm, ⟨67, _⟩ => ⟨S8x8192x1024, .f32⟩
  | .hbm, ⟨68, _⟩ => ⟨S8x8192x1024, .f32⟩
  | .hbm, ⟨69, _⟩ => ⟨S8x8192x1024, .f32⟩
  | .hbm, ⟨70, _⟩ => ⟨S8x8192x1024, .f32⟩
  | .hbm, ⟨71, _⟩ => ⟨S8x8192x4096, .f32⟩
  | .hbm, ⟨72, _⟩ => ⟨S_, .f32⟩
  | .hbm, ⟨73, _⟩ => ⟨S8x8192x4096, .f32⟩
  | .hbm, ⟨74, _⟩ => ⟨S8x8192x4096, .f32⟩
  | .hbm, ⟨75, _⟩ => ⟨S8x8192x4096, .f32⟩
  | .hbm, ⟨76, _⟩ => ⟨S8x8192x1024, .f32⟩
  | .hbm, ⟨77, _⟩ => ⟨S8x8192x1024, .f32⟩
  | .hbm, ⟨78, _⟩ => ⟨S8x8192x1024, .f32⟩
  | .hbm, ⟨79, _⟩ => ⟨S8x8192x1024, .f32⟩
  | .hbm, ⟨80, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst : Ref sig .tc := ⟨.hbm, 49, rfl⟩
abbrev main_v38 : Ref sig .tc := ⟨.hbm, 50, rfl⟩
abbrev main_v39 : Ref sig .tc := ⟨.hbm, 51, rfl⟩
abbrev main_cst_0 : Ref sig .tc := ⟨.hbm, 52, rfl⟩
abbrev main_v40 : Ref sig .tc := ⟨.hbm, 53, rfl⟩
abbrev main_v41 : Ref sig .tc := ⟨.hbm, 54, rfl⟩
abbrev main_cst_1 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_2 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_call0_cst : Ref sig .tc := ⟨.hbm, 72, rfl⟩
abbrev main_call0_v0 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩

abbrev nD : Nat := 1
abbrev τ : Topo := Topo.v7x

variable {F : FTy → Type} [FloatOps F]
-- ==== Kernel4.lean ====
abbrev S65536x1024 : Shape := ⟨2, ![65536, 1024]⟩
abbrev S16x6x1024 : Shape := ⟨3, ![16, 6, 1024]⟩
abbrev S1024 : Shape := ⟨1, ![1024]⟩
abbrev S1024x3072 : Shape := ⟨2, ![1024, 3072]⟩
abbrev S3072 : Shape := ⟨1, ![3072]⟩
abbrev S3x3072 : Shape := ⟨2, ![3, 3072]⟩
abbrev S1x1024 : Shape := ⟨2, ![1, 1024]⟩
abbrev S1x3072 : Shape := ⟨2, ![1, 3072]⟩
abbrev S512x1024 : Shape := ⟨2, ![512, 1024]⟩
abbrev S16x1024 : Shape := ⟨2, ![16, 1024]⟩
abbrev S1x6x1024 : Shape := ⟨3, ![1, 6, 1024]⟩
abbrev S544x256 : Shape := ⟨2, ![544, 256]⟩
abbrev S1x1x1024 : Shape := ⟨3, ![1, 1, 1024]⟩
abbrev S16 : Shape := ⟨1, ![16]⟩
abbrev S16x1 : Shape := ⟨2, ![16, 1]⟩
abbrev S512 : Shape := ⟨1, ![512]⟩
abbrev S512x1 : Shape := ⟨2, ![512, 1]⟩
abbrev S544x1024 : Shape := ⟨2, ![544, 1024]⟩
abbrev S16x256 : Shape := ⟨2, ![16, 256]⟩
abbrev S1x256 : Shape := ⟨2, ![1, 256]⟩
abbrev S1024x256 : Shape := ⟨2, ![1024, 256]⟩
abbrev S512x256 : Shape := ⟨2, ![512, 256]⟩

abbrev nBuf : Space → Nat
  | .hbm => 13
  | .vmem => 20
  | .smem => 0
  | _ => 0

abbrev bufTy : (tb : Table) → Fin (tcTables nBuf tb) → BufTy
  | .hbm, ⟨0, _⟩ => ⟨S65536x1024, .f32⟩
  | .hbm, ⟨1, _⟩ => ⟨S16x6x1024, .f32⟩
  | .hbm, ⟨2, _⟩ => ⟨S1024, .f32⟩
  | .hbm, ⟨3, _⟩ => ⟨S1024x3072, .f32⟩
  | .hbm, ⟨4, _⟩ => ⟨S3072, .f32⟩
  | .hbm, ⟨5, _⟩ => ⟨S3x3072, .f32⟩
  | .hbm, ⟨6, _⟩ => ⟨S3072, .f32⟩
  | .hbm, ⟨7, _⟩ => ⟨S1024x3072, .bf16⟩
  | .hbm, ⟨8, _⟩ => ⟨S1x1024, .f32⟩
  | .hbm, ⟨9, _⟩ => ⟨S1x3072, .f32⟩
  | .hbm, ⟨10, _⟩ => ⟨S1x3072, .f32⟩
  | .hbm, ⟨11, _⟩ => ⟨S65536x1024, .bf16⟩
  | .hbm, ⟨12, _⟩ => ⟨S65536x1024, .bf16⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1024x3072, .bf16⟩
  | .local _ .vmem, ⟨10, _⟩ => ⟨S1x3072, .f32⟩
  | .local _ .vmem, ⟨11, _⟩ => ⟨S3x3072, .f32⟩
  | .local _ .vmem, ⟨12, _⟩ => ⟨S1x3072, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S544x256, .f32⟩
  | .local _ .vmem, ⟨18, _⟩ => ⟨S544x256, .f32⟩
  | .local _ .vmem, ⟨19, _⟩ => ⟨S544x256, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4.lean ====
abbrev S65536x1024 : Shape := ⟨2, ![65536, 1024]⟩
abbrev S16x6x1024 : Shape := ⟨3, ![16, 6, 1024]⟩
abbrev S1024 : Shape := ⟨1, ![1024]⟩
abbrev S1024x3072 : Shape := ⟨2, ![1024, 3072]⟩
abbrev S3072 : Shape := ⟨1, ![3072]⟩
abbrev S3x3072 : Shape := ⟨2, ![3, 3072]⟩
abbrev S8x8192x1024 : Shape := ⟨3, ![8, 8192, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x1x1024 : Shape := ⟨3, ![8, 1, 1024]⟩
abbrev S8x1024 : Shape := ⟨2, ![8, 1024]⟩
abbrev S8x8192x3072 : Shape := ⟨3, ![8, 8192, 3072]⟩
abbrev S1x1x3072 : Shape := ⟨3, ![1, 1, 3072]⟩
abbrev S8x8194x3072 : Shape := ⟨3, ![8, 8194, 3072]⟩
abbrev S1x3072 : Shape := ⟨2, ![1, 3072]⟩

abbrev nBuf : Space → Nat
  | .hbm => 75
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S16x6x1024, .f32⟩
  | .hbm, ⟨2, _⟩ => ⟨S1024, .f32⟩
  | .hbm, ⟨3, _⟩ => ⟨S1024x3072, .f32⟩
  | .hbm, ⟨4, _⟩ => ⟨S3072, .f32⟩
  | .hbm, ⟨5, _⟩ => ⟨S3x3072, .f32⟩
  | .hbm, ⟨6, _⟩ => ⟨S3072, .f32⟩
  | .hbm, ⟨7, _⟩ => ⟨S8x8192x1024, .f32⟩
  | .hbm, ⟨8, _⟩ => ⟨S8x8192x1024, .f32⟩
  | .hbm, ⟨9, _⟩ => ⟨S_, .f32⟩
  | .hbm, ⟨10, _⟩ => ⟨S8x8192, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S_, .f32⟩
  | .hbm, ⟨16, _⟩ => ⟨S8x8192x1, .f32⟩
  | .hbm, ⟨17, _⟩ => ⟨S8x8192x1, .f32⟩
  | .hbm, ⟨18, _⟩ => ⟨S8x8192x1, .f32⟩
  | .hbm, ⟨19, _⟩ => ⟨S8x8192x1024, .f32⟩
  | .hbm, ⟨20, _⟩ => ⟨S8x8192x1024, .f32⟩
  | .hbm, ⟨21, _⟩ => ⟨S1x1x1024, .f32⟩
  | .hbm, ⟨22, _⟩ => ⟨S8x8192x1024, .f32⟩
  | .hbm, ⟨23, _⟩ => ⟨S8x8192x1024, .f32⟩
  | .hbm, ⟨24, _⟩ => ⟨S8x1x1024, .f32⟩
  | .hbm, ⟨25, _⟩ => ⟨S8x1024, .f32⟩
  | .hbm, ⟨26, _⟩ => ⟨S8x1x1024, .f32⟩
  | .hbm, ⟨27, _⟩ => ⟨S_, .f32⟩
  | .hbm, ⟨28, _⟩ => ⟨S8x1x1024, .f32⟩
  | .hbm, ⟨29, _⟩ => ⟨S8x1x1024, .f32⟩
  | .hbm, ⟨30, _⟩ => ⟨S8x8192x1024, .f32⟩
  | .hbm, ⟨31, _⟩ => ⟨S8x8192x1024, .f32⟩
  | .hbm, ⟨32, _⟩ => ⟨S8x1x1024, .f32⟩
  | .hbm, ⟨33, _⟩ => ⟨S8x1024, .f32⟩
  | .hbm, ⟨34, _⟩ => ⟨S8x1x1024, .f32⟩
  | .hbm, ⟨35, _⟩ => ⟨S8x8192x1024, .f32⟩
  | .hbm, ⟨36, _⟩ => ⟨S8x8192x1024, .f32⟩
  | .hbm, ⟨37, _⟩ => ⟨S8x8192x3072, .f32⟩
  | .hbm, ⟨38, _⟩ => ⟨S1x1x3072, .f32⟩
  | .hbm, ⟨39, _⟩ => ⟨S8x8192x3072, .f32⟩
  | .hbm, ⟨40, _⟩ => ⟨S8x8192x3072, .f32⟩
  | .hbm, ⟨41, _⟩ => ⟨S_, .i32⟩
  | .hbm, ⟨42, _⟩ => ⟨S_, .f32⟩
  | .hbm, ⟨43, _⟩ => ⟨S8x8194x3072, .f32⟩
  | .hbm, ⟨44, _⟩ => ⟨S8x8192x3072, .f32⟩
  | .hbm, ⟨45, _⟩ => ⟨S1x3072, .f32⟩
  | .hbm, ⟨46, _⟩ => ⟨S3072, .f32⟩
  | .hbm, ⟨47, _⟩ => ⟨S1x1x3072, .f32⟩
  | .hbm, ⟨48, _⟩ => ⟨S8x8192x3072, .f32⟩
  | .hbm, ⟨49, _⟩ => ⟨S8x8192x3072, .f32⟩
  | .hbm, ⟨50, _⟩ => ⟨S1x1x3072, .f32⟩
  | .hbm, ⟨51, _⟩ => ⟨S8x8192x3072, .f32⟩
  | .hbm, ⟨52, _⟩ => ⟨S8x8192x3072, .f32⟩
  | .hbm, ⟨53, _⟩ => ⟨S8x8192x3072, .f32⟩
  | .hbm, ⟨54, _⟩ => ⟨S1x3072, .f32⟩
  | .hbm, ⟨55, _⟩ => ⟨S3072, .f32⟩
  | .hbm, ⟨56, _⟩ => ⟨S1x1x3072, .f32⟩
  | .hbm, ⟨57, _⟩ => ⟨S8x8192x3072, .f32⟩
  | .hbm, ⟨58, _⟩ => ⟨S8x8192x3072, .f32⟩
  | .hbm, ⟨59, _⟩ => ⟨S8x8192x3072, .f32⟩
  | .hbm, ⟨60, _⟩ => ⟨S8x8192x3072, .f32⟩
  | .hbm, ⟨61, _⟩ => ⟨S1x3072, .f32⟩
  | .hbm, ⟨62, _⟩ => ⟨S3072, .f32⟩
  | .hbm, ⟨63, _⟩ => ⟨S1x1x3072, .f32⟩
  | .hbm, ⟨64, _⟩ => ⟨S8x8192x3072, .f32⟩
  | .hbm, ⟨65, _⟩ => ⟨S8x8192x3072, .f32⟩
  | .hbm, ⟨66, _⟩ => ⟨S8x8192x3072, .f32⟩
  | .hbm, ⟨67, _⟩ => ⟨S8x8192x1024, .f32⟩
  | .hbm, ⟨68, _⟩ => ⟨S8x8192x1024, .f32⟩
  | .hbm, ⟨69, _⟩ => ⟨S8x8192x1024, .f32⟩
  | .hbm, ⟨70, _⟩ => ⟨S8x8192x1024, .f32⟩
  | .hbm, ⟨71, _⟩ => ⟨S65536x1024, .f32⟩
  | .hbm, ⟨72, _⟩ => ⟨S65536x1024, .bf16⟩
  | .hbm, ⟨73, _⟩ => ⟨S65536x1024, .f32⟩
  | .hbm, ⟨74, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c : Ref sig .tc := ⟨.hbm, 41, rfl⟩
abbrev main_call0_v0 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩

abbrev nD : Nat := 1
abbrev τ : Topo := Topo.v7x

variable {F : FTy → Type} [FloatOps F]
-- ==== Kernel5.lean ====
abbrev S65536x1024 : Shape := ⟨2, ![65536, 1024]⟩
abbrev S16x6x1024 : Shape := ⟨3, ![16, 6, 1024]⟩
abbrev S1024 : Shape := ⟨1, ![1024]⟩
abbrev S1024x1536 : Shape := ⟨2, ![1024, 1536]⟩
abbrev S1536 : Shape := ⟨1, ![1536]⟩
abbrev S64 : Shape := ⟨1, ![64]⟩
abbrev S128 : Shape := ⟨1, ![128]⟩
abbrev S128x64 : Shape := ⟨2, ![128, 64]⟩
abbrev S8192 : Shape := ⟨1, ![8192]⟩
abbrev S1x64 : Shape := ⟨2, ![1, 64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S4 : Shape := ⟨1, ![4]⟩
abbrev S4x64 : Shape := ⟨2, ![4, 64]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x1024 : Shape := ⟨2, ![1, 1024]⟩
abbrev S1x1536 : Shape := ⟨2, ![1, 1536]⟩
abbrev S16x64 : Shape := ⟨2, ![16, 64]⟩
abbrev S256x65536 : Shape := ⟨2, ![256, 65536]⟩
abbrev S65536x256 : Shape := ⟨2, ![65536, 256]⟩
abbrev S1024x1024 : Shape := ⟨2, ![1024, 1024]⟩
abbrev S1x6x1024 : Shape := ⟨3, ![1, 6, 1024]⟩
abbrev S1024x128 : Shape := ⟨2, ![1024, 128]⟩
abbrev S256x1024 : Shape := ⟨2, ![256, 1024]⟩
abbrev S1024x256 : Shape := ⟨2, ![1024, 256]⟩
abbrev S1x1x1024 : Shape := ⟨3, ![1, 1, 1024]⟩
abbrev S1024x1 : Shape := ⟨2, ![1024, 1]⟩

abbrev nBuf : Space → Nat
  | .hbm => 78
  | .vmem => 20
  | .smem => 0
  | _ => 0

abbrev bufTy : (tb : Table) → Fin (tcTables nBuf tb) → BufTy
  | .hbm, ⟨0, _⟩ => ⟨S65536x1024, .f32⟩
  | .hbm, ⟨1, _⟩ => ⟨S16x6x1024, .f32⟩
  | .hbm, ⟨2, _⟩ => ⟨S1024, .f32⟩
  | .hbm, ⟨3, _⟩ => ⟨S1024x1536, .f32⟩
  | .hbm, ⟨4, _⟩ => ⟨S1536, .f32⟩
  | .hbm, ⟨5, _⟩ => ⟨S64, .f32⟩
  | .hbm, ⟨6, _⟩ => ⟨S64, .f32⟩
  | .hbm, ⟨7, _⟩ => ⟨S1024x1536, .bf16⟩
  | .hbm, ⟨8, _⟩ => ⟨S128, .f32⟩
  | .hbm, ⟨9, _⟩ => ⟨S128x64, .f32⟩
  | .hbm, ⟨10, _⟩ => ⟨S8192, .f32⟩
  | .hbm, ⟨11, _⟩ => ⟨S64, .f32⟩
  | .hbm, ⟨12, _⟩ => ⟨S1x64, .f32⟩
  | .hbm, ⟨13, _⟩ => ⟨S128x64, .f32⟩
  | .hbm, ⟨14, _⟩ => ⟨S8192, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S8192x1, .f32⟩
  | .hbm, ⟨24, _⟩ => ⟨S1x16, .f32⟩
  | .hbm, ⟨25, _⟩ => ⟨S8192x16, .f32⟩
  | .hbm, ⟨26, _⟩ => ⟨S8192x16, .f32⟩
  | .hbm, ⟨27, _⟩ => ⟨S8192x16, .f32⟩
  | .hbm, ⟨28, _⟩ => ⟨S8192x1, .f32⟩
  | .hbm, ⟨29, _⟩ => ⟨S1x16, .f32⟩
  | .hbm, ⟨30, _⟩ => ⟨S8192x16, .f32⟩
  | .hbm, ⟨31, _⟩ => ⟨S8192x16, .f32⟩
  | .hbm, ⟨32, _⟩ => ⟨S8192x16, .f32⟩
  | .hbm, ⟨33, _⟩ => ⟨S8192x16, .f32⟩
  | .hbm, ⟨34, _⟩ => ⟨S8192x16, .f32⟩
  | .hbm, ⟨35, _⟩ => ⟨S8192x16, .f32⟩
  | .hbm, ⟨36, _⟩ => ⟨S8192x16, .f32⟩
  | .hbm, ⟨37, _⟩ => ⟨S8192x64, .f32⟩
  | .hbm, ⟨38, _⟩ => ⟨S8192x16, .f32⟩
  | .hbm, ⟨39, _⟩ => ⟨S8192x16, .f32⟩
  | .hbm, ⟨40, _⟩ => ⟨S8192x16, .f32⟩
  | .hbm, ⟨41, _⟩ => ⟨S8192x16, .f32⟩
  | .hbm, ⟨42, _⟩ => ⟨S8192x16, .f32⟩
  | .hbm, ⟨43, _⟩ => ⟨S8192x16, .f32⟩
  | .hbm, ⟨44, _⟩ => ⟨S8192x64, .f32⟩
  | .hbm, ⟨45, _⟩ => ⟨S1x8192x1x64, .f32⟩
  | .hbm, ⟨46, _⟩ => ⟨S1x8192x2x64, .f32⟩
  | .hbm, ⟨47, _⟩ => ⟨S8192x128, .f32⟩
  | .hbm, ⟨48, _⟩ => ⟨S1x8192x1x64, .f32⟩
  | .hbm, ⟨49, _⟩ => ⟨S1x8192x2x64, .f32⟩
  | .hbm, ⟨50, _⟩ => ⟨S8192x128, .f32⟩
  | .hbm, ⟨51, _⟩ => ⟨S4, .i32⟩
  | .hbm, ⟨52, _⟩ => ⟨S4x64, .i32⟩
  | .hbm, ⟨53, _⟩ => ⟨S256, .i32⟩
  | .hbm, ⟨54, _⟩ => ⟨S256x1, .i32⟩
  | .hbm, ⟨55, _⟩ => ⟨S1x256, .i32⟩
  | .hbm, ⟨56, _⟩ => ⟨S256x256, .i32⟩
  | .hbm, ⟨57, _⟩ => ⟨S256x256, .i32⟩
  | .hbm, ⟨58, _⟩ => ⟨S256x256, .i1⟩
  | .hbm, ⟨59, _⟩ => ⟨S_, .f32⟩
  | .hbm, ⟨60, _⟩ => ⟨S256x256, .f32⟩
  | .hbm, ⟨61, _⟩ => ⟨S_, .f32⟩
  | .hbm, ⟨62, _⟩ => ⟨S256x256, .f32⟩
  | .hbm, ⟨63, _⟩ => ⟨S256x256, .f32⟩
  | .hbm, ⟨64, _⟩ => ⟨S1x1024, .f32⟩
  | .hbm, ⟨65, _⟩ => ⟨S1x1536, .f32⟩
  | .hbm, ⟨66, _⟩ => ⟨S256x256, .bf16⟩
  | .hbm, ⟨67, _⟩ => ⟨S1x64, .f32⟩
  | .hbm, ⟨68, _⟩ => ⟨S16x64, .f32⟩
  | .hbm, ⟨69, _⟩ => ⟨S1024, .f32⟩
  | .hbm, ⟨70, _⟩ => ⟨S1x1024, .f32⟩
  | .hbm, ⟨71, _⟩ => ⟨S1x64, .f32⟩
  | .hbm, ⟨72, _⟩ => ⟨S4x64, .f32⟩
  | .hbm, ⟨73, _⟩ => ⟨S256, .f32⟩
  | .hbm, ⟨74, _⟩ => ⟨S1x256, .f32⟩
  | .hbm, ⟨75, _⟩ => ⟨S65536x1024, .bf16⟩
  | .hbm, ⟨76, _⟩ => ⟨S256x65536, .bf16⟩
  | .hbm, ⟨77, _⟩ => ⟨S65536x256, .bf16⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x1536, .bf16⟩
  | .local _ .vmem, ⟨6, _⟩ => ⟨S1x1536, .f32⟩
  | .local _ .vmem, ⟨7, _⟩ => ⟨S256x256, .bf16⟩
  | .local _ .vmem, ⟨8, _⟩ => ⟨S1x1024, .f32⟩
  | .local _ .vmem, ⟨9, _⟩ => ⟨S1x256, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x1024, .bf16⟩
  | .local _ .vmem, ⟨15, _⟩ => ⟨S1024x1024, .bf16⟩
  | .local _ .vmem, ⟨16, _⟩ => ⟨S256x1024, .bf16⟩
  | .local _ .vmem, ⟨17, _⟩ => ⟨S256x1024, .bf16⟩
  | .local _ .vmem, ⟨18, _⟩ => ⟨S1024x256, .bf16⟩
  | .local _ .vmem, ⟨19, _⟩ => ⟨S1024x256, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_cst_1 : Ref sig .tc := ⟨.hbm, 59, rfl⟩
abbrev main_v50 : Ref sig .tc := ⟨.hbm, 60, rfl⟩
abbrev main_cst_2 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64_0 : Ref sig .tc := ⟨.hbm, 75, rfl⟩
abbrev main_v64_1 : Ref sig .tc := ⟨.hbm, 76, rfl⟩
abbrev main_v64_2 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Kernel5Ideal.lean ====
variable {F : FTy → Type} [FloatOps F] [Named F]
def κ : String → Option EReal := fun
  | "qscale" => some (((Real.log 256)⁻¹ : ℝ) : EReal)
  | _ => none
-- ==== Reference5.lean ====
abbrev S65536x1024 : Shape := ⟨2, ![65536, 1024]⟩
abbrev S16x6x1024 : Shape := ⟨3, ![16, 6, 1024]⟩
abbrev S1024 : Shape := ⟨1, ![1024]⟩
abbrev S1024x1536 : Shape := ⟨2, ![1024, 1536]⟩
abbrev S1536 : Shape := ⟨1, ![1536]⟩
abbrev S64 : Shape := ⟨1, ![64]⟩
abbrev S8x8192x1024 : Shape := ⟨3, ![8, 8192, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x1x1024 : Shape := ⟨3, ![8, 1, 1024]⟩
abbrev S8x1024 : Shape := ⟨2, ![8, 1024]⟩
abbrev S8x8192x1536 : Shape := ⟨3, ![8, 8192, 1536]⟩
abbrev S1x1x1536 : Shape := ⟨3, ![1, 1, 1536]⟩
abbrev S8x8192x256 : Shape := ⟨3, ![8, 8192, 256]⟩
abbrev S8x8192x16x64 : Shape := ⟨4, ![8, 8192, 16, 64]⟩
abbrev S8x8192x16 : Shape := ⟨3, ![8, 8192, 16]⟩
abbrev S8x8192x16x1 : Shape := ⟨4, ![8, 8192, 16, 1]⟩
abbrev S1x1x1x64 : Shape := ⟨4, ![1, 1, 1, 64]⟩
abbrev S128 : Shape := ⟨1, ![128]⟩
abbrev S128x64 : Shape := ⟨2, ![128, 64]⟩
abbrev S8192 : Shape := ⟨1, ![8192]⟩
abbrev S1x64 : Shape := ⟨2, ![1, 64]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8x8192x16x32 : Shape := ⟨4, ![8, 8192, 16, 32]⟩
abbrev S8x8192x16x16 : Shape := ⟨4, ![8, 8192, 16, 16]⟩
abbrev S1x8192x1x16 : Shape := ⟨4, ![1, 8192, 1, 16]⟩
abbrev S8x8192x4x64 : Shape := ⟨4, ![8, 8192, 4, 64]⟩
abbrev S8x8192x4 : Shape := ⟨3, ![8, 8192, 4]⟩
abbrev S8x8192x4x1 : Shape := ⟨4, ![8, 8192, 4, 1]⟩
abbrev S8x8192x4x32 : Shape := ⟨4, ![8, 8192, 4, 32]⟩
abbrev S8x8192x4x16 : Shape := ⟨4, ![8, 8192, 4, 16]⟩
abbrev S65536x256 : Shape := ⟨2, ![65536, 256]⟩
abbrev S256x65536 : Shape := ⟨2, ![256, 65536]⟩

abbrev nBuf : Space → Nat
  | .hbm => 217
  | .vmem => 0
  | .smem => 0
  | _ => 0

abbrev hbmTy0_0 (i : Nat) : BufTy := match i % 128 with
  | 0 => ⟨S65536x1024, .f32⟩
  | 1 => ⟨S16x6x1024, .f32⟩
  | 2 => ⟨S1024, .f32⟩
  | 3 => ⟨S1024x1536, .f32⟩
  | 4 => ⟨S1536, .f32⟩
  | 5 => ⟨S64, .f32⟩
  | 6 => ⟨S64, .f32⟩
  | 7 => ⟨S8x8192x1024, .f32⟩
  | 8 => ⟨S8x8192x1024, .f32⟩
  | 9 => ⟨S_, .f32⟩
  | 10 => ⟨S8x8192, .f32⟩
  | 11 => ⟨S8x8192x1, .f32⟩
  | 12 => ⟨S_, .f32⟩
  | 13 => ⟨S8x8192x1, .f32⟩
  | 14 => ⟨S8x8192x1, .f32⟩
  | 15 => ⟨S_, .f32⟩
  | 16 => ⟨S8x8192x1, .f32⟩
  | 17 => ⟨S8x8192x1, .f32⟩
  | 18 => ⟨S8x8192x1, .f32⟩
  | 19 => ⟨S8x8192x1024, .f32⟩
  | 20 => ⟨S8x8192x1024, .f32⟩
  | 21 => ⟨S1x1x1024, .f32⟩
  | 22 => ⟨S8x8192x1024, .f32⟩
  | 23 => ⟨S8x8192x1024, .f32⟩
  | 24 => ⟨S8x1x1024, .f32⟩
  | 25 => ⟨S8x1024, .f32⟩
  | 26 => ⟨S8x1x1024, .f32⟩
  | 27 => ⟨S_, .f32⟩
  | 28 => ⟨S8x1x1024, .f32⟩
  | 29 => ⟨S8x1x1024, .f32⟩
  | 30 => ⟨S8x8192x1024, .f32⟩
  | 31 => ⟨S8x8192x1024, .f32⟩
  | 32 => ⟨S8x1x1024, .f32⟩
  | 33 => ⟨S8x1024, .f32⟩
  | 34 => ⟨S8x1x1024, .f32⟩
  | 35 => ⟨S8x8192x1024, .f32⟩
  | 36 => ⟨S8x8192x1024, .f32⟩
  | 37 => ⟨S8x8192x1536, .f32⟩
  | 38 => ⟨S1x1x1536, .f32⟩
  | 39 => ⟨S8x8192x1536, .f32⟩
  | 40 => ⟨S8x8192x1536, .f32⟩
  | 41 => ⟨S8x8192x1024, .f32⟩
  | 42 => ⟨S8x8192x256, .f32⟩
  | 43 => ⟨S8x8192x256, .f32⟩
  | 44 => ⟨S8x8192x16x64, .f32⟩
  | 45 => ⟨S8x8192x16x64, .f32⟩
  | 46 => ⟨S_, .f32⟩
  | 47 => ⟨S8x8192x16, .f32⟩
  | 48 => ⟨S8x8192x16x1, .f32⟩
  | 49 => ⟨S_, .f32⟩
  | 50 => ⟨S8x8192x16x1, .f32⟩
  | 51 => ⟨S8x8192x16x1, .f32⟩
  | 52 => ⟨S_, .f32⟩
  | 53 => ⟨S8x8192x16x1, .f32⟩
  | 54 => ⟨S8x8192x16x1, .f32⟩
  | 55 => ⟨S8x8192x16x1, .f32⟩
  | 56 => ⟨S8x8192x16x64, .f32⟩
  | 57 => ⟨S8x8192x16x64, .f32⟩
  | 58 => ⟨S1x1x1x64, .f32⟩
  | 59 => ⟨S8x8192x16x64, .f32⟩
  | 60 => ⟨S8x8192x16x64, .f32⟩
  | 61 => ⟨S128, .f32⟩
  | 62 => ⟨S128x64, .f32⟩
  | 63 => ⟨S8192, .f32⟩
  | 64 => ⟨S64, .f32⟩
  | 65 => ⟨S1x64, .f32⟩
  | 66 => ⟨S128x64, .f32⟩
  | 67 => ⟨S8192, .f32⟩
  | 68 => ⟨S16, .f32⟩
  | 69 => ⟨S16, .f32⟩
  | 70 => ⟨S_, .f32⟩
  | 71 => ⟨S16, .f32⟩
  | 72 => ⟨S16, .f32⟩
  | 73 => ⟨S_, .f32⟩
  | 74 => ⟨S16, .f32⟩
  | 75 => ⟨S16, .f32⟩
  | 76 => ⟨S8192x1, .f32⟩
  | 77 => ⟨S1x16, .f32⟩
  | 78 => ⟨S8192x16, .f32⟩
  | 79 => ⟨S8192x16, .f32⟩
  | 80 => ⟨S8192x16, .f32⟩
  | 81 => ⟨S8192x1, .f32⟩
  | 82 => ⟨S1x16, .f32⟩
  | 83 => ⟨S8192x16, .f32⟩
  | 84 => ⟨S8192x16, .f32⟩
  | 85 => ⟨S8192x16, .f32⟩
  | 86 => ⟨S8192x16, .f32⟩
  | 87 => ⟨S8192x16, .f32⟩
  | 88 => ⟨S8192x16, .f32⟩
  | 89 => ⟨S8192x16, .f32⟩
  | 90 => ⟨S8x8192x16x32, .f32⟩
  | 91 => ⟨S8x8192x16x16, .f32⟩
  | 92 => ⟨S8x8192x16x16, .f32⟩
  | 93 => ⟨S1x8192x1x16, .f32⟩
  | 94 => ⟨S1x8192x1x16, .f32⟩
  | 95 => ⟨S8x8192x16x16, .f32⟩
  | 96 => ⟨S8x8192x16x16, .f32⟩
  | 97 => ⟨S8x8192x16x16, .f32⟩
  | 98 => ⟨S8x8192x16x16, .f32⟩
  | 99 => ⟨S8x8192x16x16, .f32⟩
  | 100 => ⟨S8x8192x16x16, .f32⟩
  | 101 => ⟨S8x8192x16x16, .f32⟩
  | 102 => ⟨S8x8192x16x16, .f32⟩
  | 103 => ⟨S8x8192x16x16, .f32⟩
  | 104 => ⟨S8x8192x16x16, .f32⟩
  | 105 => ⟨S8x8192x16x32, .f32⟩
  | 106 => ⟨S8x8192x16x32, .f32⟩
  | 107 => ⟨S8x8192x16x16, .f32⟩
  | 108 => ⟨S8x8192x16x16, .f32⟩
  | 109 => ⟨S1x8192x1x16, .f32⟩
  | 110 => ⟨S1x8192x1x16, .f32⟩
  | 111 => ⟨S8x8192x16x16, .f32⟩
  | 112 => ⟨S8x8192x16x16, .f32⟩
  | 113 => ⟨S8x8192x16x16, .f32⟩
  | 114 => ⟨S8x8192x16x16, .f32⟩
  | 115 => ⟨S8x8192x16x16, .f32⟩
  | 116 => ⟨S8x8192x16x16, .f32⟩
  | 117 => ⟨S8x8192x16x16, .f32⟩
  | 118 => ⟨S8x8192x16x16, .f32⟩
  | 119 => ⟨S8x8192x16x16, .f32⟩
  | 120 => ⟨S8x8192x16x16, .f32⟩
  | 121 => ⟨S8x8192x16x32, .f32⟩
  | 122 => ⟨S8x8192x16x64, .f32⟩
  | 123 => ⟨S_, .f32⟩
  | 124 => ⟨S8x8192x16x64, .f32⟩
  | 125 => ⟨S8x8192x16x64, .f32⟩
  | 126 => ⟨S_, .f32⟩
  | 127 => ⟨S_, .f32⟩
  | _ => ⟨S65536x1024, .f32⟩

abbrev hbmTy0_1 (i : Nat) : BufTy := match i % 128 with
  | 0 => ⟨S_, .f32⟩
  | 1 => ⟨S8x8192x16x64, .f32⟩
  | 2 => ⟨S8x8192x16x64, .f32⟩
  | 3 => ⟨S8x8192x4x64, .f32⟩
  | 4 => ⟨S8x8192x4x64, .f32⟩
  | 5 => ⟨S_, .f32⟩
  | 6 => ⟨S8x8192x4, .f32⟩
  | 7 => ⟨S8x8192x4x1, .f32⟩
  | 8 => ⟨S_, .f32⟩
  | 9 => ⟨S8x8192x4x1, .f32⟩
  | 10 => ⟨S8x8192x4x1, .f32⟩
  | 11 => ⟨S_, .f32⟩
  | 12 => ⟨S8x8192x4x1, .f32⟩
  | 13 => ⟨S8x8192x4x1, .f32⟩
  | 14 => ⟨S8x8192x4x1, .f32⟩
  | 15 => ⟨S8x8192x4x64, .f32⟩
  | 16 => ⟨S8x8192x4x64, .f32⟩
  | 17 => ⟨S1x1x1x64, .f32⟩
  | 18 => ⟨S8x8192x4x64, .f32⟩
  | 19 => ⟨S8x8192x4x64, .f32⟩
  | 20 => ⟨S128, .f32⟩
  | 21 => ⟨S128x64, .f32⟩
  | 22 => ⟨S8192, .f32⟩
  | 23 => ⟨S64, .f32⟩
  | 24 => ⟨S1x64, .f32⟩
  | 25 => ⟨S128x64, .f32⟩
  | 26 => ⟨S8192, .f32⟩
  | 27 => ⟨S16, .f32⟩
  | 28 => ⟨S16, .f32⟩
  | 29 => ⟨S_, .f32⟩
  | 30 => ⟨S16, .f32⟩
  | 31 => ⟨S16, .f32⟩
  | 32 => ⟨S_, .f32⟩
  | 33 => ⟨S16, .f32⟩
  | 34 => ⟨S16, .f32⟩
  | 35 => ⟨S8192x1, .f32⟩
  | 36 => ⟨S1x16, .f32⟩
  | 37 => ⟨S8192x16, .f32⟩
  | 38 => ⟨S8192x16, .f32⟩
  | 39 => ⟨S8192x16, .f32⟩
  | 40 => ⟨S8192x1, .f32⟩
  | 41 => ⟨S1x16, .f32⟩
  | 42 => ⟨S8192x16, .f32⟩
  | 43 => ⟨S8192x16, .f32⟩
  | 44 => ⟨S8192x16, .f32⟩
  | 45 => ⟨S8192x16, .f32⟩
  | 46 => ⟨S8192x16, .f32⟩
  | 47 => ⟨S8192x16, .f32⟩
  | 48 => ⟨S8192x16, .f32⟩
  | 49 => ⟨S8x8192x4x32, .f32⟩
  | 50 => ⟨S8x8192x4x16, .f32⟩
  | 51 => ⟨S8x8192x4x16, .f32⟩
  | 52 => ⟨S1x8192x1x16, .f32⟩
  | 53 => ⟨S1x8192x1x16, .f32⟩
  | 54 => ⟨S8x8192x4x16, .f32⟩
  | 55 => ⟨S8x8192x4x16, .f32⟩
  | 56 => ⟨S8x8192x4x16, .f32⟩
  | 57 => ⟨S8x8192x4x16, .f32⟩
  | 58 => ⟨S8x8192x4x16, .f32⟩
  | 59 => ⟨S8x8192x4x16, .f32⟩
  | 60 => ⟨S8x8192x4x16, .f32⟩
  | 61 => ⟨S8x8192x4x16, .f32⟩
  | 62 => ⟨S8x8192x4x16, .f32⟩
  | 63 => ⟨S8x8192x4x16, .f32⟩
  | 64 => ⟨S8x8192x4x32, .f32⟩
  | 65 => ⟨S8x8192x4x32, .f32⟩
  | 66 => ⟨S8x8192x4x16, .f32⟩
  | 67 => ⟨S8x8192x4x16, .f32⟩
  | 68 => ⟨S1x8192x1x16, .f32⟩
  | 69 => ⟨S1x8192x1x16, .f32⟩
  | 70 => ⟨S8x8192x4x16, .f32⟩
  | 71 => ⟨S8x8192x4x16, .f32⟩
  | 72 => ⟨S8x8192x4x16, .f32⟩
  | 73 => ⟨S8x8192x4x16, .f32⟩
  | 74 => ⟨S8x8192x4x16, .f32⟩
  | 75 => ⟨S8x8192x4x16, .f32⟩
  | 76 => ⟨S8x8192x4x16, .f32⟩
  | 77 => ⟨S8x8192x4x16, .f32⟩
  | 78 => ⟨S8x8192x4x16, .f32⟩
  | 79 => ⟨S8x8192x4x16, .f32⟩
  | 80 => ⟨S8x8192x4x32, .f32⟩
  | 81 => ⟨S8x8192x4x64, .f32⟩
  | 82 => ⟨S65536x1024, .f32⟩
  | 83 => ⟨S65536x256, .f32⟩
  | 84 => ⟨S256x65536, .f32⟩
  | 85 => ⟨S65536x256, .f32⟩
  | 86 => ⟨S65536x1024, .bf16⟩
  | 87 => ⟨S256x65536, .bf16⟩
  | 88 => ⟨S65536x256, .bf16⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_6 : Ref sig .tc := ⟨.hbm, 70, rfl⟩
abbrev main_v56 : Ref sig .tc := ⟨.hbm, 71, rfl⟩
abbrev main_v57 : Ref sig .tc := ⟨.hbm, 72, rfl⟩
abbrev main_cst_7 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_cst_8 : Ref sig .tc := ⟨.hbm, 123, rfl⟩
abbrev main_v107 : Ref sig .tc := ⟨.hbm, 124, rfl⟩
abbrev main_v108 : Ref sig .tc := ⟨.hbm, 125, rfl⟩
abbrev main_cst_9 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_cst_10 : Ref sig .tc := ⟨.hbm, 133, rfl⟩
abbrev main_v115 : Ref sig .tc := ⟨.hbm, 134, rfl⟩
abbrev main_v116 : Ref sig .tc := ⟨.hbm, 135, rfl⟩
abbrev main_cst_11 : Ref sig .tc := ⟨.hbm, 136, rfl⟩
abbrev main_v117 : Ref sig .tc := ⟨.hbm, 137, rfl⟩
abbrev main_v118 : Ref sig .tc := ⟨.hbm, 138, rfl⟩
abbrev main_cst_12 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_cst_13 : Ref sig .tc := ⟨.hbm, 157, rfl⟩
abbrev main_v136 : Ref sig .tc := ⟨.hbm, 158, rfl⟩
abbrev main_v137 : Ref sig .tc := ⟨.hbm, 159, rfl⟩
abbrev main_cst_14 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_v180 : Ref sig .tc := ⟨.hbm, 203, rfl⟩
abbrev main_v181 : Ref sig .tc := ⟨.hbm, 204, rfl⟩
abbrev main_v182 : Ref sig .tc := ⟨.hbm, 205, rfl⟩
abbrev main_v183 : Ref sig .tc := ⟨.hbm, 206, rfl⟩
abbrev main_v184 : Ref sig .tc := ⟨.hbm, 207, rfl⟩
abbrev main_v185 : Ref sig .tc := ⟨.hbm, 208, rfl⟩
abbrev main_v186 : Ref sig .tc := ⟨.hbm, 209, rfl⟩
abbrev main_v187 : Ref sig .tc := ⟨.hbm, 210, rfl⟩
abbrev main_v188 : Ref sig .tc := ⟨.hbm, 211, rfl⟩
abbrev main_v189 : Ref sig .tc := ⟨.hbm, 212, rfl⟩
abbrev main_v190 : Ref sig .tc := ⟨.hbm, 213, rfl⟩
abbrev main_v191 : Ref sig .tc := ⟨.hbm, 214, rfl⟩
abbrev main_v192 : Ref sig .tc := ⟨.hbm, 215, rfl⟩
abbrev main_v193 : Ref sig .tc := ⟨.hbm, 216, rfl⟩

abbrev nD : Nat := 1
abbrev τ : Topo := Topo.v7x

variable {F : FTy → Type} [FloatOps F]
-- ==== Proof.Head.lean ====
/- What one block of the attention computes for one head, as one function of the loaded slices. The kernel states it
   once for every head and half block; each of those statements is an instance of `head0` or `head1`. -/
module

public import proofs.«01_k».proof.Proof.Gen.KernelIdeal.Value

@[expose] public section

set_option maxRecDepth 16384

noncomputable section

namespace Cert.KernelIdeal.Att

open Cert.KernelIdeal Cert.KernelIdeal.Gen Idealize.ShloMosaic Idealize.ShloMosaic.TcCoe Idealize.SL.Sem

variable {F : FTy → Type} [FloatOps F] [Named F]

/-- The transposed keys of the rows around a block: the piece before it, the block, the piece after it. -/
def keysW (kp : Vec F S64x128 .bf16) (km : Vec F S64x512 .bf16) (kn : Vec F S64x128 .bf16) : FVec F S64x768 .bf16 :=
  concatenate S64x768 1 [⟨S64x128, kp⟩, ⟨S64x512, km⟩, ⟨S64x128, kn⟩] concatenates_S64x128_S64x512_S64x128_S64x768_d1

/-- The values of the same rows. -/
def valsW (vp : Vec F S128x64 .bf16) (vm : Vec F S512x64 .bf16) (vn : Vec F S128x64 .bf16) : FVec F S768x64 .bf16 :=
  concatenate S768x64 0 [⟨S128x64, vp⟩, ⟨S512x64, vm⟩, ⟨S128x64, vn⟩] concatenates_S128x64_S512x64_S128x64_S768x64_d0

/-- The keys that the first half block sees, then the context keys. -/
def keys0 (kw : FVec F S64x768 .bf16) (kc : Vec F S64x256 .bf16) : FVec F S64x768 .bf16 :=
  concatenate S64x768 1 [⟨S64x512, extractStridedSlice S64x512 ![0, 0] kw slices_S64x768_o0_0_S64x512⟩, ⟨S64x256, kc⟩]
    concatenates_S64x512_S64x256_S64x768_d1

/-- The keys that the second half block sees, then the context keys. -/
def keys1 (kw : FVec F S64x768 .bf16) (kc : Vec F S64x256 .bf16) : FVec F S64x768 .bf16 :=
  concatenate S64x768 1 [⟨S64x512, extractStridedSlice S64x512 ![0, 256] kw slices_S64x768_o0_256_S64x512⟩, ⟨S64x256, kc⟩]
    concatenates_S64x512_S64x256_S64x768_d1

/-- The values of the first half block's keys. -/
def vals0 (vw : FVec F S768x64 .bf16) (vc : Vec F S256x64 .bf16) : FVec F S768x64 .bf16 :=
  concatenate S768x64 0 [⟨S512x64, extractStridedSlice S512x64 ![0, 0] vw slices_S768x64_o0_0_S512x64⟩, ⟨S256x64, vc⟩]
    concatenates_S512x64_S256x64_S768x64_d0

/-- The values of the second half block's keys. -/
def vals1 (vw : FVec F S768x64 .bf16) (vc : Vec F S256x64 .bf16) : FVec F S768x64 .bf16 :=
  concatenate S768x64 0 [⟨S512x64, extractStridedSlice S512x64 ![256, 0] vw slices_S768x64_o256_0_S512x64⟩, ⟨S256x64, vc⟩]
    concatenates_S512x64_S256x64_S768x64_d0

/-- Keys under zeros or over zeros: what meets the lanes of a pair of heads. -/
def pairOf (a b : FVec F S64x768 .bf16) : FVec F S128x768 .bf16 :=
  concatenate S128x768 0 [⟨S64x768, a⟩, ⟨S64x768, b⟩] concatenates_S64x768_S64x768_S128x768_d0

/-- The raw scores of a half block. -/
def rawOf (q : Vec F S256x128 .bf16) (kk : FVec F S128x768 .bf16) : FVec F S256x768 .f32 :=
  matmul dot_S256x128_S128x768_S256x768_1_0_0_1_n_n none q kk (constant S256x768 .f32 0x00000000#32)

/-- The masked scores of the first quarter of a half block. -/
def score0 (raw : FVec F S256x768 .f32) (bb ba : FVec F S128x128 .f32) : FVec F S128x640 .f32 :=
  concatenate S128x640 1
    [⟨S128x128, addf (extractStridedSlice S128x128 ![0, 0] raw slices_S256x768_o0_0_S128x128) bb⟩,
     ⟨S128x128, extractStridedSlice S128x128 ![0, 128] raw slices_S256x768_o0_128_S128x128⟩,
     ⟨S128x128, addf (extractStridedSlice S128x128 ![0, 256] raw slices_S256x768_o0_256_S128x128) ba⟩,
     ⟨S128x256, extractStridedSlice S128x256 ![0, 512] raw slices_S256x768_o0_512_S128x256⟩]
    concatenates_S128x128_S128x128_S128x128_S128x256_S128x640_d1

/-- The masked scores of the second quarter. -/
def score1 (raw : FVec F S256x768 .f32) (bb ba : FVec F S128x128 .f32) : FVec F S128x640 .f32 :=
  concatenate S128x640 1
    [⟨S128x128, addf (extractStridedSlice S128x128 ![128, 128] raw slices_S256x768_o128_128_S128x128) bb⟩,
     ⟨S128x128, extractStridedSlice S128x128 ![128, 256] raw slices_S256x768_o128_256_S128x128⟩,
     ⟨S128x128, addf (extractStridedSlice S128x128 ![128, 384] raw slices_S256x768_o128_384_S128x128) ba⟩,
     ⟨S128x256, extractStridedSlice S128x256 ![128, 512] raw slices_S256x768_o128_512_S128x256⟩]
    concatenates_S128x128_S128x128_S128x128_S128x256_S128x640_d1

/-- The largest score of each row, the sink's among them. -/
def maxOf (s : FVec F S128x640 .f32) (sk : Elt F .f32) : FVec F S128x1 .f32 :=
  maximumf (shapeCast S128x1 (multiReduction .maximumf [1] S128 s 0xFF800000#32 reduces_S128x640_S128 (.inl rfl) rfl)
    shapeCasts_S128_S128x1) (broadcast S128x1 sk)

/-- The weights before they are normed. -/
def weight (s : FVec F S128x640 .f32) (mx : FVec F S128x1 .f32) : FVec F S128x640 .f32 :=
  exp2 (subf s (broadcastTo S128x640 mx broadcasts_S128x1_S128x640))

/-- The sum of the weights of each row, the sink's among them. -/
def denOf (p : FVec F S128x640 .f32) (mx : FVec F S128x1 .f32) (sk : Elt F .f32) : FVec F S128x1 .f32 :=
  addf (shapeCast S128x1 (multiReduction .add [1] S128 p 0x00000000#32 reduces_S128x640_S128 (.inl rfl) rfl)
    shapeCasts_S128_S128x1) (exp2 (subf (broadcast S128x1 sk) mx))

/-- The first quarter's weights, with zeros at the keys that only the second quarter sees. -/
def wide0 (p : FVec F S128x640 .f32) : FVec F S128x768 .bf16 :=
  concatenate S128x768 1
    [⟨S128x384, extractStridedSlice S128x384 ![0, 0] (truncf .bf16 p bitsLt_bf16_f32) slices_S128x640_o0_0_S128x384⟩,
     ⟨S128x128, broadcast S128x128 (Scalar.ofBits .bf16 0x0000#16)⟩,
     ⟨S128x256, extractStridedSlice S128x256 ![0, 384] (truncf .bf16 p bitsLt_bf16_f32) slices_S128x640_o0_384_S128x256⟩]
    concatenates_S128x384_S128x128_S128x256_S128x768_d1

/-- The second quarter's weights, with zeros at the keys that only the first quarter sees. -/
def wide1 (p : FVec F S128x640 .f32) : FVec F S128x768 .bf16 :=
  concatenate S128x768 1
    [⟨S128x128, broadcast S128x128 (Scalar.ofBits .bf16 0x0000#16)⟩,
     ⟨S128x384, extractStridedSlice S128x384 ![0, 0] (truncf .bf16 p bitsLt_bf16_f32) slices_S128x640_o0_0_S128x384⟩,
     ⟨S128x256, extractStridedSlice S128x256 ![0, 384] (truncf .bf16 p bitsLt_bf16_f32) slices_S128x640_o0_384_S128x256⟩]
    concatenates_S128x128_S128x384_S128x256_S128x768_d1

/-- The attention of a half block: the weighted sum of the values over the sum of the weights. -/
def outOf (w0 w1 : FVec F S128x768 .bf16) (d0 d1 : FVec F S128x1 .f32) (vv : FVec F S768x64 .bf16) : FVec F S256x64 .bf16 :=
  shapeCast S256x64 (truncf .bf16 (divf
    (matmul dot_S256x768_S768x64_S256x64_1_0_0_1_n_n none
      (concatenate S256x768 0 [⟨S128x768, w0⟩, ⟨S128x768, w1⟩] concatenates_S128x768_S128x768_S256x768_d0) vv
      (constant S256x64 .f32 0x00000000#32))
    (broadcastTo S256x64 (concatenate S256x1 0 [⟨S128x1, d0⟩, ⟨S128x1, d1⟩] concatenates_S128x1_S128x1_S256x1_d0)
      broadcasts_S256x1_S256x64)) bitsLt_bf16_f32) shapeCasts_S256x64_S256x64

/-- One head on a half block, from its raw scores, the four mask pieces, the sink and the values. -/
def headOf (raw : FVec F S256x768 .f32) (b0 a0 b1 a1 : FVec F S128x128 .f32) (sk : Elt F .f32)
    (vv : FVec F S768x64 .bf16) : FVec F S256x64 .bf16 :=
  outOf (wide0 (weight (score0 raw b0 a0) (maxOf (score0 raw b0 a0) sk)))
    (wide1 (weight (score1 raw b1 a1) (maxOf (score1 raw b1 a1) sk)))
    (denOf (weight (score0 raw b0 a0) (maxOf (score0 raw b0 a0) sk)) (maxOf (score0 raw b0 a0) sk) sk)
    (denOf (weight (score1 raw b1 a1) (maxOf (score1 raw b1 a1) sk)) (maxOf (score1 raw b1 a1) sk) sk) vv

/-- The sink's score in the units of the queries. -/
def sinkOf (s : Elt F .f32) : Elt F .f32 := Scalar.mulf s (Named.named κ "log2e" 0x3FB8AA3B#32)

end Cert.KernelIdeal.Att
-- ==== Proof.Soft.lean ====
/- Weighted means over the extended reals: what the kernel and the reference both make of real scores, some of them
   masked. The weights are exponentials; the common factor that the subtracted maximum brings falls out of the mean. -/
module

public import Idealize.ShloMosaic.PureOps.Ideal
public import Mathlib.Analysis.SpecialFunctions.Pow.Real

@[expose] public section

noncomputable section

namespace Cert.Soft

open Idealize.ShloMosaic

/-- A sum of real numbers, read in the extended reals. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A real factor that is not negative moves out of a sum. -/
theorem sum_mul_coe {ι : Type*} (s : Finset ι) (f : ι → EReal) {r : ℝ} (hr : 0 ≤ r) :
    (∑ k ∈ s, f k) * (r : EReal) = ∑ k ∈ s, f k * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

theorem add_mul_coe (x y : EReal) {r : ℝ} (hr : 0 ≤ r) : (x + y) * (r : EReal) = x * r + y * r :=
  EReal.right_distrib_of_nonneg_of_ne_top (by exact_mod_cast hr) (EReal.coe_ne_top r) _ _

/-- Division by a real number other than zero. -/
theorem div_coe (x : EReal) {r : ℝ} (hr : r ≠ 0) : Ideal.div x (r : EReal) = x * ((r⁻¹ : ℝ) : EReal) := by
  unfold Ideal.div
  rw [if_neg (by exact_mod_cast hr), EReal.coe_inv]

theorem exp_coe (r : ℝ) : Ideal.exp (r : EReal) = (Real.exp r : EReal) := rfl

theorem exp_bot : Ideal.exp ⊥ = 0 := rfl

theorem exp2_bot : Ideal.exp2 ⊥ = 0 := rfl

theorem exp2_coe (r : ℝ) : Ideal.exp2 (r : EReal) = (Real.exp (r * Real.log 2) : EReal) := by
  show ((Real.rpow 2 r : ℝ) : EReal) = _
  rw [show Real.rpow 2 r = (2 : ℝ) ^ r from rfl, Real.rpow_def_of_pos (by norm_num), mul_comm]

theorem bot_sub_coe (r : ℝ) : (⊥ : EReal) - (r : EReal) = ⊥ := by
  rw [sub_eq_add_neg, EReal.bot_add]

/-- The maximum of scores, each real or masked, with one that is real. -/
theorem max_real {ι : Type*} (s : Finset ι) (f : ι → EReal) (hf : ∀ k, f k ≠ ⊤) (r : ℝ) :
    ∃ μ : ℝ, max (s.fold max ⊥ f) (r : EReal) = (μ : EReal) := by
  have h : s.fold max ⊥ f ≠ ⊤ := by
    classical
    induction s using Finset.induction_on with
    | empty => simp
    | insert a s ha ih =>
      rw [Finset.fold_insert ha]
      rcases max_choice (f a) (s.fold max ⊥ f) with h | h <;> rw [h]
      · exact hf a
      · exact ih
  have htop : max (s.fold max ⊥ f) (r : EReal) ≠ ⊤ := by
    rcases max_choice (s.fold max ⊥ f) (r : EReal) with h' | h' <;> rw [h']
    · exact h
    · exact EReal.coe_ne_top r
  have hbot : max (s.fold max ⊥ f) (r : EReal) ≠ ⊥ := fun hb =>
    EReal.coe_ne_bot r (le_bot_iff.mp (hb ▸ le_max_right _ _))
  exact ⟨_, (EReal.coe_toReal htop hbot).symm⟩

/-- A masked score in base two, after a real number is taken off it. -/
theorem exp2_masked (p : Prop) [Decidable p] (s μ : ℝ) :
    Ideal.exp2 ((if p then (s : EReal) else ⊥) - (μ : EReal))
      = (((if p then Real.exp (s * Real.log 2) else 0) * Real.exp (-(μ * Real.log 2)) : ℝ) : EReal) := by
  split
  · rw [← EReal.coe_sub, exp2_coe, ← Real.exp_add]
    congr 3; ring
  · rw [bot_sub_coe, exp2_bot, zero_mul]; rfl

/-- The same for a real score. -/
theorem exp2_sub (s μ : ℝ) :
    Ideal.exp2 ((s : EReal) - (μ : EReal)) = ((Real.exp (s * Real.log 2) * Real.exp (-(μ * Real.log 2)) : ℝ) : EReal) := by
  rw [← EReal.coe_sub, exp2_coe, ← Real.exp_add]
  congr 2; ring

/-- A masked score in base e, after a real number is taken off it. -/
theorem exp_masked (p : Prop) [Decidable p] (s μ : ℝ) :
    Ideal.exp ((if p then (s : EReal) else ⊥) - (μ : EReal))
      = (((if p then Real.exp s else 0) * Real.exp (-μ) : ℝ) : EReal) := by
  split
  · rw [← EReal.coe_sub, exp_coe, ← Real.exp_add, sub_eq_add_neg]
  · rw [bot_sub_coe, exp_bot, zero_mul]; rfl

theorem exp_sub (s μ : ℝ) :
    Ideal.exp ((s : EReal) - (μ : EReal)) = ((Real.exp s * Real.exp (-μ) : ℝ) : EReal) := by
  rw [← EReal.coe_sub, exp_coe, ← Real.exp_add, sub_eq_add_neg]

/-- A weight over the sum of the weights, both with the factor `E`. -/
theorem ratio (w d : ℝ) {E : ℝ} (hE : 0 < E) : w * E * (d * E)⁻¹ = w / d := by
  rw [mul_inv, div_eq_mul_inv]
  field_simp

/-- The weighted sum of two families divided by the sum of the weights: the factor `E` falls out. -/
theorem mean {ι κ : Type*} [Fintype ι] [Fintype κ] (w : ι → ℝ) (w' : κ → ℝ) (v : ι → EReal) (v' : κ → EReal) {d E : ℝ}
    (hd : 0 < d) (hE : 0 < E) :
    Ideal.div ((∑ k, ((w k * E : ℝ) : EReal) * v k) + ∑ k, ((w' k * E : ℝ) : EReal) * v' k) ((d * E : ℝ) : EReal)
      = (∑ k, ((w k / d : ℝ) : EReal) * v k) + ∑ k, ((w' k / d : ℝ) : EReal) * v' k := by
  have hdE : 0 < d * E := mul_pos hd hE
  have h0 : 0 ≤ (d * E)⁻¹ := inv_nonneg.mpr hdE.le
  rw [div_coe _ hdE.ne', add_mul_coe _ _ h0, sum_mul_coe _ _ h0, sum_mul_coe _ _ h0]
  congr 1 <;> refine Finset.sum_congr rfl fun k _ => ?_
  · rw [mul_right_comm, ← EReal.coe_mul, ratio _ _ hE]
  · rw [mul_right_comm, ← EReal.coe_mul, ratio _ _ hE]

/-- A sum over a window of 384 keys around row `row` of a sequence, masked to the band and to the keys that exist, is
    the sum over the whole sequence masked to the band. The window starts 128 rows before `base`. -/
theorem window_sum {M : Type*} [AddCommMonoid M] (base r : ℕ) (hr : r < 128) (hb : base + 128 ≤ 8192) (f : ℕ → M)
    (g : ℕ → M) (hfg : ∀ c k : ℕ, base + c = k + 128 → f c = g k) :
    (∑ c : Fin 384, if r ≤ c.val ∧ c.val ≤ r + 256 ∧ (c.val < 128 → 0 < base) ∧ (256 ≤ c.val → base + 128 < 8192)
        ∧ (128 ≤ base + c.val ∧ base + c.val < 8192 + 128) then f c.val else 0)
      = ∑ k : Fin 8192, if (base + r) ≤ k.val + 128 ∧ k.val ≤ base + r + 128 then g k.val else 0 := by
  rw [← Finset.sum_filter, ← Finset.sum_filter]
  refine Finset.sum_bij' (fun c hc => (⟨base + c.val - 128, ?_⟩ : Fin 8192)) (fun k hk => (⟨k.val + 128 - base, ?_⟩ : Fin 384))
    ?_ ?_ ?_ ?_ ?_
  · simp only [Finset.mem_filter, Finset.mem_univ, true_and] at hc; omega
  · simp only [Finset.mem_filter, Finset.mem_univ, true_and] at hk; omega
  · intro c hc
    simp only [Finset.mem_filter, Finset.mem_univ, true_and] at hc ⊢; omega
  · intro k hk
    have := k.isLt
    simp only [Finset.mem_filter, Finset.mem_univ, true_and] at hk ⊢; omega
  · intro c hc
    simp only [Finset.mem_filter, Finset.mem_univ, true_and] at hc
    apply Fin.ext; show base + c.val - 128 + 128 - base = c.val; omega
  · intro k hk
    simp only [Finset.mem_filter, Finset.mem_univ, true_and] at hk
    apply Fin.ext; show base + (k.val + 128 - base) - 128 = k.val; omega
  · intro c hc
    simp only [Finset.mem_filter, Finset.mem_univ, true_and] at hc
    exact hfg _ _ (by show base + c.val = base + c.val - 128 + 128; omega)

end Cert.Soft
-- ==== Proof.HeadValue.lean ====
/- The pieces of one head's computation, read at an index, when queries, keys and sinks are real numbers. -/
module

public import proofs.«01_k».proof.Proof.Head
public import proofs.«01_k».proof.Proof.Soft
public import Idealize.ShloMosaic.Lib.Pointwise
public import Idealize.ShloMosaic.Lib.WordCmp

@[expose] public section

set_option maxRecDepth 16384

noncomputable section

namespace Cert.KernelIdeal.Att

open Cert.KernelIdeal Cert.KernelIdeal.Gen Idealize.ShloMosaic Idealize.ShloMosaic.TcCoe Idealize.SL.Sem

/-- The value that the table gives the mask. -/
theorem mask_bot : Named.named (F := Ideal) Cert.KernelIdeal.κ "mask" (φ := .f32) 0xF149F2CA#32 = (⊥ : EReal) :=
  IdealRules.named_const.ideal_named_scalar _ _ _ _ rfl

theorem log2e_inv : Named.named (F := Ideal) Cert.KernelIdeal.κ "log2e" (φ := .f32) 0x3FB8AA3B#32
    = (((Real.log 2)⁻¹ : ℝ) : EReal) :=
  IdealRules.named_const.ideal_named_scalar _ _ _ _ rfl

theorem ofBits_neg_inf : Ideal.ofBits FTy.f32 0xFF800000#32 = (⊥ : EReal) := by
  rfl

theorem select_decide (p : Prop) [Decidable p] (x y : EReal) :
    Scalar.select (BitVec.ofBool (decide p)) x y = if p then x else y := by
  rw [WordCmp.select_ofBool]; simp

/-- The lower corner of the band: the key is not before the first one of the window. -/
theorem pay2_apply (r c : Fin 128) :
    k0_pay2 (F := Ideal) (ix2 r c) = if r.val ≤ c.val ∧ True then (0 : EReal) else ⊥ := by
  have := r.isLt; have := c.isLt
  pointwise [k0_pay2]
  rw [WordCmp.cmpi_sge_ofNat (by omega) (by omega), mask_bot, select_decide]

/-- The upper corner: the key is not after the last one of the window. -/
theorem pay3_apply (r c : Fin 128) :
    k0_pay3 (F := Ideal) (ix2 r c) = if c.val ≤ r.val ∧ True then (0 : EReal) else ⊥ := by
  have := r.isLt; have := c.isLt
  pointwise [k0_pay3]
  rw [WordCmp.cmpi_sle_ofNat (by omega) (by omega), mask_bot, select_decide]

/-- The lower corner in the first block of a sequence: there are no keys before it. -/
theorem pay4_apply (r c : Fin 128) (i : grid0.Coords) :
    k0_pay4 (F := Ideal) i (ix2 r c) = if r.val ≤ c.val ∧ 0 < (i 1).val then (0 : EReal) else ⊥ := by
  have := r.isLt; have := c.isLt; have : (i 1).val < 16 := (i 1).isLt
  pointwise [k0_pay4]
  rw [WordCmp.cmpi_sge_ofNat (by omega) (by omega), mask_bot]
  show Scalar.select (IntOp.andi _ (IntOp.cmpi .sgt (BitVec.ofNat 32 (i 1).val) (BitVec.ofNat 32 0))) _ _ = _
  rw [WordCmp.cmpi_sgt_ofNat (by omega) (by omega), WordCmp.andi_ofBool, ← Bool.decide_and, select_decide]

/-- The upper corner in the last block of a sequence: there are no keys after it. -/
theorem pay5_apply (r c : Fin 128) (i : grid0.Coords) :
    k0_pay5 (F := Ideal) i (ix2 r c) = if c.val ≤ r.val ∧ (i 1).val < 15 then (0 : EReal) else ⊥ := by
  have := r.isLt; have := c.isLt; have : (i 1).val < 16 := (i 1).isLt
  pointwise [k0_pay5]
  rw [WordCmp.cmpi_sle_ofNat (by omega) (by omega), mask_bot]
  show Scalar.select (IntOp.andi _ (IntOp.cmpi .slt (BitVec.ofNat 32 (i 1).val) (BitVec.ofNat 32 15))) _ _ = _
  rw [WordCmp.cmpi_slt_ofNat (by omega) (by omega), WordCmp.andi_ofBool, ← Bool.decide_and, select_decide]

/-- Real scores plus a mask piece. -/
theorem add_mask (x : ℝ) (p : Prop) [Decidable p] (m : EReal) (hm : m = if p then (0 : EReal) else ⊥) :
    (x : EReal) + m = if p then (x : EReal) else ⊥ := by
  subst hm; split
  · rw [add_zero]
  · rw [EReal.add_bot]

/-- Whether the key in column `c` of the window counts for row `r` of a quarter block. -/
def InBand (r c : ℕ) (B A : Prop) : Prop := (c < 128 → r ≤ c ∧ B) ∧ (256 ≤ c → c < 384 → c ≤ r + 256 ∧ A)

instance (r c : ℕ) (B A : Prop) [Decidable B] [Decidable A] : Decidable (InBand r c B A) := by
  unfold InBand; infer_instance

/-- The column of a half block's raw scores behind column `c` of the first quarter's. -/
def colOf (u c : ℕ) : ℕ := if c < 384 then 128 * u + c else c + 128

/-- A score with its masks, by the part of the window it lies in. -/
theorem score_cases (ρ : ℕ → ℝ) (r c u : ℕ) (B A : Prop) [Decidable B] [Decidable A] (x : EReal)
    (h0 : c < 128 → x = if r ≤ c ∧ B then ((ρ (128 * u + c) : ℝ) : EReal) else ⊥)
    (h1 : 128 ≤ c → c < 256 → x = ((ρ (128 * u + c) : ℝ) : EReal))
    (h2 : 256 ≤ c → c < 384 → x = if c - 256 ≤ r ∧ A then ((ρ (128 * u + c) : ℝ) : EReal) else ⊥)
    (h3 : 384 ≤ c → x = ((ρ (c + 128) : ℝ) : EReal)) :
    x = if InBand r c B A then ((ρ (colOf u c) : ℝ) : EReal) else ⊥ := by
  unfold colOf
  by_cases c0 : c < 128
  · rw [h0 c0, if_pos (show c < 384 by omega)]
    exact if_congr ⟨fun h => ⟨fun _ => h, fun _ => by omega⟩, fun h => h.1 c0⟩ rfl rfl
  by_cases c1 : c < 256
  · rw [h1 (by omega) c1, if_pos (show c < 384 by omega),
      if_pos (show InBand r c B A from ⟨fun _ => by omega, fun _ => by omega⟩)]
  by_cases c2 : c < 384
  · rw [h2 (by omega) c2, if_pos c2]
    exact if_congr ⟨fun h => ⟨fun _ => by omega, fun _ _ => ⟨by omega, h.2⟩⟩,
      fun h => ⟨by have := (h.2 (by omega) c2).1; omega, (h.2 (by omega) c2).2⟩⟩ rfl rfl
  · rw [h3 (by omega), if_neg c2, if_pos (show InBand r c B A from ⟨fun _ => by omega, fun _ _ => by omega⟩)]

/-- The masked scores of the first quarter. -/
theorem score0_apply (raw : FVec Ideal S256x768 .f32) (bb ba : FVec Ideal S128x128 .f32) (ρ : ℕ → ℕ → ℝ) (B A : Prop)
    [Decidable B] [Decidable A] (hraw : ∀ (r : Fin 256) (c : Fin 768), raw (ix2 r c) = (ρ r c : EReal))
    (hb : ∀ r c : Fin 128, bb (ix2 r c) = if r.val ≤ c.val ∧ B then (0 : EReal) else ⊥)
    (ha : ∀ r c : Fin 128, ba (ix2 r c) = if c.val ≤ r.val ∧ A then (0 : EReal) else ⊥)
    (r : Fin 128) (c : Fin 640) :
    score0 raw bb ba (ix2 r c)
      = if InBand r c B A then ((ρ r (colOf 0 c) : ℝ) : EReal) else ⊥ := by
  pointwise [score0]
  refine score_cases (ρ r) r c 0 B A _ (fun h => ?_) (fun h h' => ?_) (fun h h' => ?_) (fun h => ?_)
  · rw [dif_pos h, hraw, add_mask _ _ _ (hb _ _)]
    refine if_congr Iff.rfl ?_ rfl
    exact congrArg _ (congrArg₂ ρ (by simp) (by simp))
  · rw [dif_neg (by omega), dif_pos (by omega), hraw]
    exact congrArg _ (congrArg₂ ρ (by simp) (by simp; omega))
  · rw [dif_neg (by omega), dif_neg (by omega), dif_pos (by omega), hraw, add_mask _ _ _ (ha _ _)]
    refine if_congr (by simp [Nat.sub_sub]) ?_ rfl
    exact congrArg _ (congrArg₂ ρ (by simp) (by simp; omega))
  · rw [dif_neg (by omega), dif_neg (by omega), dif_neg (by omega), hraw]
    exact congrArg _ (congrArg₂ ρ (by simp) (by simp; omega))

/-- The masked scores of the second quarter. -/
theorem score1_apply (raw : FVec Ideal S256x768 .f32) (bb ba : FVec Ideal S128x128 .f32) (ρ : ℕ → ℕ → ℝ) (B A : Prop)
    [Decidable B] [Decidable A] (hraw : ∀ (r : Fin 256) (c : Fin 768), raw (ix2 r c) = (ρ r c : EReal))
    (hb : ∀ r c : Fin 128, bb (ix2 r c) = if r.val ≤ c.val ∧ B then (0 : EReal) else ⊥)
    (ha : ∀ r c : Fin 128, ba (ix2 r c) = if c.val ≤ r.val ∧ A then (0 : EReal) else ⊥)
    (r : Fin 128) (c : Fin 640) :
    score1 raw bb ba (ix2 r c)
      = if InBand r c B A then ((ρ (128 * 1 + r) (colOf 1 c) : ℝ) : EReal) else ⊥ := by
  pointwise [score1]
  refine score_cases (ρ (128 * 1 + r)) r c 1 B A _ (fun h => ?_) (fun h h' => ?_) (fun h h' => ?_) (fun h => ?_)
  · rw [dif_pos h, hraw, add_mask _ _ _ (hb _ _)]
  · rw [dif_neg (by omega), dif_pos (by omega), hraw]
    exact congrArg _ (congrArg₂ ρ (by simp) (by simp; omega))
  · rw [dif_neg (by omega), dif_neg (by omega), dif_pos (by omega), hraw, add_mask _ _ _ (ha _ _)]
    refine if_congr (by simp [Nat.sub_sub]) ?_ rfl
    exact congrArg _ (congrArg₂ ρ (by simp) (by simp; omega))
  · rw [dif_neg (by omega), dif_neg (by omega), dif_neg (by omega), hraw]
    exact congrArg _ (congrArg₂ ρ (by simp) (by simp; omega))

theorem maxOf_apply (s : FVec Ideal S128x640 .f32) (sk : Elt Ideal .f32) (r : Fin 128) :
    maxOf s sk (ix2 r 0) = max (Finset.univ.fold max (⊥ : EReal) fun c => s (ix2 r c)) sk := by
  pointwise [maxOf]
  rw [show Ideal.ofBits FTy.f32 4286578688#32 = (⊥ : EReal) from ofBits_neg_inf]

/-- The weights and their sum in one row, up to the factor that the maximum brings. -/
theorem chain (s : FVec Ideal S128x640 .f32) (sk : Elt Ideal .f32) (t : ℝ) (ht : sk = (t : EReal)) (r : Fin 128)
    (V : ℕ → Prop) [DecidablePred V] (σ : ℕ → ℝ)
    (hs : ∀ c : Fin 640, s (ix2 r c) = if V c then (σ c : EReal) else ⊥) :
    ∃ E : ℝ, 0 < E ∧
      (∀ c : Fin 640, weight s (maxOf s sk) (ix2 r c)
        = (((if V c then Real.exp (σ c * Real.log 2) else 0) * E : ℝ) : EReal)) ∧
      denOf (weight s (maxOf s sk)) (maxOf s sk) sk (ix2 r 0)
        = ((((∑ c : Fin 640, if V c then Real.exp (σ c * Real.log 2) else 0) + Real.exp (t * Real.log 2)) * E : ℝ) : EReal) := by
  obtain ⟨μ, hμ⟩ := Soft.max_real Finset.univ (fun c => s (ix2 r c))
    (fun c => by rw [hs]; split <;> simp) t
  have hm : maxOf s sk (ix2 r 0) = (μ : EReal) := by rw [maxOf_apply, ht, hμ]
  have hw : ∀ c : Fin 640, weight s (maxOf s sk) (ix2 r c)
        = (((if V c then Real.exp (σ c * Real.log 2) else 0) * Real.exp (-(μ * Real.log 2)) : ℝ) : EReal) := by
    intro c
    generalize maxOf s sk = mx at *
    pointwise [weight]
    rw [hm, hs]
    exact Soft.exp2_masked _ _ _
  refine ⟨_, Real.exp_pos _, hw, ?_⟩
  generalize weight s (maxOf s sk) = p at *
  generalize maxOf s sk = mx at *
  pointwise [denOf]
  simp only [hw, hm, ht]
  rw [← Soft.coe_sum, add_mul, EReal.coe_add, Finset.sum_mul]
  congr 1
  exact Soft.exp2_sub _ _

theorem zero_left {a b : EReal} (h : a = 0) : a + b = b := by rw [h, zero_add]

/-- The weighted sum of a quarter over the sum of its weights: the columns where the other quarter's keys lie are zero. -/
theorem outOf_apply (w0 w1 : FVec Ideal S128x640 .f32) (d0 d1 : FVec Ideal S128x1 .f32) (vv : FVec Ideal S768x64 .bf16)
    (r : Fin 256) (e : Fin 64) :
    outOf (wide0 w0) (wide1 w1) d0 d1 vv (ix2 r e)
      = if h : r.val < 128 then
          Ideal.div ((∑ c : Fin 384, w0 (ix2 ⟨r, h⟩ ⟨c, by omega⟩) * vv (ix2 ⟨128 * 0 + c, by omega⟩ e))
            + ∑ c : Fin 256, w0 (ix2 ⟨r, h⟩ ⟨384 + c, by omega⟩) * vv (ix2 ⟨512 + c, by omega⟩ e)) (d0 (ix2 ⟨r, h⟩ 0))
        else
          Ideal.div ((∑ c : Fin 384, w1 (ix2 ⟨r - 128, by omega⟩ ⟨c, by omega⟩) * vv (ix2 ⟨128 * 1 + c, by omega⟩ e))
            + ∑ c : Fin 256, w1 (ix2 ⟨r - 128, by omega⟩ ⟨384 + c, by omega⟩) * vv (ix2 ⟨512 + c, by omega⟩ e))
            (d1 (ix2 ⟨r - 128, by omega⟩ 0)) := by
  pointwise [outOf, wide0, wide1]
  split
  · congr 1
    rw [Fin.sum_univ_two_halves 512 256 rfl, Fin.sum_univ_two_halves 384 128 rfl, add_assoc]
    refine congrArg₂ _ (Finset.sum_congr rfl fun c _ => ?_) ((zero_left (Finset.sum_eq_zero fun c _ => ?_)).trans
      (Finset.sum_congr rfl fun c _ => ?_)) <;> have := c.isLt <;> simp only []
    · rw [dif_pos (by omega)]
    · rw [dif_neg (by omega), dif_pos (by omega), zero_mul]
    · rw [dif_neg (by omega), dif_neg (by omega)]
      congr 3; apply Fin.ext; simp; omega
  · congr 1
    rw [Fin.sum_univ_two_halves 512 256 rfl, Fin.sum_univ_two_halves 128 384 rfl, add_assoc]
    refine (zero_left (Finset.sum_eq_zero fun c _ => ?_)).trans (congrArg₂ _ (Finset.sum_congr rfl fun c _ => ?_)
      (Finset.sum_congr rfl fun c _ => ?_)) <;> have := c.isLt <;> simp only []
    · rw [dif_pos (by omega), zero_mul]
    · rw [dif_neg (by omega), dif_pos (by omega)]
      congr 3; apply Fin.ext; simp
    · rw [dif_neg (by omega), dif_neg (by omega)]
      congr 3; apply Fin.ext; simp; omega

/-- One quarter's row: the mean of the values under the exponentials of the scores, the sink's in the sum only. -/
theorem quarter (s : FVec Ideal S128x640 .f32) (sk : Elt Ideal .f32) (t : ℝ) (ht : sk = (t : EReal)) (r : Fin 128)
    (V : ℕ → Prop) [DecidablePred V] (σ : ℕ → ℝ) (hV : ∀ c, 384 ≤ c → V c)
    (hs : ∀ c : Fin 640, s (ix2 r c) = if V c then (σ c : EReal) else ⊥) (v : ℕ → EReal) (v' : ℕ → EReal) :
    Ideal.div ((∑ c : Fin 384, weight s (maxOf s sk) (ix2 r ⟨c, by omega⟩) * v c)
        + ∑ c : Fin 256, weight s (maxOf s sk) (ix2 r ⟨384 + c, by omega⟩) * v' c)
        (denOf (weight s (maxOf s sk)) (maxOf s sk) sk (ix2 r 0))
      = (∑ c : Fin 384, (((if V c then Real.exp (σ c * Real.log 2) else 0)
          / ((∑ c : Fin 384, if V c then Real.exp (σ c * Real.log 2) else 0)
            + (∑ c : Fin 256, Real.exp (σ (384 + c) * Real.log 2)) + Real.exp (t * Real.log 2)) : ℝ) : EReal) * v c)
        + ∑ c : Fin 256, ((Real.exp (σ (384 + c) * Real.log 2)
          / ((∑ c : Fin 384, if V c then Real.exp (σ c * Real.log 2) else 0)
            + (∑ c : Fin 256, Real.exp (σ (384 + c) * Real.log 2)) + Real.exp (t * Real.log 2)) : ℝ) : EReal) * v' c := by
  obtain ⟨E, hE, hw, hd⟩ := chain s sk t ht r V σ hs
  have hD : (∑ c : Fin 640, if V c then Real.exp (σ c * Real.log 2) else 0)
      = (∑ c : Fin 384, if V c then Real.exp (σ c * Real.log 2) else 0)
            + (∑ c : Fin 256, Real.exp (σ (384 + c) * Real.log 2)) := by
    rw [Fin.sum_univ_two_halves 384 256 rfl]
    exact congrArg₂ _ rfl (Finset.sum_congr rfl fun c _ => if_pos (hV _ (by simp)))
  rw [hd, hD, ← Soft.mean (fun c : Fin 384 => if V c then Real.exp (σ c * Real.log 2) else 0)
    (fun c : Fin 256 => Real.exp (σ (384 + c) * Real.log 2)) (fun c => v c) (fun c => v' c) (E := E) ?_ hE]
  · congr 2
    · exact Finset.sum_congr rfl fun c _ => by rw [hw]
    · exact Finset.sum_congr rfl fun c _ => by rw [hw, if_pos (hV _ (by simp))]
  · exact add_pos_of_nonneg_of_pos (add_nonneg (Finset.sum_nonneg fun c _ => by split <;> positivity)
      (Finset.sum_nonneg fun c _ => by positivity)) (Real.exp_pos _)

end Cert.KernelIdeal.Att
-- ==== Proof.Spec.lean ====
/- The attention of one block of rows as a formula over real scores, and that a head's computation on a half block is it. -/
module

public import proofs.«01_k».proof.Proof.HeadValue

@[expose] public section

set_option maxRecDepth 16384

noncomputable section

namespace Cert.KernelIdeal.Att

open Cert.KernelIdeal Cert.KernelIdeal.Gen Idealize.ShloMosaic Idealize.ShloMosaic.TcCoe Idealize.SL.Sem

/-- What a block of 512 rows sees: its queries, the transposed keys and the values of the rows from 128 before it to 128
    after it, those of the context, the sinks, and which block of the sequence it is. -/
structure Blk where
  q : ℕ → ℕ → ℝ
  k : ℕ → ℕ → ℝ
  kc : ℕ → ℕ → ℝ
  sk : ℕ → ℝ
  v : ℕ → ℕ → EReal
  vc : ℕ → ℕ → EReal
  i : ℕ

namespace Blk

variable (b : Blk)

/-- Whether row `r` sees the key in column `c` of its window. -/
def Sees (r c : ℕ) : Prop := InBand (r % 128) c (r / 128 = 0 → 0 < b.i) (r / 128 = 3 → b.i < 15)

instance (r c : ℕ) : Decidable (b.Sees r c) := by unfold Sees; infer_instance

/-- The score of row `r` against column `c` of its window. -/
def score (hd r c : ℕ) : ℝ :=
  (∑ x : Fin 64, b.q r (64 * hd + x) * b.k (64 * (hd / 4) + x) (128 * (r / 128) + c)) * Real.log 2

/-- The score of row `r` against key `c` of the context. -/
def scoreC (hd r c : ℕ) : ℝ := (∑ x : Fin 64, b.q r (64 * hd + x) * b.kc (64 * (hd / 4) + x) c) * Real.log 2

/-- The exponential of a score of the window, zero outside the band. -/
def wt (hd r c : ℕ) : ℝ := if b.Sees r c then Real.exp (b.score hd r c) else 0

/-- The sum of the exponentials. -/
def den (hd r : ℕ) : ℝ :=
  (∑ c : Fin 384, b.wt hd r c) + (∑ c : Fin 256, Real.exp (b.scoreC hd r c)) + Real.exp (b.sk hd)

/-- The attention of head `hd` in row `r`, lane `j`. -/
def att (hd r j : ℕ) : EReal :=
  (∑ c : Fin 384, ((b.wt hd r c / b.den hd r : ℝ) : EReal) * b.v (128 * (r / 128) + c) (64 * (hd / 4) + j))
    + ∑ c : Fin 256, ((Real.exp (b.scoreC hd r c) / b.den hd r : ℝ) : EReal) * b.vc c (64 * (hd / 4) + j)

end Blk

/-- One head on a half block, from its raw scores at an index. -/
theorem headOf_apply (raw : FVec Ideal S256x768 .f32) (b0 a0 b1 a1 : FVec Ideal S128x128 .f32) (sk : Elt Ideal .f32)
    (vv : FVec Ideal S768x64 .bf16) (ρ : ℕ → ℕ → ℝ) (B A : ℕ → Prop) [DecidablePred B] [DecidablePred A] (t : ℝ)
    (ν : ℕ → ℕ → EReal) (hraw : ∀ (r : Fin 256) (c : Fin 768), raw (ix2 r c) = (ρ r c : EReal))
    (hb0 : ∀ r c : Fin 128, b0 (ix2 r c) = if r.val ≤ c.val ∧ B 0 then (0 : EReal) else ⊥)
    (ha0 : ∀ r c : Fin 128, a0 (ix2 r c) = if c.val ≤ r.val ∧ A 0 then (0 : EReal) else ⊥)
    (hb1 : ∀ r c : Fin 128, b1 (ix2 r c) = if r.val ≤ c.val ∧ B 1 then (0 : EReal) else ⊥)
    (ha1 : ∀ r c : Fin 128, a1 (ix2 r c) = if c.val ≤ r.val ∧ A 1 then (0 : EReal) else ⊥)
    (hsk : sk = (t : EReal)) (hvv : ∀ (x : Fin 768) (j : Fin 64), vv (ix2 x j) = ν x j) (r : Fin 256) (j : Fin 64)
    (W : ℕ → ℝ) (C : ℕ → ℝ) (D : ℝ)
    (hW : ∀ c, c < 384 → W c = if InBand (r.val % 128) c (B (r.val / 128)) (A (r.val / 128))
      then Real.exp (ρ r (128 * (r.val / 128) + c) * Real.log 2) else 0)
    (hC : ∀ c, C c = Real.exp (ρ r (512 + c) * Real.log 2))
    (hD : D = (∑ c : Fin 384, W c) + (∑ c : Fin 256, C c) + Real.exp (t * Real.log 2)) :
    headOf raw b0 a0 b1 a1 sk vv (ix2 r j)
      = (∑ c : Fin 384, ((W c / D : ℝ) : EReal) * ν (128 * (r.val / 128) + c) j)
        + ∑ c : Fin 256, ((C c / D : ℝ) : EReal) * ν (512 + c) j := by
  subst hD
  have hr := r.isLt
  have low : ∀ u (c : Fin 384), colOf u c = 128 * u + c := fun u c => if_pos c.isLt
  have high : ∀ u (c : Fin 256), colOf u (384 + c) = 512 + c := fun u c => by
    unfold colOf; rw [if_neg (by omega)]; omega
  unfold headOf
  rw [outOf_apply]
  simp only [hvv]
  have hinb : ∀ (r : ℕ) (B A : Prop) (c : ℕ), 384 ≤ c → InBand r c B A := fun r B A c hc =>
    ⟨fun _ => by omega, fun _ _ => by omega⟩
  have hW' : ∀ c : Fin 384, W c = _ := fun c => hW c c.isLt
  simp only [hW', hC]
  split
  · rename_i h
    have e0 : r.val / 128 = 0 := by omega
    have e1 : r.val % 128 = r.val := by omega
    simp only [e0, e1]
    refine (quarter (score0 raw b0 a0) sk t hsk ⟨r, h⟩ (fun c => InBand r c (B 0) (A 0)) (fun c => ρ r (colOf 0 c))
      (hinb _ _ _) (fun c => score0_apply raw b0 a0 ρ (B 0) (A 0) hraw hb0 ha0 _ c)
      (fun c => ν (128 * 0 + c) j) (fun c => ν (512 + c) j)).trans ?_
    simp only [low, high]
  · rename_i h
    have e0 : r.val / 128 = 1 := by omega
    have e1 : r.val % 128 = r.val - 128 := by omega
    have e2 : 128 * 1 + (r.val - 128) = r.val := by omega
    simp only [e0, e1]
    refine (quarter (score1 raw b1 a1) sk t hsk ⟨r - 128, by omega⟩ (fun c => InBand (r - 128) c (B 1) (A 1))
      (fun c => ρ (128 * 1 + (r.val - 128)) (colOf 1 c))
      (hinb _ _ _) (fun c => score1_apply raw b1 a1 ρ (B 1) (A 1) hraw hb1 ha1 _ c)
      (fun c => ν (128 * 1 + c) j) (fun c => ν (512 + c) j)).trans ?_
    simp only [low, high, e2]

/-- The keys that meet half block `rb`: the first 512 columns are of the window, the rest of the context. -/
def Blk.kk (b : Blk) (hd rb x c : ℕ) : ℝ :=
  if c < 512 then b.k (64 * (hd / 4) + x) (256 * rb + c) else b.kc (64 * (hd / 4) + x) (c - 512)

/-- The sum behind a raw score of half block `rb`. -/
def Blk.raw (b : Blk) (hd rb r c : ℕ) : ℝ := ∑ x : Fin 64, b.q (256 * rb + r) (64 * hd + x) * b.kk hd rb x c

/-- One head on a half block is the formula. -/
theorem half_att (b : Blk) (hd rb : ℕ) (hrb : rb < 2) (raw : FVec Ideal S256x768 .f32)
    (b0 a0 b1 a1 : FVec Ideal S128x128 .f32) (sk : Elt Ideal .f32) (vv : FVec Ideal S768x64 .bf16)
    (hraw : ∀ (r : Fin 256) (c : Fin 768), raw (ix2 r c) = (b.raw hd rb r c : EReal))
    (hb0 : ∀ r c : Fin 128, b0 (ix2 r c) = if r.val ≤ c.val ∧ (2 * rb + 0 = 0 → 0 < b.i) then (0 : EReal) else ⊥)
    (ha0 : ∀ r c : Fin 128, a0 (ix2 r c) = if c.val ≤ r.val ∧ (2 * rb + 0 = 3 → b.i < 15) then (0 : EReal) else ⊥)
    (hb1 : ∀ r c : Fin 128, b1 (ix2 r c) = if r.val ≤ c.val ∧ (2 * rb + 1 = 0 → 0 < b.i) then (0 : EReal) else ⊥)
    (ha1 : ∀ r c : Fin 128, a1 (ix2 r c) = if c.val ≤ r.val ∧ (2 * rb + 1 = 3 → b.i < 15) then (0 : EReal) else ⊥)
    (hsk : sk = ((b.sk hd * (Real.log 2)⁻¹ : ℝ) : EReal))
    (hvv : ∀ (x : Fin 768) (j : Fin 64), vv (ix2 x j)
      = if x.val < 512 then b.v (256 * rb + x) (64 * (hd / 4) + j) else b.vc (x - 512) (64 * (hd / 4) + j))
    (r : Fin 256) (j : Fin 64) :
    headOf raw b0 a0 b1 a1 sk vv (ix2 r j) = b.att hd (256 * rb + r) j := by
  have hr := r.isLt
  have e0 : (256 * rb + r.val) / 128 = 2 * rb + r.val / 128 := by omega
  have e1 : (256 * rb + r.val) % 128 = r.val % 128 := by omega
  have hl : Real.log 2 ≠ 0 := (Real.log_pos (by norm_num)).ne'
  refine (headOf_apply raw b0 a0 b1 a1 sk vv (b.raw hd rb) (fun u => 2 * rb + u = 0 → 0 < b.i)
    (fun u => 2 * rb + u = 3 → b.i < 15) _
    (fun x j => if x < 512 then b.v (256 * rb + x) (64 * (hd / 4) + j) else b.vc (x - 512) (64 * (hd / 4) + j))
    hraw hb0 ha0 hb1 ha1 hsk hvv r j (fun c => b.wt hd (256 * rb + r) c)
    (fun c => Real.exp (b.scoreC hd (256 * rb + r) c)) (b.den hd (256 * rb + r)) (fun c hc => ?_) (fun c => ?_) ?_).trans ?_
  · unfold Blk.wt Blk.Sees Blk.score Blk.raw Blk.kk
    have h2 : 128 * (r.val / 128) + c < 512 := by omega
    have h3 : 128 * (2 * rb + r.val / 128) + c = 256 * rb + (128 * (r.val / 128) + c) := by omega
    simp only [e0, e1, if_pos h2, h3]
  · unfold Blk.scoreC Blk.raw Blk.kk
    simp
  · unfold Blk.den
    rw [inv_mul_cancel_right₀ hl]
  · unfold Blk.att
    congr 1 <;> refine Finset.sum_congr rfl fun c _ => ?_ <;> have := c.isLt <;> congr 1
    · rw [if_pos (by omega), e0]; congr 1; omega

/-- Raw scores of the first head of a pair: its lanes are the first 64. -/
theorem raw_even (q : Vec Ideal S256x128 .bf16) (kk : FVec Ideal S64x768 .bf16) (Q : ℕ → ℕ → ℝ) (K : ℕ → ℕ → ℝ)
    (hq : ∀ (r : Fin 256) (x : Fin 128), q (ix2 r x) = (Q r x : EReal))
    (hk : ∀ (x : Fin 64) (c : Fin 768), kk (ix2 x c) = (K x c : EReal)) (r : Fin 256) (c : Fin 768) :
    rawOf q (pairOf kk k0_pay6) (ix2 r c) = ((∑ x : Fin 64, Q r x * K x c : ℝ) : EReal) := by
  pointwise [rawOf, pairOf, k0_pay6]
  simp only [hq, hk, mul_zero, Finset.sum_const_zero, add_zero, Soft.coe_sum, EReal.coe_mul]

/-- Raw scores of the second head of a pair. -/
theorem raw_odd (q : Vec Ideal S256x128 .bf16) (kk : FVec Ideal S64x768 .bf16) (Q : ℕ → ℕ → ℝ) (K : ℕ → ℕ → ℝ)
    (hq : ∀ (r : Fin 256) (x : Fin 128), q (ix2 r x) = (Q r x : EReal))
    (hk : ∀ (x : Fin 64) (c : Fin 768), kk (ix2 x c) = (K x c : EReal)) (r : Fin 256) (c : Fin 768) :
    rawOf q (pairOf k0_pay6 kk) (ix2 r c) = ((∑ x : Fin 64, Q r (64 + x) * K x c : ℝ) : EReal) := by
  pointwise [rawOf, pairOf, k0_pay6]
  simp only [hq, hk, mul_zero, Finset.sum_const_zero, zero_add, Soft.coe_sum, EReal.coe_mul]

/-- The three pieces of the window side by side. -/
theorem keysW_apply (kp : Vec Ideal S64x128 .bf16) (km : Vec Ideal S64x512 .bf16) (kn : Vec Ideal S64x128 .bf16)
    (K : ℕ → ℕ → EReal) (hp : ∀ (x : Fin 64) (c : Fin 128), kp (ix2 x c) = K x c)
    (hm : ∀ (x : Fin 64) (c : Fin 512), km (ix2 x c) = K x (128 + c))
    (hn : ∀ (x : Fin 64) (c : Fin 128), kn (ix2 x c) = K x (640 + c)) (x : Fin 64) (c : Fin 768) :
    keysW kp km kn (ix2 x c) = K x c := by
  have := c.isLt
  pointwise [keysW]
  split
  · exact hp _ _
  split
  · exact (hm _ _).trans (congrArg _ (by simp; omega))
  · exact (hn _ _).trans (congrArg _ (by simp; omega))

theorem valsW_apply (vp : Vec Ideal S128x64 .bf16) (vm : Vec Ideal S512x64 .bf16) (vn : Vec Ideal S128x64 .bf16)
    (N : ℕ → ℕ → EReal) (hp : ∀ (x : Fin 128) (j : Fin 64), vp (ix2 x j) = N x j)
    (hm : ∀ (x : Fin 512) (j : Fin 64), vm (ix2 x j) = N (128 + x) j)
    (hn : ∀ (x : Fin 128) (j : Fin 64), vn (ix2 x j) = N (640 + x) j) (x : Fin 768) (j : Fin 64) :
    valsW vp vm vn (ix2 x j) = N x j := by
  have := x.isLt
  pointwise [valsW]
  split
  · exact hp _ _
  split
  · exact (hm _ _).trans (congrArg (fun a => N a j) (by simp; omega))
  · exact (hn _ _).trans (congrArg (fun a => N a j) (by simp; omega))

/-- The keys of the first half block: 512 of the window, then the context. -/
theorem keys0_apply (kw : FVec Ideal S64x768 .bf16) (kc : Vec Ideal S64x256 .bf16) (K Kc : ℕ → ℕ → EReal)
    (hw : ∀ (x : Fin 64) (c : Fin 768), kw (ix2 x c) = K x c) (hc : ∀ (x : Fin 64) (c : Fin 256), kc (ix2 x c) = Kc x c)
    (x : Fin 64) (c : Fin 768) : keys0 kw kc (ix2 x c) = if c.val < 512 then K x (256 * 0 + c) else Kc x (c - 512) := by
  pointwise [keys0]
  split
  · exact hw _ _
  · exact hc _ _

theorem keys1_apply (kw : FVec Ideal S64x768 .bf16) (kc : Vec Ideal S64x256 .bf16) (K Kc : ℕ → ℕ → EReal)
    (hw : ∀ (x : Fin 64) (c : Fin 768), kw (ix2 x c) = K x c) (hc : ∀ (x : Fin 64) (c : Fin 256), kc (ix2 x c) = Kc x c)
    (x : Fin 64) (c : Fin 768) : keys1 kw kc (ix2 x c) = if c.val < 512 then K x (256 * 1 + c) else Kc x (c - 512) := by
  pointwise [keys1]
  split
  · exact hw _ _
  · exact hc _ _

theorem vals0_apply (vw : FVec Ideal S768x64 .bf16) (vc : Vec Ideal S256x64 .bf16) (N Nc : ℕ → ℕ → EReal)
    (hw : ∀ (x : Fin 768) (j : Fin 64), vw (ix2 x j) = N x j) (hc : ∀ (x : Fin 256) (j : Fin 64), vc (ix2 x j) = Nc x j)
    (x : Fin 768) (j : Fin 64) : vals0 vw vc (ix2 x j) = if x.val < 512 then N (256 * 0 + x) j else Nc (x - 512) j := by
  pointwise [vals0]
  split
  · exact hw _ _
  · exact hc _ _

theorem vals1_apply (vw : FVec Ideal S768x64 .bf16) (vc : Vec Ideal S256x64 .bf16) (N Nc : ℕ → ℕ → EReal)
    (hw : ∀ (x : Fin 768) (j : Fin 64), vw (ix2 x j) = N x j) (hc : ∀ (x : Fin 256) (j : Fin 64), vc (ix2 x j) = Nc x j)
    (x : Fin 768) (j : Fin 64) : vals1 vw vc (ix2 x j) = if x.val < 512 then N (256 * 1 + x) j else Nc (x - 512) j := by
  pointwise [vals1]
  split
  · exact hw _ _
  · exact hc _ _

end Cert.KernelIdeal.Att
-- ==== Proof.Piece.lean ====
/- One stored piece of a block: one head on one half of the rows, from the slices that the kernel loads for it. -/
module

public import proofs.«01_k».proof.Proof.Spec
public import Idealize.ShloMosaic.Lib.Pipeline.ValueKit
public import Idealize.ShloMosaic.Lib.Pipeline.ReadBack

@[expose] public section

set_option maxRecDepth 16384

noncomputable section

namespace Cert.KernelIdeal.Att

open Cert.KernelIdeal Cert.KernelIdeal.Gen Idealize.ShloMosaic Idealize.ShloMosaic.TcCoe Idealize.SL.Sem

/-- A slice loaded from an array of two axes. -/
theorem ld2 {e : EltTy} {M N : ℕ} (X : (⟨2, ![M, N]⟩ : Shape).Idx → Elt Ideal e) (f : ℕ → ℕ → Elt Ideal e)
    (hX : ∀ (i : Fin M) (j : Fin N), X (ix2 i j) = f i j) (o p a b : ℕ) (inb) (r : Fin a) (c : Fin b) :
    View.ld X (Rect.unit ![o, p] ![a, b] inb) (ix2 r c) = f (o + r) (p + c) := by
  have h0 : o + a ≤ M := inb 0
  have h1 : p + b ≤ N := inb 1
  rw [View.ld_unit_apply_of X ![o, p] ![a, b] inb (ix2 r c) (ix2 ⟨o + r, by omega⟩ ⟨p + c, by omega⟩)
    (by intro i; fin_cases i <;> rfl)]
  exact hX _ _

/-- The keys and values that one head loads. -/
structure Loads (b : Blk) (hd : ℕ) (kp : Vec Ideal S64x128 .bf16) (km : Vec Ideal S64x512 .bf16)
    (kn : Vec Ideal S64x128 .bf16) (kc : Vec Ideal S64x256 .bf16) (vp : Vec Ideal S128x64 .bf16)
    (vm : Vec Ideal S512x64 .bf16) (vn : Vec Ideal S128x64 .bf16) (vc : Vec Ideal S256x64 .bf16) : Prop where
  kp : ∀ (x : Fin 64) (c : Fin 128), kp (ix2 x c) = (b.k (64 * (hd / 4) + x) c : EReal)
  km : ∀ (x : Fin 64) (c : Fin 512), km (ix2 x c) = (b.k (64 * (hd / 4) + x) (128 + c) : EReal)
  kn : ∀ (x : Fin 64) (c : Fin 128), kn (ix2 x c) = (b.k (64 * (hd / 4) + x) (640 + c) : EReal)
  kc : ∀ (x : Fin 64) (c : Fin 256), kc (ix2 x c) = (b.kc (64 * (hd / 4) + x) c : EReal)
  vp : ∀ (x : Fin 128) (j : Fin 64), vp (ix2 x j) = b.v x (64 * (hd / 4) + j)
  vm : ∀ (x : Fin 512) (j : Fin 64), vm (ix2 x j) = b.v (128 + x) (64 * (hd / 4) + j)
  vn : ∀ (x : Fin 128) (j : Fin 64), vn (ix2 x j) = b.v (640 + x) (64 * (hd / 4) + j)
  vc : ∀ (x : Fin 256) (j : Fin 64), vc (ix2 x j) = b.vc x (64 * (hd / 4) + j)

section

variable (b : Blk) (hd : ℕ) (q : Vec Ideal S256x128 .bf16) (kp : Vec Ideal S64x128 .bf16) (km : Vec Ideal S64x512 .bf16)
  (kn : Vec Ideal S64x128 .bf16) (kc : Vec Ideal S64x256 .bf16) (vp : Vec Ideal S128x64 .bf16)
  (vm : Vec Ideal S512x64 .bf16) (vn : Vec Ideal S128x64 .bf16) (vc : Vec Ideal S256x64 .bf16) (sk : Elt Ideal .f32)
  (i : grid0.Coords)

theorem kk0 (h : Loads b hd kp km kn kc vp vm vn vc) (x : Fin 64) (c : Fin 768) :
    keys0 (keysW kp km kn) kc (ix2 x c)
      = (b.kk hd 0 x c : EReal) := by
  unfold Blk.kk
  rw [keys0_apply _ _ (fun x c => (b.k (64 * (hd / 4) + x) c : EReal)) (fun x c => (b.kc (64 * (hd / 4) + x) c : EReal))
    (keysW_apply _ _ _ (fun x c => (b.k (64 * (hd / 4) + x) c : EReal)) h.kp h.km h.kn) h.kc]
  split <;> rfl

theorem kk1 (h : Loads b hd kp km kn kc vp vm vn vc) (x : Fin 64) (c : Fin 768) :
    keys1 (keysW kp km kn) kc (ix2 x c)
      = (b.kk hd 1 x c : EReal) := by
  unfold Blk.kk
  rw [keys1_apply _ _ (fun x c => (b.k (64 * (hd / 4) + x) c : EReal)) (fun x c => (b.kc (64 * (hd / 4) + x) c : EReal))
    (keysW_apply _ _ _ (fun x c => (b.k (64 * (hd / 4) + x) c : EReal)) h.kp h.km h.kn) h.kc]
  split <;> rfl

/-- The masks of the first half block. -/
theorem half0 (raw : FVec Ideal S256x768 .f32) (hi : b.i = (i 1).val)
    (h : Loads b hd kp km kn kc vp vm vn vc) (hsk : sk = ((b.sk hd * (Real.log 2)⁻¹ : ℝ) : EReal))
    (hraw : ∀ (r : Fin 256) (c : Fin 768), raw (ix2 r c) = (b.raw hd 0 r c : EReal)) (r : Fin 256) (j : Fin 64) :
    headOf raw (k0_pay4 i) k0_pay3 k0_pay2 k0_pay3 sk (vals0 (valsW vp vm vn) vc) (ix2 r j) = b.att hd (256 * 0 + r) j := by
  refine half_att b hd 0 (by omega) raw _ _ _ _ sk _ hraw (fun r c => ?_) (fun r c => ?_) (fun r c => ?_) (fun r c => ?_)
    hsk (fun x j => ?_) r j
  · rw [pay4_apply, hi]; exact if_congr (by simp) rfl rfl
  · rw [pay3_apply]; exact if_congr (by simp) rfl rfl
  · rw [pay2_apply]; exact if_congr (by simp) rfl rfl
  · rw [pay3_apply]; exact if_congr (by simp) rfl rfl
  · exact vals0_apply _ _ (fun x j => b.v x (64 * (hd / 4) + j)) (fun x j => b.vc x (64 * (hd / 4) + j))
      (valsW_apply _ _ _ (fun x j => b.v x (64 * (hd / 4) + j)) h.vp h.vm h.vn) h.vc x j

/-- The masks of the second half block. -/
theorem half1 (raw : FVec Ideal S256x768 .f32) (hi : b.i = (i 1).val)
    (h : Loads b hd kp km kn kc vp vm vn vc) (hsk : sk = ((b.sk hd * (Real.log 2)⁻¹ : ℝ) : EReal))
    (hraw : ∀ (r : Fin 256) (c : Fin 768), raw (ix2 r c) = (b.raw hd 1 r c : EReal)) (r : Fin 256) (j : Fin 64) :
    headOf raw k0_pay2 k0_pay3 k0_pay2 (k0_pay5 i) sk (vals1 (valsW vp vm vn) vc) (ix2 r j) = b.att hd (256 * 1 + r) j := by
  refine half_att b hd 1 (by omega) raw _ _ _ _ sk _ hraw (fun r c => ?_) (fun r c => ?_) (fun r c => ?_) (fun r c => ?_)
    hsk (fun x j => ?_) r j
  · rw [pay2_apply]; exact if_congr (by simp) rfl rfl
  · rw [pay3_apply]; exact if_congr (by simp) rfl rfl
  · rw [pay2_apply]; exact if_congr (by simp) rfl rfl
  · rw [pay5_apply, hi]; exact if_congr (by simp) rfl rfl
  · exact vals1_apply _ _ (fun x j => b.v x (64 * (hd / 4) + j)) (fun x j => b.vc x (64 * (hd / 4) + j))
      (valsW_apply _ _ _ (fun x j => b.v x (64 * (hd / 4) + j)) h.vp h.vm h.vn) h.vc x j

variable (hi : b.i = (i 1).val) (h : Loads b hd kp km kn kc vp vm vn vc)
  (hsk : sk = ((b.sk hd * (Real.log 2)⁻¹ : ℝ) : EReal)) (r : Fin 256) (j : Fin 64)

include hi h hsk

/-- The first head of a pair on the first half block. -/
theorem even0 (hq : ∀ (r : Fin 256) (x : Fin 128), q (ix2 r x) = (b.q (256 * 0 + r) (64 * hd + x) : EReal)) :
    headOf (rawOf q (pairOf (keys0 (keysW kp km kn) kc) k0_pay6)) (k0_pay4 i) k0_pay3 k0_pay2 k0_pay3 sk
      (vals0 (valsW vp vm vn) vc) (ix2 r j) = b.att hd (256 * 0 + r) j :=
  half0 b hd kp km kn kc vp vm vn vc sk i _ hi h hsk (fun r c =>
    raw_even q _ (fun r x => b.q (256 * 0 + r) (64 * hd + x)) (b.kk hd 0) hq (kk0 b hd kp km kn kc vp vm vn vc h) r c) r j

/-- The second head of a pair on the first half block. -/
theorem odd0 (o : ℕ) (ho : 64 * hd = o + 64)
    (hq : ∀ (r : Fin 256) (x : Fin 128), q (ix2 r x) = (b.q (256 * 0 + r) (o + x) : EReal)) :
    headOf (rawOf q (pairOf k0_pay6 (keys0 (keysW kp km kn) kc))) (k0_pay4 i) k0_pay3 k0_pay2 k0_pay3 sk
      (vals0 (valsW vp vm vn) vc) (ix2 r j) = b.att hd (256 * 0 + r) j :=
  half0 b hd kp km kn kc vp vm vn vc sk i _ hi h hsk (fun r c => by
    rw [raw_odd q _ (fun r x => b.q (256 * 0 + r) (o + x)) (b.kk hd 0) hq (kk0 b hd kp km kn kc vp vm vn vc h) r c]
    unfold Blk.raw; simp only [ho, add_assoc]) r j

/-- The first head of a pair on the second half block. -/
theorem even1 (hq : ∀ (r : Fin 256) (x : Fin 128), q (ix2 r x) = (b.q (256 * 1 + r) (64 * hd + x) : EReal)) :
    headOf (rawOf q (pairOf (keys1 (keysW kp km kn) kc) k0_pay6)) k0_pay2 k0_pay3 k0_pay2 (k0_pay5 i) sk
      (vals1 (valsW vp vm vn) vc) (ix2 r j) = b.att hd (256 * 1 + r) j :=
  half1 b hd kp km kn kc vp vm vn vc sk i _ hi h hsk (fun r c =>
    raw_even q _ (fun r x => b.q (256 * 1 + r) (64 * hd + x)) (b.kk hd 1) hq (kk1 b hd kp km kn kc vp vm vn vc h) r c) r j

/-- The second head of a pair on the second half block. -/
theorem odd1 (o : ℕ) (ho : 64 * hd = o + 64)
    (hq : ∀ (r : Fin 256) (x : Fin 128), q (ix2 r x) = (b.q (256 * 1 + r) (o + x) : EReal)) :
    headOf (rawOf q (pairOf k0_pay6 (keys1 (keysW kp km kn) kc))) k0_pay2 k0_pay3 k0_pay2 (k0_pay5 i) sk
      (vals1 (valsW vp vm vn) vc) (ix2 r j) = b.att hd (256 * 1 + r) j :=
  half1 b hd kp km kn kc vp vm vn vc sk i _ hi h hsk (fun r c => by
    rw [raw_odd q _ (fun r x => b.q (256 * 1 + r) (o + x)) (b.kk hd 1) hq (kk1 b hd kp km kn kc vp vm vn vc h) r c]
    unfold Blk.raw; simp only [ho, add_assoc]) r j

end

end Cert.KernelIdeal.Att
-- ==== Proof.Body.lean ====
/- The block that one grid point writes: the attention of its rows, projected and added to the residual. -/
module

public import proofs.«01_k».proof.Proof.Piece

@[expose] public section

set_option maxRecDepth 16384

noncomputable section

namespace Cert.KernelIdeal.Att

open Cert.KernelIdeal Cert.KernelIdeal.Gen Idealize.ShloMosaic Idealize.ShloMosaic.TcCoe Idealize.SL.Sem

/-- That the staged blocks hold what `b` names. -/
structure Blocks (b : Blk) (X0 : Vec Ideal S16 .f32) (X2 : Vec Ideal S512x1024 .bf16) (X3 : Vec Ideal S256x128 .bf16)
    (X4 : Vec Ideal S256x512 .bf16) (X5 : Vec Ideal S256x128 .bf16) (X6 : Vec Ideal S256x256 .bf16)
    (X7 : Vec Ideal S128x256 .bf16) (X8 : Vec Ideal S512x256 .bf16) (X9 : Vec Ideal S128x256 .bf16)
    (X10 : Vec Ideal S256x256 .bf16) : Prop where
  sk : ∀ h : Fin 16, X0 (ix1 h) = (b.sk h : EReal)
  q : ∀ (r : Fin 512) (x : Fin 1024), X2 (ix2 r x) = (b.q r x : EReal)
  kp : ∀ (x : Fin 256) (c : Fin 128), X3 (ix2 x c) = (b.k x c : EReal)
  km : ∀ (x : Fin 256) (c : Fin 512), X4 (ix2 x c) = (b.k x (128 + c) : EReal)
  kn : ∀ (x : Fin 256) (c : Fin 128), X5 (ix2 x c) = (b.k x (640 + c) : EReal)
  kc : ∀ (x : Fin 256) (c : Fin 256), X6 (ix2 x c) = (b.kc x c : EReal)
  vp : ∀ (x : Fin 128) (j : Fin 256), X7 (ix2 x j) = b.v x j
  vm : ∀ (x : Fin 512) (j : Fin 256), X8 (ix2 x j) = b.v (128 + x) j
  vn : ∀ (x : Fin 128) (j : Fin 256), X9 (ix2 x j) = b.v (640 + x) j
  vc : ∀ (x : Fin 256) (j : Fin 256), X10 (ix2 x j) = b.vc x j

/-- The attention of all heads, lane by lane. -/
def Blk.all (b : Blk) (y : S512x1024.Idx) : EReal := b.att ((y 1).val / 64) (y 0).val ((y 1).val % 64)

section

variable {b : Blk} {X0 : Vec Ideal S16 .f32} {X2 : Vec Ideal S512x1024 .bf16} {X3 : Vec Ideal S256x128 .bf16}
  {X4 : Vec Ideal S256x512 .bf16} {X5 : Vec Ideal S256x128 .bf16} {X6 : Vec Ideal S256x256 .bf16}
  {X7 : Vec Ideal S128x256 .bf16} {X8 : Vec Ideal S512x256 .bf16} {X9 : Vec Ideal S128x256 .bf16}
  {X10 : Vec Ideal S256x256 .bf16} (B : Blocks b X0 X2 X3 X4 X5 X6 X7 X8 X9 X10) (i : grid0.Coords)
  (hi : b.i = (i 1).val) (hd g : ℕ) (hg : 64 * (hd / 4) = g)

include B

include hg in
theorem Blocks.loads (i3 i4 i5 i6 i7 i8 i9 i10) :
    Loads b hd (View.ld X3 (Rect.unit ![g, 0] ![64, 128] i3)) (View.ld X4 (Rect.unit ![g, 0] ![64, 512] i4))
      (View.ld X5 (Rect.unit ![g, 0] ![64, 128] i5)) (View.ld X6 (Rect.unit ![g, 0] ![64, 256] i6))
      (View.ld X7 (Rect.unit ![0, g] ![128, 64] i7)) (View.ld X8 (Rect.unit ![0, g] ![512, 64] i8))
      (View.ld X9 (Rect.unit ![0, g] ![128, 64] i9)) (View.ld X10 (Rect.unit ![0, g] ![256, 64] i10)) := by
  subst hg
  constructor <;> intro x c
  · simpa using ld2 X3 (fun x c => (b.k x c : EReal)) B.kp _ _ _ _ i3 x c
  · simpa using ld2 X4 (fun x c => (b.k x (128 + c) : EReal)) B.km _ _ _ _ i4 x c
  · simpa using ld2 X5 (fun x c => (b.k x (640 + c) : EReal)) B.kn _ _ _ _ i5 x c
  · simpa using ld2 X6 (fun x c => (b.kc x c : EReal)) B.kc _ _ _ _ i6 x c
  · simpa using ld2 X7 (fun x c => b.v x c) B.vp _ _ _ _ i7 x c
  · simpa using ld2 X8 (fun x c => b.v (128 + x) c) B.vm _ _ _ _ i8 x c
  · simpa using ld2 X9 (fun x c => b.v (640 + x) c) B.vn _ _ _ _ i9 x c
  · simpa using ld2 X10 (fun x c => b.vc x c) B.vc _ _ _ _ i10 x c

theorem Blocks.sink (hhd : hd < 16) (i0) (y : (Rect.unit (s := S16) ![hd] ![1] i0).shape.Idx) :
    sinkOf (F := Ideal) (View.ld X0 (Rect.unit ![hd] ![1] i0) y)
      = ((b.sk hd * (Real.log 2)⁻¹ : ℝ) : EReal) := by
  have hy : (y 0).val < 1 := (y 0).isLt
  unfold sinkOf
  rw [View.ld_unit_apply_of X0 ![hd] ![1] i0 y (ix1 ⟨hd, hhd⟩) (by intro a; fin_cases a; show hd = hd + (y 0).val; omega),
    B.sk, log2e_inv]
  exact (EReal.coe_mul _ _).symm

omit B in
/-- A stored piece is a block of the attention of all heads. -/
theorem at_emb (o p : ℕ) (hp : p = 64 * hd) (inb) (P : S256x64.Idx → EReal)
    (hP : ∀ (r : Fin 256) (j : Fin 64), P (ix2 r j) = b.att hd (o + r) j) (x : S256x64.Idx) :
    P x = b.all ((Rect.unit (s := S512x1024) ![o, p] ![256, 64] inb).emb x) := by
  obtain ⟨r, j, rfl⟩ : ∃ (r : Fin 256) (j : Fin 64), x = ix2 r j :=
    ⟨x 0, x 1, by funext a; fin_cases a <;> rfl⟩
  have hj := j.isLt
  have e0 : (((Rect.unit (s := S512x1024) ![o, p] ![256, 64] inb).emb (ix2 r j)) 0).val = o + r.val :=
    Rect.idx_unit_val (s := S512x1024) ![o, p] ![256, 64] inb (ix2 r j) 0
  have e1 : (((Rect.unit (s := S512x1024) ![o, p] ![256, 64] inb).emb (ix2 r j)) 1).val = p + j.val :=
    Rect.idx_unit_val (s := S512x1024) ![o, p] ![256, 64] inb (ix2 r j) 1
  rw [hP]
  unfold Blk.all
  rw [e0, e1, hp, show (64 * hd + j.val) / 64 = hd by omega, show (64 * hd + j.val) % 64 = j.val by omega]

include hi hg in
theorem evenP0 (hhd : hd < 16) (p o : ℕ) (hp : p = 64 * hd) (ho : o = 64 * hd) (i0 y i2 i3 i4 i5 i6 i7 i8 i9 i10) (inb) (x : S256x64.Idx) :
    headOf (rawOf (View.ld X2 (Rect.unit ![0, o] ![256, 128] i2)) (pairOf (keys0 (keysW (View.ld X3 (Rect.unit ![g, 0] ![64, 128] i3)) (View.ld X4 (Rect.unit ![g, 0] ![64, 512] i4))
        (View.ld X5 (Rect.unit ![g, 0] ![64, 128] i5))) (View.ld X6 (Rect.unit ![g, 0] ![64, 256] i6))) k0_pay6)) (k0_pay4 i) k0_pay3 k0_pay2 k0_pay3
      (sinkOf (View.ld X0 (Rect.unit ![hd] ![1] i0) y))
      (vals0 (valsW (View.ld X7 (Rect.unit ![0, g] ![128, 64] i7)) (View.ld X8 (Rect.unit ![0, g] ![512, 64] i8))
        (View.ld X9 (Rect.unit ![0, g] ![128, 64] i9))) (View.ld X10 (Rect.unit ![0, g] ![256, 64] i10))) x
      = b.all ((Rect.unit (s := S512x1024) ![0, p] ![256, 64] inb).emb x) :=
  at_emb hd 0 p hp inb _ (even0 b hd _ _ _ _ _ _ _ _ _ _ i hi (B.loads hd g hg i3 i4 i5 i6 i7 i8 i9 i10)
    (B.sink hd hhd i0 y) · · (fun r x => by simpa [ho] using ld2 X2 (fun r x => (b.q r x : EReal)) B.q _ _ _ _ i2 r x)) x

include hi hg in
theorem oddP0 (hhd : hd < 16) (p o : ℕ) (hp : p = 64 * hd) (ho : 64 * hd = o + 64) (i0 y i2 i3 i4 i5 i6 i7 i8 i9 i10) (inb) (x : S256x64.Idx) :
    headOf (rawOf (View.ld X2 (Rect.unit ![0, o] ![256, 128] i2)) (pairOf k0_pay6 (keys0 (keysW (View.ld X3 (Rect.unit ![g, 0] ![64, 128] i3)) (View.ld X4 (Rect.unit ![g, 0] ![64, 512] i4))
        (View.ld X5 (Rect.unit ![g, 0] ![64, 128] i5))) (View.ld X6 (Rect.unit ![g, 0] ![64, 256] i6))))) (k0_pay4 i) k0_pay3 k0_pay2 k0_pay3
      (sinkOf (View.ld X0 (Rect.unit ![hd] ![1] i0) y))
      (vals0 (valsW (View.ld X7 (Rect.unit ![0, g] ![128, 64] i7)) (View.ld X8 (Rect.unit ![0, g] ![512, 64] i8))
        (View.ld X9 (Rect.unit ![0, g] ![128, 64] i9))) (View.ld X10 (Rect.unit ![0, g] ![256, 64] i10))) x
      = b.all ((Rect.unit (s := S512x1024) ![0, p] ![256, 64] inb).emb x) :=
  at_emb hd 0 p hp inb _ (odd0 b hd _ _ _ _ _ _ _ _ _ _ i hi (B.loads hd g hg i3 i4 i5 i6 i7 i8 i9 i10)
    (B.sink hd hhd i0 y) · · o ho (fun r x => by simpa using ld2 X2 (fun r x => (b.q r x : EReal)) B.q _ _ _ _ i2 r x)) x

include hi hg in
theorem evenP1 (hhd : hd < 16) (p o : ℕ) (hp : p = 64 * hd) (ho : o = 64 * hd) (i0 y i2 i3 i4 i5 i6 i7 i8 i9 i10) (inb) (x : S256x64.Idx) :
    headOf (rawOf (View.ld X2 (Rect.unit ![256, o] ![256, 128] i2)) (pairOf (keys1 (keysW (View.ld X3 (Rect.unit ![g, 0] ![64, 128] i3)) (View.ld X4 (Rect.unit ![g, 0] ![64, 512] i4))
        (View.ld X5 (Rect.unit ![g, 0] ![64, 128] i5))) (View.ld X6 (Rect.unit ![g, 0] ![64, 256] i6))) k0_pay6)) k0_pay2 k0_pay3 k0_pay2 (k0_pay5 i)
      (sinkOf (View.ld X0 (Rect.unit ![hd] ![1] i0) y))
      (vals1 (valsW (View.ld X7 (Rect.unit ![0, g] ![128, 64] i7)) (View.ld X8 (Rect.unit ![0, g] ![512, 64] i8))
        (View.ld X9 (Rect.unit ![0, g] ![128, 64] i9))) (View.ld X10 (Rect.unit ![0, g] ![256, 64] i10))) x
      = b.all ((Rect.unit (s := S512x1024) ![256, p] ![256, 64] inb).emb x) :=
  at_emb hd 256 p hp inb _ (even1 b hd _ _ _ _ _ _ _ _ _ _ i hi (B.loads hd g hg i3 i4 i5 i6 i7 i8 i9 i10)
    (B.sink hd hhd i0 y) · · (fun r x => by simpa [ho] using ld2 X2 (fun r x => (b.q r x : EReal)) B.q _ _ _ _ i2 r x)) x

include hi hg in
theorem oddP1 (hhd : hd < 16) (p o : ℕ) (hp : p = 64 * hd) (ho : 64 * hd = o + 64) (i0 y i2 i3 i4 i5 i6 i7 i8 i9 i10) (inb) (x : S256x64.Idx) :
    headOf (rawOf (View.ld X2 (Rect.unit ![256, o] ![256, 128] i2)) (pairOf k0_pay6 (keys1 (keysW (View.ld X3 (Rect.unit ![g, 0] ![64, 128] i3)) (View.ld X4 (Rect.unit ![g, 0] ![64, 512] i4))
        (View.ld X5 (Rect.unit ![g, 0] ![64, 128] i5))) (View.ld X6 (Rect.unit ![g, 0] ![64, 256] i6))))) k0_pay2 k0_pay3 k0_pay2 (k0_pay5 i)
      (sinkOf (View.ld X0 (Rect.unit ![hd] ![1] i0) y))
      (vals1 (valsW (View.ld X7 (Rect.unit ![0, g] ![128, 64] i7)) (View.ld X8 (Rect.unit ![0, g] ![512, 64] i8))
        (View.ld X9 (Rect.unit ![0, g] ![128, 64] i9))) (View.ld X10 (Rect.unit ![0, g] ![256, 64] i10))) x
      = b.all ((Rect.unit (s := S512x1024) ![256, p] ![256, 64] inb).emb x) :=
  at_emb hd 256 p hp inb _ (odd1 b hd _ _ _ _ _ _ _ _ _ _ i hi (B.loads hd g hg i3 i4 i5 i6 i7 i8 i9 i10)
    (B.sink hd hhd i0 y) · · o ho (fun r x => by simpa using ld2 X2 (fun r x => (b.q r x : EReal)) B.q _ _ _ _ i2 r x)) x

end

end Cert.KernelIdeal.Att
-- ==== Proof.Run.lean ====
/- One run of the body, opened: the block it leaves is the projected attention added to the residual. -/
module

public import proofs.«01_k».proof.Proof.Body

@[expose] public section

set_option maxRecDepth 200000

noncomputable section

namespace Cert.KernelIdeal.Att

open Cert.KernelIdeal Cert.KernelIdeal.Gen Idealize.ShloMosaic Idealize.ShloMosaic.TcCoe Idealize.SL.Sem

/-- The whole of a buffer that stored blocks of `G` cover. -/
theorem ld_canon_eq (G : S512x1024.Idx → EReal) (L : List (View.Piece (Elt Ideal) S512x1024 .bf16))
    (hL : View.PiecesOf (Val := Elt Ideal) (e := .bf16) G L) (hc : ∀ y, ∃ p ∈ L, y ∈ p.1.set) (inb) :
    View.ld (View.canon L) (Rect.unit ![0, 0] ![512, 1024] inb) = G := by
  funext y
  rw [View.ld_unit_apply_of _ ![0, 0] ![512, 1024] inb y y (by intro a; fin_cases a <;> simp)]
  have := View.canon_append_of_piecesOf (Val := Elt Ideal) (e := .bf16) G [] L hL y (hc y)
  rwa [List.append_nil] at this

theorem pieces_cons {G : S512x1024.Idx → EReal} {r : Rect S512x1024} {w : r.shape.Idx → EReal}
    {L : List (View.Piece (Elt Ideal) S512x1024 .bf16)} (h : ∀ x, w x = G (r.emb x))
    (hL : View.PiecesOf (Val := Elt Ideal) (e := .bf16) G L) :
    View.PiecesOf (Val := Elt Ideal) (e := .bf16) G (⟨r, w⟩ :: L) := ⟨h, hL⟩

set_option maxHeartbeats 2000000 in
theorem out_eq  (c : Dev nD) (i : grid0.Coords) (arg2 : Memref sig .tc .smem S16 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S256x128 .bf16) (harg5 : arg5.IsWhole) (arg6 : Memref sig .tc .vmem S256x512 .bf16) (harg6 : arg6.IsWhole) (arg7 : Memref sig .tc .vmem S256x128 .bf16) (harg7 : arg7.IsWhole) (arg8 : Memref sig .tc .vmem S256x256 .bf16) (harg8 : arg8.IsWhole) (arg9 : Memref sig .tc .vmem S128x256 .bf16) (harg9 : arg9.IsWhole) (arg10 : Memref sig .tc .vmem S512x256 .bf16) (harg10 : arg10.IsWhole) (arg11 : Memref sig .tc .vmem S128x256 .bf16) (harg11 : arg11.IsWhole) (arg12 : Memref sig .tc .vmem S256x256 .bf16) (harg12 : arg12.IsWhole) (arg13 : Memref sig .tc .vmem S1x6x1024 .f32) (harg13 : arg13.IsWhole) (arg14 : Memref sig .tc .vmem S1024x1024 .bf16) (harg14 : arg14.IsWhole) (arg15 : Memref sig .tc .vmem S1x1024 .f32) (harg15 : arg15.IsWhole) (arg16 : Memref sig .tc .vmem S512x1024 .f32) (harg16 : arg16.IsWhole) (arg17 : Memref sig .tc .vmem S512x1024 .bf16) (harg17 : arg17.IsWhole)
    (x0 : Vec Ideal S16 .f32) (x1 : Vec Ideal S512x1024 .f32) (x2 : Vec Ideal S512x1024 .bf16) (x3 : Vec Ideal S256x128 .bf16) (x4 : Vec Ideal S256x512 .bf16) (x5 : Vec Ideal S256x128 .bf16) (x6 : Vec Ideal S256x256 .bf16) (x7 : Vec Ideal S128x256 .bf16) (x8 : Vec Ideal S512x256 .bf16) (x9 : Vec Ideal S128x256 .bf16) (x10 : Vec Ideal S256x256 .bf16) (x11 : Vec Ideal S1x6x1024 .f32) (x12 : Vec Ideal S1024x1024 .bf16) (x13 : Vec Ideal S1x1024 .f32)
    (b : Blk) (hi : b.i = (i 1).val) (B : Blocks b x0 x2 x3 x4 x5 x6 x7 x8 x9 x10) (y : S512x1024.Idx) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 y
      = k0_pay1 b.all x12 x13 x1 (View.ld x11 (Rect.unit ![0, 2, 0] ![1, 1, 1024] inb_S1x6x1024_S1x1x1024_0_2_0)) y := by
  frame_out
  have key : ∀ att : Vec Ideal S512x1024 .bf16, att = b.all → k0_pay1 att x12 x13 x1
      (View.ld x11 (Rect.unit ![0, 2, 0] ![1, 1, 1024] inb_S1x6x1024_S1x1x1024_0_2_0)) y
      = k0_pay1 b.all x12 x13 x1 (View.ld x11 (Rect.unit ![0, 2, 0] ![1, 1, 1024] inb_S1x6x1024_S1x1x1024_0_2_0)) y :=
    fun att h => by rw [h]
  refine key _ ?_
  clear key
  rw [View.readCov_eq_canon']
  have e0 : View.read (Elt Ideal) arg2.view (harg2.unread x0) = x0 := Memref.IsWhole.read_unread _ _
  generalize View.read (Elt Ideal) arg2.view (harg2.unread x0) = z0 at e0 ⊢
  subst e0
  have e2 : View.read (Elt Ideal) arg4.view (harg4.unread x2) = x2 := Memref.IsWhole.read_unread _ _
  generalize View.read (Elt Ideal) arg4.view (harg4.unread x2) = z2 at e2 ⊢
  subst e2
  have e3 : View.read (Elt Ideal) arg5.view (harg5.unread x3) = x3 := Memref.IsWhole.read_unread _ _
  generalize View.read (Elt Ideal) arg5.view (harg5.unread x3) = z3 at e3 ⊢
  subst e3
  have e4 : View.read (Elt Ideal) arg6.view (harg6.unread x4) = x4 := Memref.IsWhole.read_unread _ _
  generalize View.read (Elt Ideal) arg6.view (harg6.unread x4) = z4 at e4 ⊢
  subst e4
  have e5 : View.read (Elt Ideal) arg7.view (harg7.unread x5) = x5 := Memref.IsWhole.read_unread _ _
  generalize View.read (Elt Ideal) arg7.view (harg7.unread x5) = z5 at e5 ⊢
  subst e5
  have e6 : View.read (Elt Ideal) arg8.view (harg8.unread x6) = x6 := Memref.IsWhole.read_unread _ _
  generalize View.read (Elt Ideal) arg8.view (harg8.unread x6) = z6 at e6 ⊢
  subst e6
  have e7 : View.read (Elt Ideal) arg9.view (harg9.unread x7) = x7 := Memref.IsWhole.read_unread _ _
  generalize View.read (Elt Ideal) arg9.view (harg9.unread x7) = z7 at e7 ⊢
  subst e7
  have e8 : View.read (Elt Ideal) arg10.view (harg10.unread x8) = x8 := Memref.IsWhole.read_unread _ _
  generalize View.read (Elt Ideal) arg10.view (harg10.unread x8) = z8 at e8 ⊢
  subst e8
  have e9 : View.read (Elt Ideal) arg11.view (harg11.unread x9) = x9 := Memref.IsWhole.read_unread _ _
  generalize View.read (Elt Ideal) arg11.view (harg11.unread x9) = z9 at e9 ⊢
  subst e9
  have e10 : View.read (Elt Ideal) arg12.view (harg12.unread x10) = x10 := Memref.IsWhole.read_unread _ _
  generalize View.read (Elt Ideal) arg12.view (harg12.unread x10) = z10 at e10 ⊢
  subst e10
  refine ld_canon_eq _ _ ?_ ?_ _
  · unfold_payloads
    refine pieces_cons (oddP1 B i hi 15 192 rfl (by decide) 960 896 rfl rfl _ _ _ _ _ _ _ _ _ _ _ (by decide)) ?_
    refine pieces_cons (evenP1 B i hi 14 192 rfl (by decide) 896 896 rfl rfl _ _ _ _ _ _ _ _ _ _ _ (by decide)) ?_
    refine pieces_cons (oddP1 B i hi 13 192 rfl (by decide) 832 768 rfl rfl _ _ _ _ _ _ _ _ _ _ _ (by decide)) ?_
    refine pieces_cons (evenP1 B i hi 12 192 rfl (by decide) 768 768 rfl rfl _ _ _ _ _ _ _ _ _ _ _ (by decide)) ?_
    refine pieces_cons (oddP0 B i hi 15 192 rfl (by decide) 960 896 rfl rfl _ _ _ _ _ _ _ _ _ _ _ (by decide)) ?_
    refine pieces_cons (evenP0 B i hi 14 192 rfl (by decide) 896 896 rfl rfl _ _ _ _ _ _ _ _ _ _ _ (by decide)) ?_
    refine pieces_cons (oddP0 B i hi 13 192 rfl (by decide) 832 768 rfl rfl _ _ _ _ _ _ _ _ _ _ _ (by decide)) ?_
    refine pieces_cons (evenP0 B i hi 12 192 rfl (by decide) 768 768 rfl rfl _ _ _ _ _ _ _ _ _ _ _ (by decide)) ?_
    refine pieces_cons (oddP1 B i hi 11 128 rfl (by decide) 704 640 rfl rfl _ _ _ _ _ _ _ _ _ _ _ (by decide)) ?_
    refine pieces_cons (evenP1 B i hi 10 128 rfl (by decide) 640 640 rfl rfl _ _ _ _ _ _ _ _ _ _ _ (by decide)) ?_
    refine pieces_cons (oddP1 B i hi 9 128 rfl (by decide) 576 512 rfl rfl _ _ _ _ _ _ _ _ _ _ _ (by decide)) ?_
    refine pieces_cons (evenP1 B i hi 8 128 rfl (by decide) 512 512 rfl rfl _ _ _ _ _ _ _ _ _ _ _ (by decide)) ?_
    refine pieces_cons (oddP0 B i hi 11 128 rfl (by decide) 704 640 rfl rfl _ _ _ _ _ _ _ _ _ _ _ (by decide)) ?_
    refine pieces_cons (evenP0 B i hi 10 128 rfl (by decide) 640 640 rfl rfl _ _ _ _ _ _ _ _ _ _ _ (by decide)) ?_
    refine pieces_cons (oddP0 B i hi 9 128 rfl (by decide) 576 512 rfl rfl _ _ _ _ _ _ _ _ _ _ _ (by decide)) ?_
    refine pieces_cons (evenP0 B i hi 8 128 rfl (by decide) 512 512 rfl rfl _ _ _ _ _ _ _ _ _ _ _ (by decide)) ?_
    refine pieces_cons (oddP1 B i hi 7 64 rfl (by decide) 448 384 rfl rfl _ _ _ _ _ _ _ _ _ _ _ (by decide)) ?_
    refine pieces_cons (evenP1 B i hi 6 64 rfl (by decide) 384 384 rfl rfl _ _ _ _ _ _ _ _ _ _ _ (by decide)) ?_
    refine pieces_cons (oddP1 B i hi 5 64 rfl (by decide) 320 256 rfl rfl _ _ _ _ _ _ _ _ _ _ _ (by decide)) ?_
    refine pieces_cons (evenP1 B i hi 4 64 rfl (by decide) 256 256 rfl rfl _ _ _ _ _ _ _ _ _ _ _ (by decide)) ?_
    refine pieces_cons (oddP0 B i hi 7 64 rfl (by decide) 448 384 rfl rfl _ _ _ _ _ _ _ _ _ _ _ (by decide)) ?_
    refine pieces_cons (evenP0 B i hi 6 64 rfl (by decide) 384 384 rfl rfl _ _ _ _ _ _ _ _ _ _ _ (by decide)) ?_
    refine pieces_cons (oddP0 B i hi 5 64 rfl (by decide) 320 256 rfl rfl _ _ _ _ _ _ _ _ _ _ _ (by decide)) ?_
    refine pieces_cons (evenP0 B i hi 4 64 rfl (by decide) 256 256 rfl rfl _ _ _ _ _ _ _ _ _ _ _ (by decide)) ?_
    refine pieces_cons (oddP1 B i hi 3 0 rfl (by decide) 192 128 rfl rfl _ _ _ _ _ _ _ _ _ _ _ (by decide)) ?_
    refine pieces_cons (evenP1 B i hi 2 0 rfl (by decide) 128 128 rfl rfl _ _ _ _ _ _ _ _ _ _ _ (by decide)) ?_
    refine pieces_cons (oddP1 B i hi 1 0 rfl (by decide) 64 0 rfl rfl _ _ _ _ _ _ _ _ _ _ _ (by decide)) ?_
    refine pieces_cons (evenP1 B i hi 0 0 rfl (by decide) 0 0 rfl rfl _ _ _ _ _ _ _ _ _ _ _ (by decide)) ?_
    refine pieces_cons (oddP0 B i hi 3 0 rfl (by decide) 192 128 rfl rfl _ _ _ _ _ _ _ _ _ _ _ (by decide)) ?_
    refine pieces_cons (evenP0 B i hi 2 0 rfl (by decide) 128 128 rfl rfl _ _ _ _ _ _ _ _ _ _ _ (by decide)) ?_
    refine pieces_cons (oddP0 B i hi 1 0 rfl (by decide) 64 0 rfl rfl _ _ _ _ _ _ _ _ _ _ _ (by decide)) ?_
    refine pieces_cons (evenP0 B i hi 0 0 rfl (by decide) 0 0 rfl rfl _ _ _ _ _ _ _ _ _ _ _ (by decide)) ?_
    exact trivial
  · exact View.cover_of_tiledL _ ![256, 64] (by sl_kernel_rfl)

end Cert.KernelIdeal.Att
-- ==== Proof.Global.lean ====
/- The attention of the whole sequences as a formula, and that a block's windows hold every key its rows see. -/
module

public import proofs.«01_k».proof.Proof.Spec

@[expose] public section

set_option maxRecDepth 16384

noncomputable section

namespace Cert.KernelIdeal.Att

open Cert.KernelIdeal Cert.KernelIdeal.Gen Idealize.ShloMosaic Idealize.ShloMosaic.TcCoe Idealize.SL.Sem

/-- The arguments of the attention: the queries, the transposed keys, those of the context, the sinks, the values and
    those of the context. -/
structure Seqs where
  q : ℕ → ℕ → ℝ
  k : ℕ → ℕ → ℝ
  kc : ℕ → ℕ → ℝ
  sk : ℕ → ℝ
  v : ℕ → ℕ → EReal
  vc : ℕ → ℕ → EReal

namespace Seqs

variable (A : Seqs)

/-- The score of row `R` against key `k` of its sequence. -/
def score (hd R k : ℕ) : ℝ :=
  (∑ x : Fin 64, A.q R (64 * hd + x) * A.k (64 * (hd / 4) + x) (8192 * (R / 8192) + k)) * Real.log 2

/-- The score of row `R` against key `c` of its context. -/
def scoreC (hd R c : ℕ) : ℝ :=
  (∑ x : Fin 64, A.q R (64 * hd + x) * A.kc (64 * (hd / 4) + x) (256 * (R / 8192) + c)) * Real.log 2

/-- Whether row `R` sees key `k` of its sequence. -/
def Near (R k : ℕ) : Prop := R % 8192 ≤ k + 128 ∧ k ≤ R % 8192 + 128

instance (R k : ℕ) : Decidable (Near R k) := by unfold Near; infer_instance

/-- The exponential of a score, zero outside the band. -/
def wt (hd R k : ℕ) : ℝ := if Near R k then Real.exp (A.score hd R k) else 0

/-- The sum of the exponentials. -/
def den (hd R : ℕ) : ℝ :=
  (∑ k : Fin 8192, A.wt hd R k) + (∑ c : Fin 256, Real.exp (A.scoreC hd R c)) + Real.exp (A.sk hd)

/-- The attention of head `hd` in row `R`, lane `j`. -/
def att (hd R j : ℕ) : EReal :=
  (∑ k : Fin 8192, ((A.wt hd R k / A.den hd R : ℝ) : EReal) * A.v (8192 * (R / 8192) + k) (64 * (hd / 4) + j))
    + ∑ c : Fin 256, ((Real.exp (A.scoreC hd R c) / A.den hd R : ℝ) : EReal)
        * A.vc (256 * (R / 8192) + c) (64 * (hd / 4) + j)

theorem den_pos (hd R : ℕ) : 0 < A.den hd R := by
  unfold den
  have h1 : 0 ≤ ∑ k : Fin 8192, A.wt hd R k := Finset.sum_nonneg fun k _ => by
    unfold wt; split <;> positivity
  have h2 : 0 ≤ ∑ c : Fin 256, Real.exp (A.scoreC hd R c) := Finset.sum_nonneg fun c _ => by positivity
  have := Real.exp_pos (A.sk hd)
  positivity

/-- The row of the arrays at column `c` of the windows of block `t`. -/
def colAt (t c : ℕ) : ℕ :=
  if c < 128 then 128 * (4 * t - 1) + c else if c < 640 then 512 * t + (c - 128)
    else 128 * min (4 * t + 4) 511 + (c - 640)

/-- What block `t` sees of the sequences. -/
def blk (t : ℕ) : Blk where
  q r x := A.q (512 * t + r) x
  k x c := A.k x (colAt t c)
  kc x c := A.kc x (256 * (t / 16) + c)
  sk := A.sk
  v c j := A.v (colAt t c) j
  vc c j := A.vc (256 * (t / 16) + c) j
  i := t % 16

section

variable (t : ℕ) (ht : t < 128) (hd r : ℕ) (hr : r < 512)

include ht hr

/-- A sum over the window of a row is the sum over its sequence. -/
theorem window {M : Type*} [AddCommMonoid M] (f g : ℕ → M)
    (hfg : ∀ c k, c < 384 → (A.blk t).Sees r c → colAt t (128 * (r / 128) + c) = 8192 * (t / 16) + k → f c = g k) :
    (∑ c : Fin 384, if (A.blk t).Sees r c then f c else 0)
      = ∑ k : Fin 8192, if Near (512 * t + r) k then g k else 0 := by
  have hS : ∀ c : Fin 384, (A.blk t).Sees r c ↔ (r % 128 ≤ c.val ∧ c.val ≤ r % 128 + 256
      ∧ (c.val < 128 → 0 < 512 * (t % 16) + 128 * (r / 128)) ∧ (256 ≤ c.val → 512 * (t % 16) + 128 * (r / 128) + 128 < 8192)
      ∧ (128 ≤ 512 * (t % 16) + 128 * (r / 128) + c.val ∧ 512 * (t % 16) + 128 * (r / 128) + c.val < 8192 + 128)) := by
    intro c
    have := c.isLt
    show InBand (r % 128) c (r / 128 = 0 → 0 < t % 16) (r / 128 = 3 → t % 16 < 15) ↔ _
    unfold InBand
    omega
  have hN : ∀ k : Fin 8192, Near (512 * t + r) k
      ↔ (512 * (t % 16) + 128 * (r / 128) + r % 128 ≤ k.val + 128 ∧ k.val ≤ 512 * (t % 16) + 128 * (r / 128) + r % 128 + 128) := by
    intro k
    unfold Near
    omega
  refine Eq.trans (Finset.sum_congr rfl fun c _ => ?_)
    ((Cert.Soft.window_sum (512 * (t % 16) + 128 * (r / 128)) (r % 128) (by omega) (by omega)
      (fun c => if c < 384 ∧ (A.blk t).Sees r c then f c else g (512 * (t % 16) + 128 * (r / 128) + c - 128)) g
      (fun c k h => ?_)).trans (Finset.sum_congr rfl fun k _ => ?_))
  · have h := hS c
    by_cases hs : (A.blk t).Sees r c
    · rw [if_pos hs, if_pos (h.mp hs), if_pos ⟨c.isLt, hs⟩]
    · rw [if_neg hs, if_neg (fun h' => hs (h.mpr h'))]
  · by_cases hs : c < 384 ∧ (A.blk t).Sees r c
    · rw [if_pos hs]
      have h' := (hS ⟨c, hs.1⟩).mp hs.2
      simp only at h'
      refine hfg c k hs.1 hs.2 ?_
      unfold colAt
      split_ifs <;> omega
    · rw [if_neg hs]
      congr 1; omega
  · have h := hN k
    by_cases hs : Near (512 * t + r) k
    · rw [if_pos hs, if_pos (h.mp hs)]
    · rw [if_neg hs, if_neg (fun h' => hs (h.mpr h'))]

theorem blk_score (c k : ℕ) (h : colAt t (128 * (r / 128) + c) = 8192 * (t / 16) + k) :
    (A.blk t).score hd r c = A.score hd (512 * t + r) k := by
  unfold Blk.score score
  rw [show (512 * t + r) / 8192 = t / 16 by omega, ← h]
  rfl

theorem blk_scoreC (c : ℕ) : (A.blk t).scoreC hd r c = A.scoreC hd (512 * t + r) c := by
  unfold Blk.scoreC scoreC
  rw [show (512 * t + r) / 8192 = t / 16 by omega]
  rfl

theorem blk_den : (A.blk t).den hd r = A.den hd (512 * t + r) := by
  unfold Blk.den den
  congr 2
  · exact A.window t ht r hr (fun c => Real.exp ((A.blk t).score hd r c)) (fun k => Real.exp (A.score hd (512 * t + r) k))
      fun c k _ _ h => by rw [A.blk_score t ht hd r hr c k h]
  · exact Finset.sum_congr rfl fun c _ => by rw [A.blk_scoreC t ht hd r hr c]

/-- The attention of a block's rows is that of the sequences'. -/
theorem blk_att (j : ℕ) : (A.blk t).att hd r j = A.att hd (512 * t + r) j := by
  unfold Blk.att att
  rw [A.blk_den t ht hd r hr]
  have push : ∀ (p : Prop) [Decidable p] (e d : ℝ) (v : EReal),
      (((if p then e else 0) / d : ℝ) : EReal) * v = if p then ((e / d : ℝ) : EReal) * v else 0 := by
    intro p _ e d v
    split
    · rfl
    · rw [zero_div, EReal.coe_zero, zero_mul]
  congr 1
  · unfold Blk.wt wt
    simp only [push]
    refine A.window t ht r hr (fun c => ((Real.exp ((A.blk t).score hd r c) / A.den hd (512 * t + r) : ℝ) : EReal)
        * (A.blk t).v (128 * (r / 128) + c) (64 * (hd / 4) + j))
      (fun k => ((Real.exp (A.score hd (512 * t + r) k) / A.den hd (512 * t + r) : ℝ) : EReal)
        * A.v (8192 * ((512 * t + r) / 8192) + k) (64 * (hd / 4) + j)) fun c k _ _ h => ?_
    rw [A.blk_score t ht hd r hr c k h, show (512 * t + r) / 8192 = t / 16 by omega, ← h]
    rfl
  · refine Finset.sum_congr rfl fun c _ => ?_
    rw [A.blk_scoreC t ht hd r hr c, show (512 * t + r) / 8192 = t / 16 by omega]
    rfl

end

end Seqs

end Cert.KernelIdeal.Att
-- ==== Proof.RefValue.lean ====
/- The reference read at an index: its result is the attention of the sequences, projected, gated and added to the residual. -/
module

public import proofs.«01_k».proof.Proof.Global
public import proofs.«01_k».proof.Proof.Gen.ReferenceIdeal.Read
public import Idealize.ShloMosaic.Lib.Pipeline.ValueKit

@[expose] public section

set_option maxRecDepth 16384

noncomputable section

namespace Cert.ReferenceIdeal.Att

open Cert.ReferenceIdeal Cert.ReferenceIdeal.Gen Cert.ReferenceIdeal.Read Idealize.ShloMosaic Idealize.ShloMosaic.TcCoe Idealize.SL.Sem
open Cert.KernelIdeal.Att (Seqs)

/-- That the arrays hold what `A` names. -/
structure Holds (A : Seqs) (x1 : FVec Ideal S65536x1024 .bf16) (x2 : FVec Ideal S256x65536 .bf16)
    (x3 : FVec Ideal S65536x256 .bf16) (x4 : FVec Ideal S256x2048 .bf16) (x5 : FVec Ideal S2048x256 .bf16)
    (x6 : FVec Ideal S16 .f32) : Prop where
  q : ∀ (r : Fin 65536) (x : Fin 1024), x1 (ix2 r x) = (A.q r x : EReal)
  k : ∀ (x : Fin 256) (r : Fin 65536), x2 (ix2 x r) = (A.k x r : EReal)
  v : ∀ (r : Fin 65536) (x : Fin 256), x3 (ix2 r x) = A.v r x
  kc : ∀ (x : Fin 256) (r : Fin 2048), x4 (ix2 x r) = (A.kc x r : EReal)
  vc : ∀ (r : Fin 2048) (x : Fin 256), x5 (ix2 r x) = A.vc r x
  sk : ∀ h : Fin 16, x6 (ix1 h) = (A.sk h : EReal)

variable {A : Seqs} {x1 : FVec Ideal S65536x1024 .bf16} {x2 : FVec Ideal S256x65536 .bf16}
    {x3 : FVec Ideal S65536x256 .bf16} {x4 : FVec Ideal S256x2048 .bf16} {x5 : FVec Ideal S2048x256 .bf16}
    {x6 : FVec Ideal S16 .f32} (H : Holds A x1 x2 x3 x4 x5 x6)

theorem log2 (i : S_.Idx) : val_main_v0 (F := Ideal) i = (Real.log 2 : EReal) := by
  rw [val_main_v0_apply, val_main_cst_apply]
  have h : (FloatOps.ofBits .f32 0x40000000#32 : Ideal .f32) = ((2 : ℝ) : EReal) := by
    show Ideal.ofBits .f32 0x40000000#32 = _
    simp [Ideal.ofBits, Ideal.ieee, -EReal.coe_mul]
    norm_num
  rw [h, Ideal.hostUnary_log_def]
  show (if (2 : ℝ) ≤ 0 then ⊥ else (Real.log 2 : EReal)) = _
  rw [if_neg (by norm_num)]

theorem distance (k p : ℕ) (hk : k < 8192) (hp : p < 8192) :
    IntOp.absi (IntOp.subi (BitVec.ofNat 32 k) (BitVec.ofNat 32 p)) = BitVec.ofNat 32 (if p ≤ k then k - p else p - k) := by
  unfold IntOp.absi IntOp.subi
  rw [BitVec.msb_eq_decide]
  apply BitVec.eq_of_toNat_eq
  split_ifs with h1 h2 h2 <;> simp only [decide_eq_true_eq, BitVec.toNat_sub, BitVec.toNat_neg, BitVec.toNat_ofNat] at h1 ⊢ <;> omega

theorem mask (b : Fin 8) (p k : Fin 8192) :
    val_main_v22 (F := Ideal) (ix2 p k) = BitVec.ofBool (decide (Seqs.Near (8192 * b + p) k)) := by
  rw [val_main_v22_apply, val_main_v21_apply, val_main_v20_apply, val_main_v19_apply, val_main_v17_apply,
    val_main_v18_apply, val_main_v14_apply, val_main_v16_apply, val_main_v13_apply, val_main_v15_apply,
    val_main_c_apply]
  simp only
  refine Eq.trans (b := IntOp.cmpi .sle (IntOp.absi (IntOp.subi (BitVec.ofNat 32 k.val) (BitVec.ofNat 32 p.val))) 128#32) rfl ?_
  rw [distance k p k.isLt p.isLt, show (128#32 : BitVec 32) = BitVec.ofNat 32 128 from rfl,
    WordCmp.cmpi_sle_ofNat (by split <;> omega) (by norm_num)]
  refine congrArg BitVec.ofBool (decide_eq_decide.mpr ?_)
  unfold Seqs.Near
  split <;> omega

section

variable (b : Fin 8) (h g : Fin 4) (p : Fin 8192)

include H

theorem query (x : Fin 64) : val_main_v2 (F := Ideal) x1 (ix5 b p h g x) = (A.q (8192 * b + p) (64 * (4 * h + g) + x) : EReal) := by
  rw [val_main_v2_apply, val_main_v1_apply]
  have := H.q ⟨8192 * b + p, by omega⟩ ⟨64 * (4 * h + g) + x, by omega⟩
  simp only at this
  rw [← this]
  show x1 _ = x1 _
  blk_ext []

theorem key (k : Fin 8192) (x : Fin 64) : val_main_v5 (F := Ideal) x2 (ix4 b k h x) = (A.k (64 * h + x) (8192 * b + k) : EReal) := by
  rw [val_main_v5_apply, val_main_v4_apply, val_main_v3_apply]
  have := H.k ⟨64 * h + x, by omega⟩ ⟨8192 * b + k, by omega⟩
  simp only at this
  rw [← this]
  show x2 _ = x2 _
  blk_ext []

theorem keyC (c : Fin 256) (x : Fin 64) : val_main_v8 (F := Ideal) x4 (ix4 b c h x) = (A.kc (64 * h + x) (256 * b + c) : EReal) := by
  rw [val_main_v8_apply, val_main_v7_apply, val_main_v6_apply]
  have := H.kc ⟨64 * h + x, by omega⟩ ⟨256 * b + c, by omega⟩
  simp only at this
  rw [← this]
  show x4 _ = x4 _
  blk_ext []

theorem value (k : Fin 8192) (x : Fin 64) : val_main_v10 (F := Ideal) x3 (ix4 b k h x) = A.v (8192 * b + k) (64 * h + x) := by
  rw [val_main_v10_apply, val_main_v9_apply]
  have := H.v ⟨8192 * b + k, by omega⟩ ⟨64 * h + x, by omega⟩
  simp only at this
  rw [← this]
  show x3 _ = x3 _
  blk_ext []

theorem valueC (c : Fin 256) (x : Fin 64) : val_main_v12 (F := Ideal) x5 (ix4 b c h x) = A.vc (256 * b + c) (64 * h + x) := by
  rw [val_main_v12_apply, val_main_v11_apply]
  have := H.vc ⟨256 * b + c, by omega⟩ ⟨64 * h + x, by omega⟩
  simp only at this
  rw [← this]
  show x5 _ = x5 _
  blk_ext []

omit H in
/-- The coordinates of head `4 * h + g` and row `p` of sequence `b`. -/
theorem heads : (4 * h.val + g.val) / 4 = h.val ∧ (8192 * b.val + p.val) / 8192 = b.val := by omega

omit H in
theorem sum_real {n : ℕ} (f e : Fin n → ℝ) (t : ℝ) :
    FloatOps.mulf (F := Ideal) (φ := .f32) (∑ x, (f x : EReal) * (e x : EReal)) (t : EReal)
      = (((∑ x, e x * f x) * t : ℝ) : EReal) := by
  show _ * _ = _
  rw [EReal.coe_mul, Cert.Soft.coe_sum]
  exact congrArg (· * _) (Finset.sum_congr rfl fun x _ => by rw [mul_comm, EReal.coe_mul])

theorem score (k : Fin 8192) : val_main_v26 (F := Ideal) x1 x2 (ix5 b h g p k) = (A.score (4 * h + g) (8192 * b + p) k : EReal) := by
  rw [val_main_v26_apply, val_main_v24_apply, val_main_v23_apply, val_main_v25_apply, log2]
  unfold Seqs.score
  obtain ⟨e1, e2⟩ := heads b h g p
  rw [e1, e2]
  refine Eq.trans (congrArg₂ _ (Finset.sum_congr rfl fun x _ => congrArg₂ (α := EReal) (β := EReal) (· * ·)
    ((congrArg _ ?_).trans (key H b h k x)) ((congrArg _ ?_).trans (query H b h g p x))) rfl) (sum_real _ _ _)
  · blk_ext []
  · blk_ext []

theorem scoreC (c : Fin 256) : val_main_v31 (F := Ideal) x1 x4 (ix5 b h g p c) = (A.scoreC (4 * h + g) (8192 * b + p) c : EReal) := by
  rw [val_main_v31_apply, val_main_v29_apply, val_main_v28_apply, val_main_v30_apply, log2]
  unfold Seqs.scoreC
  obtain ⟨e1, e2⟩ := heads b h g p
  rw [e1, e2]
  refine Eq.trans (congrArg₂ _ (Finset.sum_congr rfl fun x _ => congrArg₂ (α := EReal) (β := EReal) (· * ·)
    ((congrArg _ ?_).trans (keyC H b h c x)) ((congrArg _ ?_).trans (query H b h g p x))) rfl) (sum_real _ _ _)
  · blk_ext []
  · blk_ext []

theorem sink (z : Fin 1) : val_main_v33 (F := Ideal) x6 (ix5 b h g p z) = (A.sk (4 * h + g) : EReal) := by
  rw [val_main_v33_apply, val_main_v32_apply]
  have := H.sk ⟨4 * h + g, by omega⟩
  simp only at this
  rw [← this]
  show x6 _ = x6 _
  blk_ext []

theorem masked (k : Fin 8192) : val_main_v27 (F := Ideal) x1 x2 (ix5 b h g p k) =
   if Seqs.Near (8192 * b + p) k then (A.score (4 * h + g) (8192 * b + p) k : EReal) else ⊥ := by
  rw [val_main_v27_apply, score H, val_main_call0_v1_apply, val_main_call0_v2_apply, val_main_call0_v0_apply]
  have e : val_main_v22 (F := Ideal) (idx_main_call0_v1 (ix5 b h g p k)) = _ := (congrArg _ (by blk_ext [])).trans (mask b p k)
  rw [e, val_main_cst_0_apply, WordCmp.select_ofBool]
  by_cases hn : Seqs.Near (8192 * b + p) k
  · rw [if_pos hn, if_pos (by rw [decide_eq_true_eq]; exact hn)]
  · rw [if_neg hn, if_neg (by rw [decide_eq_true_eq]; exact hn)]
    exact Cert.KernelIdeal.Att.ofBits_neg_inf

/-- The scores of a row, of the sequence, of the context and of the sink one after the other. -/
def entry (A : Seqs) (hd R t : ℕ) : EReal :=
  if t < 8192 then (if Seqs.Near R t then (A.score hd R t : EReal) else ⊥)
  else if t < 8448 then (A.scoreC hd R (t - 8192) : EReal) else (A.sk hd : EReal)

/-- Their exponentials. -/
def mass (A : Seqs) (hd R t : ℕ) : ℝ :=
  if t < 8192 then A.wt hd R t else if t < 8448 then Real.exp (A.scoreC hd R (t - 8192)) else Real.exp (A.sk hd)

omit H in
theorem entry_exp (hd R t : ℕ) (μ : ℝ) :
    Ideal.exp (entry A hd R t - (μ : EReal)) = ((mass A hd R t * Real.exp (-μ) : ℝ) : EReal) := by
  unfold entry mass Seqs.wt
  split
  · exact Cert.Soft.exp_masked _ _ _
  · split <;> exact Cert.Soft.exp_sub _ _

omit H in
theorem entry_ne_top (hd R t : ℕ) : entry A hd R t ≠ ⊤ := by
  unfold entry
  split
  · split
    · exact EReal.coe_ne_top _
    · exact bot_ne_top
  · split <;> exact EReal.coe_ne_top _

omit H in
theorem mass_sum (hd R : ℕ) : (∑ t : Fin 8449, mass A hd R t) = A.den hd R := by
  rw [Fin.sum_univ_eq_sum_range (mass A hd R), Finset.sum_range_succ, Finset.sum_range_add _ 8192 256]
  unfold Seqs.den
  rw [← Fin.sum_univ_eq_sum_range, ← Fin.sum_univ_eq_sum_range (fun x => mass A hd R (8192 + x))]
  refine congrArg₂ (· + ·) (congrArg₂ (· + ·) (Finset.sum_congr rfl fun k _ => ?_) (Finset.sum_congr rfl fun c _ => ?_)) ?_
  · exact if_pos k.isLt
  · have := c.isLt
    unfold mass
    rw [if_neg (by omega), if_pos (by omega), Nat.add_sub_cancel_left]
  · unfold mass
    rw [if_neg (by norm_num), if_neg (by norm_num)]

theorem joined (t : Fin 8449) :
    val_main_v34 (F := Ideal) x1 x2 x4 x6 (ix5 b h g p t) = entry A (4 * h + g) (8192 * b + p) t := by
  unfold val_main_v34
  pointwise
  unfold entry
  have ht := t.isLt
  by_cases h1 : t.val < 8192
  · rw [dif_pos h1, if_pos h1]
    exact masked H b h g p ⟨t, h1⟩
  · rw [dif_neg h1, if_neg h1]
    by_cases h2 : t.val - 8192 < 256
    · have h3 : t.val < 8448 := by omega
      rw [dif_pos h2, if_pos h3]
      exact scoreC H b h g p ⟨t - 8192, h2⟩
    · have h3 : ¬ t.val < 8448 := by omega
      rw [dif_neg h2, if_neg h3]
      exact sink H b h g p _

theorem top : ∃ μ : ℝ, val_main_v37 (F := Ideal) x1 x2 x4 x6 (ix4 b h g p) = (μ : EReal) := by
  rw [val_main_v37_apply, val_main_v36_apply, val_main_cst_2_apply]
  obtain ⟨μ, hμ⟩ := Cert.Soft.max_real (Finset.univ : Finset (Fin 8449)) (fun t => entry A (4 * h + g) (8192 * b + p) t.val)
    (fun t => entry_ne_top _ _ _) (A.sk (4 * h + g))
  refine ⟨μ, ?_⟩
  rw [← hμ]
  have e : val_main_v35 (F := Ideal) x1 x2 x4 x6 (ix4 b h g p)
      = (Finset.univ : Finset (Fin 8449)).fold max ⊥ fun t => entry A (4 * h + g) (8192 * b + p) t.val := by
    unfold val_main_v35
    pointwise
    rw [show val_main_cst_1 (F := Ideal) (Shape.Idx.first h_S_) = (⊥ : EReal) from Cert.KernelIdeal.Att.ofBits_neg_inf]
    exact congrArg (fun f => Finset.univ.fold max (⊥ : EReal) f) (funext fun t => joined H b h g p t)
  rw [e]
  have hb : (FloatOps.ofBits .f32 0xFF800000#32 : Ideal .f32) = (⊥ : EReal) := Cert.KernelIdeal.Att.ofBits_neg_inf
  rw [hb]
  show max (⊥ : EReal) _ = _
  rw [max_eq_right bot_le, max_eq_left]
  rw [Finset.le_fold_max]
  refine Or.inr ⟨⟨8448, by norm_num⟩, Finset.mem_univ _, ?_⟩
  unfold entry
  rw [if_neg (by norm_num), if_neg (by norm_num)]

/-- The weight of each column of a row. -/
theorem weight (t : Fin 8449) : val_main_v45 (F := Ideal) x1 x2 x4 x6 (ix5 b h g p t)
    = ((mass A (4 * h + g) (8192 * b + p) t / A.den (4 * h + g) (8192 * b + p) : ℝ) : EReal) := by
  obtain ⟨μ, hμ⟩ := top H b h g p
  have e : ∀ t : Fin 8449, val_main_v41 (F := Ideal) x1 x2 x4 x6 (ix5 b h g p t)
      = ((mass A (4 * h + g) (8192 * b + p) t * Real.exp (-μ) : ℝ) : EReal) := by
    intro t
    rw [val_main_v41_apply, val_main_v40_apply, joined H, val_main_v39_apply, val_main_v38_apply]
    have ei : idx_main_v38 (idx_main_v39 (ix5 b h g p t)) = ix4 b h g p := by
      funext a; match a with | ⟨0, _⟩ => rfl | ⟨1, _⟩ => rfl | ⟨2, _⟩ => rfl | ⟨3, _⟩ => rfl
    rw [ei, hμ]
    exact entry_exp _ _ _ _
  rw [val_main_v45_apply, val_main_v44_apply, val_main_v43_apply, val_main_v42_apply, e]
  have e2 : (∑ k : Fin 8449, val_main_v41 (F := Ideal) x1 x2 x4 x6 (idx_main_v42 (idx_main_v43 (idx_main_v44 (ix5 b h g p t))) k))
      = ((A.den (4 * h + g) (8192 * b + p) * Real.exp (-μ) : ℝ) : EReal) := by
    rw [← mass_sum, Finset.sum_mul, Cert.Soft.coe_sum]
    refine Finset.sum_congr rfl fun k _ => ?_
    exact (congrArg _ (by blk_ext [])).trans (e k)
  rw [e2]
  have e3 : val_main_cst_3 (F := Ideal) (Shape.Idx.first h_S_) = (0 : EReal) := Ideal.ofBits_zero .f32
  rw [e3, zero_add]
  have hd := A.den_pos (4 * h + g) (8192 * b + p)
  show Ideal.div _ _ = _
  rw [Cert.Soft.div_coe _ (mul_pos hd (Real.exp_pos _)).ne', ← EReal.coe_mul, Cert.Soft.ratio _ _ (Real.exp_pos _)]

/-- The attention at a head and lane. -/
theorem mixed (j : Fin 64) : val_main_v52 (F := Ideal) x1 x2 x3 x4 x5 x6 (ix5 b p h g j)
    = A.att (4 * h + g) (8192 * b + p) j := by
  rw [val_main_v52_apply, val_main_v48_apply, val_main_v51_apply, val_main_v47_apply, val_main_v50_apply]
  unfold Seqs.att
  obtain ⟨e1, e2⟩ := heads b h g p
  rw [e1, e2]
  refine congrArg₂ (α := EReal) (β := EReal) (· + ·) (Finset.sum_congr rfl fun k _ => ?_) (Finset.sum_congr rfl fun c _ => ?_)
  · rw [val_main_v46_apply, mul_comm]
    have hk := k.isLt
    refine congrArg₂ (α := EReal) (β := EReal) (· * ·) ?_ ((congrArg _ (by blk_ext [])).trans (value H b h k j))
    refine ((congrArg _ (by blk_ext [])).trans (weight H b h g p ⟨k.val, by omega⟩)).trans ?_
    unfold mass
    rw [if_pos hk]
  · rw [val_main_v49_apply, mul_comm]
    have hc := c.isLt
    refine congrArg₂ (α := EReal) (β := EReal) (· * ·) ?_ ((congrArg _ (by blk_ext [])).trans (valueC H b h c j))
    refine ((congrArg _ (by blk_ext [])).trans (weight H b h g p ⟨8192 + c.val, by omega⟩)).trans ?_
    unfold mass
    simp only
    rw [if_neg (by omega), if_pos (by omega), Nat.add_sub_cancel_left]

theorem lanes (l : Fin 1024) : val_main_v53 (F := Ideal) x1 x2 x3 x4 x5 x6 (ix3 b p l)
    = A.att (l / 64) (8192 * b + p) (l % 64) := by
  rw [val_main_v53_apply]
  have hl := l.isLt
  refine ((congrArg _ (by blk_ext [])).trans (mixed H b ⟨l / 256, by omega⟩ ⟨l / 64 % 4, by omega⟩ p ⟨l % 64, by omega⟩)).trans ?_
  simp only
  congr 1
  omega

end

include H in
/-- The reference's result at a row and lane. -/
theorem result (x0 : FVec Ideal S65536x1024 .f32) (x7 : FVec Ideal S16x6x1024 .f32) (x8 : FVec Ideal S1024x1024 .f32)
    (x9 : FVec Ideal S1024 .f32) (R : Fin 65536) (n : Fin 1024) :
    val_main_v64 (F := Ideal) x0 x1 x2 x3 x4 x5 x6 x7 x8 x9 (ix2 R n)
      = x0 (ix2 R n) + x7 (ix3 ⟨R / 8192, by omega⟩ 2 n)
        * ((∑ l : Fin 1024, A.att (l / 64) R (l % 64) * x8 (ix2 l n)) + x9 (ix1 n)) := by
  have hR := R.isLt
  rw [val_main_v64_apply, val_main_v63_apply, val_main_v62_apply, val_main_v61_apply, val_main_v60_apply,
    val_main_v59_apply, val_main_v58_apply, val_main_v57_apply, val_main_v56_apply, val_main_v55_apply, val_main_v54_apply]
  refine congrArg₂ (α := EReal) (β := EReal) (· + ·) rfl (congrArg₂ (α := EReal) (β := EReal) (· * ·) ?_
    (congrArg₂ (α := EReal) (β := EReal) (· + ·) (Finset.sum_congr rfl fun l _ =>
      congrArg₂ (α := EReal) (β := EReal) (· * ·) ?_ ?_) ?_))
  · show x7 _ = x7 _
    blk_ext []
  · have ei : lidx_main_v54 (idx_main_v63 (ix2 R n)) l = ix3 ⟨R / 8192, by omega⟩ ⟨R % 8192, by omega⟩ l := by
      blk_ext []
    rw [ei, lanes H]
    simp only
    congr 1
    omega
  · show x8 _ = x8 _
    blk_ext []
  · show x9 _ = x9 _
    blk_ext []

end Cert.ReferenceIdeal.Att
-- ==== Proof.Arr.lean ====
/- The result array of the call, block by block: what the grid's points write back is the reference's result. -/
module

public import proofs.«01_k».proof.Proof.Run
public import proofs.«01_k».proof.Proof.Global
public import proofs.«01_k».proof.Proof.RefValue
public import proofs.«01_k».proof.Proof.Gen.KernelIdeal.Value
public import Idealize.ShloMosaic.Lib.Pipeline.ValueKit
public import Idealize.ShloMosaic.Lib.Claim

@[expose] public section

set_option maxRecDepth 16384

noncomputable section

namespace Cert.KernelIdeal.Att

open Cert.KernelIdeal Cert.KernelIdeal.Gen Idealize.ShloMosaic Idealize.ShloMosaic.TcCoe Idealize.SL.Sem
open Idealize.ShloMosaic.Pipeline (Dat)
open Cert.ReferenceIdeal.Att (Holds)

variable (m : (ℓ : Loc nD τ sig) → Buf (Elt Ideal) ℓ)

/-- The block each window stages at each point. -/
theorem idx : ∀ t : Fin cfg0.N, win0_0.index t = ![0] ∧ win0_1.index t = ![t.val, 0] ∧ win0_2.index t = ![t.val, 0]
    ∧ win0_3.index t = ![0, 4 * t.val - 1] ∧ win0_4.index t = ![0, t.val] ∧ win0_5.index t = ![0, min (4 * t.val + 4) 511]
    ∧ win0_6.index t = ![0, t.val / 16] ∧ win0_7.index t = ![4 * t.val - 1, 0] ∧ win0_8.index t = ![t.val, 0]
    ∧ win0_9.index t = ![min (4 * t.val + 4) 511, 0] ∧ win0_10.index t = ![t.val / 16, 0]
    ∧ win0_11.index t = ![t.val / 16, 0, 0] ∧ win0_12.index t = ![0, 0] ∧ win0_13.index t = ![0, 0]
    ∧ win0_14.index t = ![t.val, 0] ∧ (grid0.coords t 1).val = t.val % 16 :=
  (by decide +kernel : ∀ t : Fin grid0.N, _)

theorem lt_points (t : Fin cfg0.N) : t.val < 128 :=
  t.isLt.trans_eq (by decide +kernel : grid0.N = 128)

/-- The staged blocks of a point hold what it sees of the sequences. -/
theorem blocks (d : Dev nD) (A : Seqs) (H : Holds A (m ((d : Thread nD τ).loc main_arg1)) (m ((d : Thread nD τ).loc main_arg2))
    (m ((d : Thread nD τ).loc main_arg3)) (m ((d : Thread nD τ).loc main_arg4)) (m ((d : Thread nD τ).loc main_arg5))
    (m ((d : Thread nD τ).loc main_arg6))) (t : Fin cfg0.N) :
    Blocks (A.blk t) (iblk m d 0 t) (iblk m d 2 t) (iblk m d 3 t) (iblk m d 4 t) (iblk m d 5 t) (iblk m d 6 t)
      (iblk m d 7 t) (iblk m d 8 t) (iblk m d 9 t) (iblk m d 10 t) where
  sk h := by
    refine Eq.trans ?_ (H.sk h)
    blk_ext [iblk, V, idx t]
  q r x := by
    have ht := lt_points t
    refine Eq.trans ?_ (H.q ⟨512 * t + r, by omega⟩ x)
    blk_ext [iblk, V, idx t]
  kp x c := by
    have ht := lt_points t
    have hc : Seqs.colAt t c = 128 * (4 * t - 1) + c := if_pos c.isLt
    show _ = (A.k x (Seqs.colAt t c) : EReal)
    rw [hc]
    refine Eq.trans ?_ (H.k x ⟨128 * (4 * t - 1) + c, by omega⟩)
    blk_ext [iblk, V, idx t]
  km x c := by
    have ht := lt_points t
    have hc : Seqs.colAt t (128 + c) = 512 * t + c := by unfold Seqs.colAt; split_ifs <;> omega
    show _ = (A.k x (Seqs.colAt t (128 + c)) : EReal)
    rw [hc]
    refine Eq.trans ?_ (H.k x ⟨512 * t + c, by omega⟩)
    blk_ext [iblk, V, idx t]
  kn x c := by
    have ht := lt_points t
    have hc : Seqs.colAt t (640 + c) = 128 * min (4 * t.val + 4) 511 + c := by unfold Seqs.colAt; split_ifs <;> omega
    show _ = (A.k x (Seqs.colAt t (640 + c)) : EReal)
    rw [hc]
    refine Eq.trans ?_ (H.k x ⟨128 * min (4 * t.val + 4) 511 + c, by omega⟩)
    blk_ext [iblk, V, idx t]
  kc x c := by
    have ht := lt_points t
    refine Eq.trans ?_ (H.kc x ⟨256 * (t / 16) + c, by omega⟩)
    blk_ext [iblk, V, idx t]
  vp x j := by
    have ht := lt_points t
    have hc : Seqs.colAt t x = 128 * (4 * t - 1) + x := if_pos x.isLt
    show _ = A.v (Seqs.colAt t x) j
    rw [hc]
    refine Eq.trans ?_ (H.v ⟨128 * (4 * t - 1) + x, by omega⟩ j)
    blk_ext [iblk, V, idx t]
  vm x j := by
    have ht := lt_points t
    have hc : Seqs.colAt t (128 + x) = 512 * t + x := by unfold Seqs.colAt; split_ifs <;> omega
    show _ = A.v (Seqs.colAt t (128 + x)) j
    rw [hc]
    refine Eq.trans ?_ (H.v ⟨512 * t + x, by omega⟩ j)
    blk_ext [iblk, V, idx t]
  vn x j := by
    have ht := lt_points t
    have hc : Seqs.colAt t (640 + x) = 128 * min (4 * t.val + 4) 511 + x := by unfold Seqs.colAt; split_ifs <;> omega
    show _ = A.v (Seqs.colAt t (640 + x)) j
    rw [hc]
    refine Eq.trans ?_ (H.v ⟨128 * min (4 * t.val + 4) 511 + x, by omega⟩ j)
    blk_ext [iblk, V, idx t]
  vc x j := by
    have ht := lt_points t
    refine Eq.trans ?_ (H.vc ⟨256 * (t / 16) + x, by omega⟩ j)
    blk_ext [iblk, V, idx t]

/-- The projection's matrix as the call's window stages it: the argument's entries. -/
theorem weights (d : Dev nD) (t : Fin cfg0.N) (l n : Fin 1024) :
    (iblk m d 12 t : FVec Ideal S1024x1024 .bf16) (ix2 l n) = m ((d : Thread nD τ).loc main_arg8) (ix2 l n) := by
  refine Eq.trans (b := V m d main_v0 (ix2 l n)) ?_ ?_
  · blk_ext [iblk, idx t]
  · entry_read
    pointwise

/-- The projection's bias as the call's window stages it. -/
theorem bias (d : Dev nD) (t : Fin cfg0.N) (n : Fin 1024) :
    (iblk m d 13 t : FVec Ideal S1x1024 .f32) (ix2 0 n) = m ((d : Thread nD τ).loc main_arg9) (ix1 n) := by
  refine Eq.trans (b := V m d main_v1 (ix2 0 n)) ?_ ?_
  · blk_ext [iblk, idx t]
  · entry_read
    pointwise

/-- The block that a point writes, from what it sees of the sequences, is the reference's result at the block's rows. -/
theorem point (d : Dev nD) (A : Seqs) (H : Holds A (m ((d : Thread nD τ).loc main_arg1)) (m ((d : Thread nD τ).loc main_arg2))
    (m ((d : Thread nD τ).loc main_arg3)) (m ((d : Thread nD τ).loc main_arg4)) (m ((d : Thread nD τ).loc main_arg5))
    (m ((d : Thread nD τ).loc main_arg6))) (t : Fin cfg0.N) (r : Fin 512) (n : Fin 1024) (R : Fin 65536) (hR : R.val = 512 * t + r) :
    k0_pay1 (A.blk t).all (iblk m d 12 t) (iblk m d 13 t) (iblk m d 1 t)
      (View.ld (iblk m d 11 t) (Rect.unit ![0, 2, 0] ![1, 1, 1024] inb_S1x6x1024_S1x1x1024_0_2_0)) (ix2 r n)
      = Cert.ReferenceIdeal.Read.val_main_v64 (F := Ideal) (m ((d : Thread nD τ).loc main_arg0)) (m ((d : Thread nD τ).loc main_arg1))
        (m ((d : Thread nD τ).loc main_arg2)) (m ((d : Thread nD τ).loc main_arg3)) (m ((d : Thread nD τ).loc main_arg4))
        (m ((d : Thread nD τ).loc main_arg5)) (m ((d : Thread nD τ).loc main_arg6)) (m ((d : Thread nD τ).loc main_arg7))
        (m ((d : Thread nD τ).loc main_arg8)) (m ((d : Thread nD τ).loc main_arg9)) (ix2 R n) := by
  refine Eq.trans ?_ (Cert.ReferenceIdeal.Att.result H _ _ _ _ R n).symm
  have ht := lt_points t
  pointwise [k0_pay1]
  refine congrArg₂ (α := EReal) (β := EReal) (· + ·) ?_ (congrArg₂ (α := EReal) (β := EReal) (· * ·) ?_
    (congrArg₂ (α := EReal) (β := EReal) (· + ·) (Finset.sum_congr rfl fun l _ =>
      congrArg₂ (α := EReal) (β := EReal) (· * ·) ?_ (weights m d t l n)) (bias m d t n)))
  · blk_ext [iblk, V, idx t]
  · blk_ext [iblk, V, idx t]
  · rw [hR]
    exact A.blk_att t ht _ r r.isLt _

/-- The result array after the run, when the scores' arguments are the real numbers `A`. -/
theorem final (d : Dev nD) (A : Seqs) (H : Holds A (m ((d : Thread nD τ).loc main_arg1)) (m ((d : Thread nD τ).loc main_arg2))
    (m ((d : Thread nD τ).loc main_arg3)) (m ((d : Thread nD τ).loc main_arg4)) (m ((d : Thread nD τ).loc main_arg5))
    (m ((d : Thread nD τ).loc main_arg6))) :
    (dats m 0 d).arrAt 14 (cfgs 0).N
      = Cert.ReferenceIdeal.Read.val_main_v64 (F := Ideal) (m ((d : Thread nD τ).loc main_arg0)) (m ((d : Thread nD τ).loc main_arg1))
        (m ((d : Thread nD τ).loc main_arg2)) (m ((d : Thread nD τ).loc main_arg3)) (m ((d : Thread nD τ).loc main_arg4))
        (m ((d : Thread nD τ).loc main_arg5)) (m ((d : Thread nD τ).loc main_arg6)) (m ((d : Thread nD τ).loc main_arg7))
        (m ((d : Thread nD τ).loc main_arg8)) (m ((d : Thread nD τ).loc main_arg9)) := by
  refine (dats m 0 d).arrAt_eq_of_covers 14 _ (by decide +kernel) fun t _ y => ?_
  blk_simp
  rw [after0_14]
  unfold outsAt0
  rw [out_eq (b := A.blk t) (hi := (idx t).2.2.2.2.2.2.2.2.2.2.2.2.2.2.2.symm) (B := blocks m d A H t)]
  have ht := lt_points t
  idx_vars y
  refine (point m d A H t y0 y1 ⟨512 * t + y0, by omega⟩ rfl).trans (congrArg _ ?_)
  blk_ext [idx t]

end Cert.KernelIdeal.Att
-- ==== Proof.Finite.lean ====
/- The precondition: the queries, the keys and the sinks are real numbers. -/
module

public import proofs.«01_k».proof.Defs
public import proofs.«01_k».proof.Proof.RefValue
public import proofs.«01_k».proof.Proof.Gen.Pre_finite_scores
public import Idealize.ShloMosaic.Lib.Pipeline.ValueKit

@[expose] public section

set_option maxRecDepth 16384

noncomputable section

namespace Cert.KernelIdeal.Att

open Cert.KernelIdeal Cert.KernelIdeal.Gen Idealize.ShloMosaic Idealize.ShloMosaic.TcCoe Idealize.SL.Sem
open Cert.ReferenceIdeal.Att (Holds)

/-- An extended real whose absolute value is below infinity is a real number. -/
theorem coe_of_lt (x : EReal)
    (h : BitVec.ofBool (decide ((max x (-x) : EReal) < Ideal.ofBits FTy.f32 0x7F800000#32)) = 1#1) :
    x = (x.toReal : EReal) := by
  rw [show Ideal.ofBits FTy.f32 0x7F800000#32 = (⊤ : EReal) from rfl] at h
  have h' : max x (-x) < ⊤ := by
    by_contra hn
    rw [decide_eq_false hn] at h
    exact absurd h (by decide)
  rw [max_lt_iff] at h'
  refine (EReal.coe_toReal h'.1.ne fun hb => ?_).symm
  rw [hb, EReal.neg_bot] at h'
  exact absurd h'.2 (lt_irrefl _)

variable (m : (ℓ : Loc nD τ sig) → Buf (Elt Ideal) ℓ) (h : Pre_KernelIdeal_finite_scores m) (d : Dev nD)

/-- The arguments of the attention as the memory holds them. -/
def seqs : Seqs where
  q r x := EReal.toReal (m ((d : Thread nD τ).loc main_arg1) (ix2 ⟨r % 65536, Nat.mod_lt _ (by norm_num)⟩ ⟨x % 1024, Nat.mod_lt _ (by norm_num)⟩))
  k x r := EReal.toReal (m ((d : Thread nD τ).loc main_arg2) (ix2 ⟨x % 256, Nat.mod_lt _ (by norm_num)⟩ ⟨r % 65536, Nat.mod_lt _ (by norm_num)⟩))
  kc x r := EReal.toReal (m ((d : Thread nD τ).loc main_arg4) (ix2 ⟨x % 256, Nat.mod_lt _ (by norm_num)⟩ ⟨r % 2048, Nat.mod_lt _ (by norm_num)⟩))
  sk hd := EReal.toReal (m ((d : Thread nD τ).loc main_arg6) (ix1 ⟨hd % 16, Nat.mod_lt _ (by norm_num)⟩))
  v r x := m ((d : Thread nD τ).loc main_arg3) (ix2 ⟨r % 65536, Nat.mod_lt _ (by norm_num)⟩ ⟨x % 256, Nat.mod_lt _ (by norm_num)⟩)
  vc r x := m ((d : Thread nD τ).loc main_arg5) (ix2 ⟨r % 2048, Nat.mod_lt _ (by norm_num)⟩ ⟨x % 256, Nat.mod_lt _ (by norm_num)⟩)

/-- A number below the bound is the `Fin` of its remainder. -/
theorem fin_mod {n : ℕ} (a : Fin n) (h : a.val % n < n) : (⟨a.val % n, h⟩ : Fin n) = a :=
  Fin.ext (Nat.mod_eq_of_lt a.isLt)

include h

/-- Under the precondition the memory's arguments are those of the attention over real scores. -/
theorem holds : Holds (seqs m d) (m ((d : Thread nD τ).loc main_arg1)) (m ((d : Thread nD τ).loc main_arg2))
    (m ((d : Thread nD τ).loc main_arg3)) (m ((d : Thread nD τ).loc main_arg4)) (m ((d : Thread nD τ).loc main_arg5))
    (m ((d : Thread nD τ).loc main_arg6)) := by
  obtain ⟨h1, h2, h3, h4⟩ := h d
  constructor
  · intro r x
    have e := congrFun h1 (ix2 r x)
    unfold Cert.Pre_finite_scores.fn at e
    pointwise at e
    simp only [seqs, fin_mod]
    exact coe_of_lt _ e
  · intro x r
    have e := congrFun h2 (ix2 x r)
    unfold Cert.Pre_finite_scores.fn at e
    pointwise at e
    simp only [seqs, fin_mod]
    exact coe_of_lt _ e
  · intro r x
    simp only [seqs, fin_mod]
  · intro x r
    have e := congrFun h3 (ix2 x r)
    unfold Cert.Pre_finite_scores.fn at e
    pointwise at e
    simp only [seqs, fin_mod]
    exact coe_of_lt _ e
  · intro r x
    simp only [seqs, fin_mod]
  · intro x
    have e := congrFun h4 (ix1 x)
    unfold Cert.Pre_finite_scores.fn at e
    pointwise at e
    simp only [seqs, fin_mod]
    exact coe_of_lt _ e

end Cert.KernelIdeal.Att
-- ==== Proof.Ffn.lean ====
/- The feed-forward step of one row: RMS norm, modulation, two products with a squared ReLU between them, gated residual;
   and the sum over 4096 hidden units as four sums over 1024. -/
module

public import Idealize.ShloMosaic.PureOps.Ideal
public import Idealize.ShloMosaic.Lib.Pointwise

@[expose] public section

noncomputable section

namespace Cert.Ffn

open Idealize.ShloMosaic

/-- One over the root mean square of a row, with the norm's epsilon. -/
def invRms (x : Fin 1024 → EReal) : EReal :=
  Ideal.rsqrt (Ideal.div (∑ i, x i * x i) (Ideal.ofBits .f32 0x44800000#32) + Ideal.ofBits .f32 0x358637BD#32)

/-- A row normed, weighted by `g`, scaled by `1 + sc` and shifted by `sh`. -/
def normed (x g sh sc : Fin 1024 → EReal) (l : Fin 1024) : EReal :=
  x l * invRms x * g l * (1 + sc l) + sh l

/-- A hidden unit before its square. -/
def unit (h : Fin 1024 → EReal) (w1 : Fin 1024 → Fin 4096 → EReal) (j : Fin 4096) : EReal :=
  max (∑ l, h l * w1 l j) 0

/-- The step's result at column `n` of the row `x`. -/
def step (x g sh sc gt : Fin 1024 → EReal) (w1 : Fin 1024 → Fin 4096 → EReal) (w2 : Fin 4096 → Fin 1024 → EReal)
    (n : Fin 1024) : EReal :=
  x n + gt n * ∑ j, unit (normed x g sh sc) w1 j * unit (normed x g sh sc) w1 j * w2 j n

/-- A row after the gated residual of its projected, gated convolution: `x0 * (yc + u * skip)`, times `w`, plus `b`. -/
def mixed (x x0 u yc skip gt b : Fin 1024 → EReal) (w : Fin 1024 → Fin 1024 → EReal) (n : Fin 1024) : EReal :=
  x n + gt n * ((∑ l, x0 l * (yc l + u l * skip l) * w l n) + b n)

/-- The weight and the scale may be multiplied first. -/
theorem normed_eq (x g sh sc : Fin 1024 → EReal) (l : Fin 1024) :
    normed x g sh sc l = x l * invRms x * (g l * (1 + sc l)) + sh l := by
  rw [normed, mul_assoc (x l * invRms x)]

/-- A sum over 4096 is four sums over 1024. -/
theorem quarters (f : Fin 4096 → EReal) :
    ∑ j, f j = (∑ k : Fin 1024, f ⟨k, by omega⟩) + (∑ k : Fin 1024, f ⟨1024 + k, by omega⟩)
      + (∑ k : Fin 1024, f ⟨2048 + k, by omega⟩) + ∑ k : Fin 1024, f ⟨3072 + k, by omega⟩ := by
  rw [Fin.sum_univ_add (a := 3072) (b := 1024) f, Fin.sum_univ_add (a := 2048) (b := 1024),
    Fin.sum_univ_add (a := 1024) (b := 1024)]
  rfl

end Cert.Ffn
-- ==== Proof.Mlp.lean ====
/- The MLP call: what a grid point writes, and the array after the run, is the feed-forward step of each row. -/
module

public import proofs.«01_k».proof.Proof.Ffn
public import proofs.«01_k».proof.Proof.Gen.Kernel2Ideal.Value
public import Idealize.ShloMosaic.Lib.Pipeline.ValueKit
public import Idealize.ShloMosaic.Lib.Claim

@[expose] public section

set_option maxRecDepth 16384

noncomputable section

namespace Cert.Kernel2Ideal.Mlp

open Cert.Kernel2Ideal Cert.Kernel2Ideal.Gen Idealize.ShloMosaic Idealize.ShloMosaic.TcCoe Idealize.SL.Sem
open Idealize.ShloMosaic.Pipeline (Dat)

/-- The body's result at a row and a column, from what its staged blocks hold. -/
theorem body (x0 : Vec Ideal S1024x1024 .f32) (x1 : Vec Ideal S1x6x1024 .f32) (x2 : Vec Ideal S1x1024 .f32)
    (x3 : Vec Ideal S1024x4096 .bf16) (x4 : Vec Ideal S4096x1024 .bf16) (r n : Fin 1024) :
    out0_5 x0 x1 x2 x3 x4 (ix2 r n) = Ffn.step (fun l => x0 (ix2 r l)) (fun l => x2 (ix2 0 l)) (fun l => x1 (ix3 0 3 l))
      (fun l => x1 (ix3 0 4 l)) (fun l => x1 (ix3 0 5 l)) (fun l j => x3 (ix2 l j)) (fun j l => x4 (ix2 j l)) n := by
  frame_out
  have hn : ∀ l : Fin 1024, k0_pay2 x0 x2 (View.ld x1 r0_2) (View.ld x1 r0_3) (ix2 r l)
      = Ffn.normed (fun l => x0 (ix2 r l)) (fun l => x2 (ix2 0 l)) (fun l => x1 (ix3 0 3 l)) (fun l => x1 (ix3 0 4 l)) l := by
    intro l
    rw [Ffn.normed_eq]
    pointwise [k0_pay2]
    rfl
  rw [Ffn.step, Ffn.quarters]
  pointwise [k0_pay1, k0_pay4, k0_pay3, k0_pay5]
  simp only [hn]
  rfl

variable (m : (ℓ : Loc nD τ sig) → Buf (Elt Ideal) ℓ)

/-- The block each window stages at each point. -/
theorem idx : ∀ t : Fin cfg0.N, win0_0.index t = ![t.val, 0] ∧ win0_1.index t = ![t.val / 8, 0, 0] ∧ win0_2.index t = ![0, 0]
    ∧ win0_3.index t = ![0, 0] ∧ win0_4.index t = ![0, 0] ∧ win0_5.index t = ![t.val, 0] :=
  (by decide +kernel : ∀ t : Fin grid0.N, _)

theorem lt_points (t : Fin cfg0.N) : t.val < 64 :=
  t.isLt.trans_eq (by decide +kernel : grid0.N = 64)

/-- The result array after the run: at each row and column the feed-forward step of the row. -/
theorem final (d : Dev nD) (Y : FVec Ideal S65536x1024 .f32)
    (hY : ∀ (R : Fin 65536) (n : Fin 1024), Y (ix2 R n) = Ffn.step (fun l => m ((d : Thread nD τ).loc main_arg0) (ix2 R l))
      (fun l => m ((d : Thread nD τ).loc main_arg2) (ix1 l))
      (fun l => m ((d : Thread nD τ).loc main_arg1) (ix3 ⟨R / 8192, by omega⟩ 3 l))
      (fun l => m ((d : Thread nD τ).loc main_arg1) (ix3 ⟨R / 8192, by omega⟩ 4 l))
      (fun l => m ((d : Thread nD τ).loc main_arg1) (ix3 ⟨R / 8192, by omega⟩ 5 l))
      (fun l j => m ((d : Thread nD τ).loc main_arg3) (ix2 l j)) (fun j l => m ((d : Thread nD τ).loc main_arg4) (ix2 j l)) n) :
    (dats m 0 d).arrAt 5 (cfgs 0).N = Y := by
  refine (dats m 0 d).arrAt_eq_of_covers 5 _ (by decide +kernel) fun t _ y => ?_
  blk_simp
  rw [after0_5]
  have ht := lt_points t
  idx_vars y
  refine Eq.trans ?_ ((hY ⟨1024 * t + y0, by omega⟩ y1).symm.trans (congrArg _ ?_))
  · have hb := body (iblk m d 0 t) (iblk m d 1 t) (iblk m d 2 t) (iblk m d 3 t) (iblk m d 4 t) y0 y1
    refine hb.trans ?_
    have e0 : ∀ l : Fin 1024, (iblk m d 0 t : Vec Ideal S1024x1024 .f32) (ix2 y0 l)
        = m ((d : Thread nD τ).loc main_arg0) (ix2 ⟨1024 * t + y0, by omega⟩ l) := fun l => by blk_ext [iblk, V, idx t]
    have e1 : ∀ (s : Fin 6) (l : Fin 1024), (iblk m d 1 t : Vec Ideal S1x6x1024 .f32) (ix3 0 s l)
        = m ((d : Thread nD τ).loc main_arg1) (ix3 ⟨(1024 * t + y0) / 8192, by omega⟩ s l) := fun s l => by blk_ext [iblk, V, idx t]
    have e2 : ∀ l : Fin 1024, (iblk m d 2 t : Vec Ideal S1x1024 .f32) (ix2 0 l) = m ((d : Thread nD τ).loc main_arg2) (ix1 l) :=
      fun l => by
        refine Eq.trans (b := V m d main_v2 (ix2 0 l)) (by blk_ext [iblk, idx t]) ?_
        entry_read
        pointwise
    have e3 : ∀ (l : Fin 1024) (j : Fin 4096), (iblk m d 3 t : Vec Ideal S1024x4096 .bf16) (ix2 l j)
        = m ((d : Thread nD τ).loc main_arg3) (ix2 l j) := fun l j => by
      refine Eq.trans (b := V m d main_v0 (ix2 l j)) (by blk_ext [iblk, idx t]) ?_
      entry_read
      pointwise
    have e4 : ∀ (j : Fin 4096) (l : Fin 1024), (iblk m d 4 t : Vec Ideal S4096x1024 .bf16) (ix2 j l)
        = m ((d : Thread nD τ).loc main_arg4) (ix2 j l) := fun j l => by
      refine Eq.trans (b := V m d main_v1 (ix2 j l)) (by blk_ext [iblk, idx t]) ?_
      entry_read
      pointwise
    simp only [e0, e1, e2, e3, e4]
  · blk_ext [idx t]

end Cert.Kernel2Ideal.Mlp
-- ==== Proof.MlpRef.lean ====
/- The reference of the MLP call: the feed-forward step of each row. -/
module

public import proofs.«01_k».proof.Proof.Ffn
public import proofs.«01_k».proof.Proof.Gen.Reference2Ideal.Read
public import Idealize.ShloMosaic.Lib.Pipeline.ValueKit

@[expose] public section

set_option maxRecDepth 16384

noncomputable section

namespace Cert.Reference2Ideal.Mlp

open Cert.Reference2Ideal Cert.Reference2Ideal.Read Idealize.ShloMosaic

/-- The reference's result at a row and a column. -/
theorem result (x0 : FVec Ideal S65536x1024 .f32) (x1 : FVec Ideal S16x6x1024 .f32) (x2 : FVec Ideal S1024 .f32)
    (x3 : FVec Ideal S1024x4096 .f32) (x4 : FVec Ideal S4096x1024 .f32) (R : Fin 65536) (n : Fin 1024) :
    val_main_v45 (F := Ideal) x0 x1 x2 x3 x4 (ix2 R n)
      = Ffn.step (fun l => x0 (ix2 R l)) (fun l => x2 (ix1 l)) (fun l => x1 (ix3 ⟨R / 8192, by omega⟩ 3 l))
        (fun l => x1 (ix3 ⟨R / 8192, by omega⟩ 4 l)) (fun l => x1 (ix3 ⟨R / 8192, by omega⟩ 5 l))
        (fun l j => x3 (ix2 l j)) (fun j l => x4 (ix2 j l)) n := by
  pointwise [
    val_main_v45, val_main_v44, val_main_v43, val_main_v42, val_main_v41, val_main_v40, val_main_v39,
    val_main_call0_v0, val_main_call0_cst, val_main_v38, val_main_v37, val_main_v36, val_main_v35, val_main_v34,
    val_main_v33, val_main_v32, val_main_cst_2, val_main_v31, val_main_v30, val_main_v29, val_main_v28, val_main_v27,
    val_main_v26, val_main_v25, val_main_v24, val_main_cst_1, val_main_v23, val_main_v22, val_main_cst_0,
    val_main_v21, val_main_v20, val_main_cst, val_main_v19, val_main_v18, val_main_v17, val_main_v16, val_main_v15,
    val_main_v14, val_main_v13, val_main_v12, val_main_v11, val_main_v10, val_main_v9, val_main_v8, val_main_v7,
    val_main_v6, val_main_v5, val_main_v4, val_main_v3, val_main_v2, val_main_v1, val_main_v0]
  rfl

end Cert.Reference2Ideal.Mlp
-- ==== Proof.Out.lean ====
/- The Hyena output call: what a grid point writes, and the array after the run, is the feed-forward step of each mixed
   row. -/
module

public import proofs.«01_k».proof.Proof.Ffn
public import proofs.«01_k».proof.Proof.Gen.Kernel3Ideal.Value
public import Idealize.ShloMosaic.Lib.Pipeline.ValueKit
public import Idealize.ShloMosaic.Lib.Claim

@[expose] public section

set_option maxRecDepth 16384

noncomputable section

namespace Cert.Kernel3Ideal.Out

open Cert.Kernel3Ideal Cert.Kernel3Ideal.Gen Idealize.ShloMosaic Idealize.ShloMosaic.TcCoe Idealize.SL.Sem
open Idealize.ShloMosaic.Pipeline (Dat)

/-- The body's result at a row and a column, from what its staged blocks hold. -/
theorem body (x0 : Vec Ideal S512x1024 .f32) (x1 x2 x3 : Vec Ideal S512x1024 .bf16) (x4 : Vec Ideal S1x6x1024 .f32)
    (x5 : Vec Ideal S1x1024 .f32) (x6 : Vec Ideal S1024x1024 .bf16) (x7 x8 : Vec Ideal S1x1024 .f32)
    (x9 : Vec Ideal S1024x4096 .bf16) (x10 : Vec Ideal S4096x1024 .bf16) (r : Fin 512) (n : Fin 1024) :
    out0_11 x0 x1 x2 x3 x4 x5 x6 x7 x8 x9 x10 (ix2 r n)
      = Ffn.step (Ffn.mixed (fun l => x0 (ix2 r l)) (fun l => x1 (ix2 r l)) (fun l => x2 (ix2 r l)) (fun l => x3 (ix2 r l))
          (fun l => x5 (ix2 0 l)) (fun l => x4 (ix3 0 2 l)) (fun l => x7 (ix2 0 l)) (fun l k => x6 (ix2 l k)))
        (fun l => x8 (ix2 0 l)) (fun l => x4 (ix3 0 3 l)) (fun l => x4 (ix3 0 4 l)) (fun l => x4 (ix3 0 5 l))
        (fun l j => x9 (ix2 l j)) (fun j l => x10 (ix2 j l)) n := by
  frame_out
  have hx : ∀ l : Fin 1024, k0_pay9 x0 x1 x2 x3 x4 x5 x6 x7 x8 x9 x10 (ix2 r l)
      = Ffn.mixed (fun l => x0 (ix2 r l)) (fun l => x1 (ix2 r l)) (fun l => x2 (ix2 r l)) (fun l => x3 (ix2 r l))
        (fun l => x5 (ix2 0 l)) (fun l => x4 (ix3 0 2 l)) (fun l => x7 (ix2 0 l)) (fun l k => x6 (ix2 l k)) l := by
    intro l
    pointwise [k0_pay9, k0_pay2]
    rfl
  have hq : ∀ l : Fin 1024, k0_pay13 x0 x1 x2 x3 x4 x5 x6 x7 x8 x9 x10 (ix2 r l)
      = k0_pay9 x0 x1 x2 x3 x4 x5 x6 x7 x8 x9 x10 (ix2 r l) * k0_pay9 x0 x1 x2 x3 x4 x5 x6 x7 x8 x9 x10 (ix2 r l) := by
    intro l
    pointwise [k0_pay13, k0_pay9, k0_pay6, k0_pay2]
  have hg : ∀ l : Fin 1024, k0_pay10 x0 x1 x2 x3 x4 x5 x6 x7 x8 x9 x10 (ix2 0 l) = x8 (ix2 0 l) := by
    intro l
    pointwise [k0_pay10, k0_pay3]
  have hsh : ∀ l : Fin 1024, k0_pay11 x0 x1 x2 x3 x4 x5 x6 x7 x8 x9 x10 (ix2 0 l) = x4 (ix3 0 3 l) := by
    intro l
    pointwise [k0_pay11, k0_pay4]
  have hsc : ∀ l : Fin 1024, k0_pay12 x0 x1 x2 x3 x4 x5 x6 x7 x8 x9 x10 (ix2 0 l) = x4 (ix3 0 4 l) := by
    intro l
    pointwise [k0_pay12, k0_pay5]
  generalize k0_pay9 x0 x1 x2 x3 x4 x5 x6 x7 x8 x9 x10 = X at hx hq ⊢
  generalize k0_pay10 x0 x1 x2 x3 x4 x5 x6 x7 x8 x9 x10 = G at hg ⊢
  generalize k0_pay11 x0 x1 x2 x3 x4 x5 x6 x7 x8 x9 x10 = SH at hsh ⊢
  generalize k0_pay12 x0 x1 x2 x3 x4 x5 x6 x7 x8 x9 x10 = SC at hsc ⊢
  generalize k0_pay13 x0 x1 x2 x3 x4 x5 x6 x7 x8 x9 x10 = Q at hq ⊢
  have hn : ∀ l : Fin 1024, k0_pay7 X G SH SC Q (ix2 r l)
      = Ffn.normed (fun l => X (ix2 r l)) (fun l => x8 (ix2 0 l)) (fun l => x4 (ix3 0 3 l)) (fun l => x4 (ix3 0 4 l)) l := by
    intro l
    rw [Ffn.normed_eq]
    pointwise [k0_pay7]
    simp only [hq, hg, hsh, hsc]
    rfl
  rw [← funext hx, Ffn.step, Ffn.quarters]
  pointwise [k0_pay1, k0_pay8]
  simp only [hn]
  rfl

variable (m : (ℓ : Loc nD τ sig) → Buf (Elt Ideal) ℓ)

/-- The block each window stages at each point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val / 16, 0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![t.val, 0] :=
  (by decide +kernel : ∀ t : Fin grid0.N, _)

theorem lt_points (t : Fin cfg0.N) : t.val < 128 :=
  t.isLt.trans_eq (by decide +kernel : grid0.N = 128)

set_option maxHeartbeats 4000000 in
/-- The result array after the run: at each row and column the feed-forward step of the mixed row. -/
theorem final (d : Dev nD) (Y : FVec Ideal S65536x1024 .f32)
    (hY : ∀ (R : Fin 65536) (n : Fin 1024), Y (ix2 R n) = Ffn.step
      (Ffn.mixed (fun l => m ((d : Thread nD τ).loc main_arg0) (ix2 R l)) (fun l => m ((d : Thread nD τ).loc main_arg1) (ix2 R l))
        (fun l => m ((d : Thread nD τ).loc main_arg2) (ix2 R l)) (fun l => m ((d : Thread nD τ).loc main_arg3) (ix2 R l))
        (fun l => m ((d : Thread nD τ).loc main_arg5) (ix1 l))
        (fun l => m ((d : Thread nD τ).loc main_arg4) (ix3 ⟨R / 8192, by omega⟩ 2 l))
        (fun l => m ((d : Thread nD τ).loc main_arg7) (ix1 l)) (fun l k => m ((d : Thread nD τ).loc main_arg6) (ix2 l k)))
      (fun l => m ((d : Thread nD τ).loc main_arg8) (ix1 l))
      (fun l => m ((d : Thread nD τ).loc main_arg4) (ix3 ⟨R / 8192, by omega⟩ 3 l))
      (fun l => m ((d : Thread nD τ).loc main_arg4) (ix3 ⟨R / 8192, by omega⟩ 4 l))
      (fun l => m ((d : Thread nD τ).loc main_arg4) (ix3 ⟨R / 8192, by omega⟩ 5 l))
      (fun l j => m ((d : Thread nD τ).loc main_arg9) (ix2 l j)) (fun j l => m ((d : Thread nD τ).loc main_arg10) (ix2 j l)) n) :
    (dats m 0 d).arrAt 11 (cfgs 0).N = Y := by
  refine (dats m 0 d).arrAt_eq_of_covers 11 _ (by decide +kernel) fun t _ y => ?_
  blk_simp
  rw [after0_11]
  have ht := lt_points t
  idx_vars y
  refine Eq.trans ?_ ((hY ⟨512 * t + y0, by omega⟩ y1).symm.trans (congrArg _ ?_))
  · have hb := body (iblk m d 0 t) (iblk m d 1 t) (iblk m d 2 t) (iblk m d 3 t) (iblk m d 4 t) (iblk m d 5 t) (iblk m d 6 t)
      (iblk m d 7 t) (iblk m d 8 t) (iblk m d 9 t) (iblk m d 10 t) y0 y1
    refine hb.trans ?_
    have e0 : ∀ l : Fin 1024, (iblk m d 0 t : Vec Ideal S512x1024 .f32) (ix2 y0 l)
        = m ((d : Thread nD τ).loc main_arg0) (ix2 ⟨512 * t + y0, by omega⟩ l) := fun l => by blk_ext [iblk, V, idx t]
    have e1 : ∀ l : Fin 1024, (iblk m d 1 t : Vec Ideal S512x1024 .bf16) (ix2 y0 l)
        = m ((d : Thread nD τ).loc main_arg1) (ix2 ⟨512 * t + y0, by omega⟩ l) := fun l => by blk_ext [iblk, V, idx t]
    have e2 : ∀ l : Fin 1024, (iblk m d 2 t : Vec Ideal S512x1024 .bf16) (ix2 y0 l)
        = m ((d : Thread nD τ).loc main_arg2) (ix2 ⟨512 * t + y0, by omega⟩ l) := fun l => by blk_ext [iblk, V, idx t]
    have e3 : ∀ l : Fin 1024, (iblk m d 3 t : Vec Ideal S512x1024 .bf16) (ix2 y0 l)
        = m ((d : Thread nD τ).loc main_arg3) (ix2 ⟨512 * t + y0, by omega⟩ l) := fun l => by blk_ext [iblk, V, idx t]
    have e4 : ∀ (s : Fin 6) (l : Fin 1024), (iblk m d 4 t : Vec Ideal S1x6x1024 .f32) (ix3 0 s l)
        = m ((d : Thread nD τ).loc main_arg4) (ix3 ⟨(512 * t + y0) / 8192, by omega⟩ s l) := fun s l => by blk_ext [iblk, V, idx t]
    have e5 : ∀ l : Fin 1024, (iblk m d 5 t : Vec Ideal S1x1024 .f32) (ix2 0 l) = m ((d : Thread nD τ).loc main_arg5) (ix1 l) :=
      fun l => by
        refine Eq.trans (b := V m d main_v3 (ix2 0 l)) (by blk_ext [iblk, idx t]) ?_
        entry_read
        pointwise
    have e7 : ∀ l : Fin 1024, (iblk m d 7 t : Vec Ideal S1x1024 .f32) (ix2 0 l) = m ((d : Thread nD τ).loc main_arg7) (ix1 l) :=
      fun l => by
        refine Eq.trans (b := V m d main_v4 (ix2 0 l)) (by blk_ext [iblk, idx t]) ?_
        entry_read
        pointwise
    have e8 : ∀ l : Fin 1024, (iblk m d 8 t : Vec Ideal S1x1024 .f32) (ix2 0 l) = m ((d : Thread nD τ).loc main_arg8) (ix1 l) :=
      fun l => by
        refine Eq.trans (b := V m d main_v5 (ix2 0 l)) (by blk_ext [iblk, idx t]) ?_
        entry_read
        pointwise
    have e6 : ∀ (l : Fin 1024) (j : Fin 1024), (iblk m d 6 t : Vec Ideal S1024x1024 .bf16) (ix2 l j)
        = m ((d : Thread nD τ).loc main_arg6) (ix2 l j) := fun l j => by
      refine Eq.trans (b := V m d main_v0 (ix2 l j)) (by blk_ext [iblk, idx t]) ?_
      entry_read
      pointwise
    have e9 : ∀ (l : Fin 1024) (j : Fin 4096), (iblk m d 9 t : Vec Ideal S1024x4096 .bf16) (ix2 l j)
        = m ((d : Thread nD τ).loc main_arg9) (ix2 l j) := fun l j => by
      refine Eq.trans (b := V m d main_v1 (ix2 l j)) (by blk_ext [iblk, idx t]) ?_
      entry_read
      pointwise
    have e10 : ∀ (l : Fin 4096) (j : Fin 1024), (iblk m d 10 t : Vec Ideal S4096x1024 .bf16) (ix2 l j)
        = m ((d : Thread nD τ).loc main_arg10) (ix2 l j) := fun l j => by
      refine Eq.trans (b := V m d main_v2 (ix2 l j)) (by blk_ext [iblk, idx t]) ?_
      entry_read
      pointwise
    simp only [e0, e1, e2, e3, e4, e5, e6, e7, e8, e9, e10]
  · blk_ext [idx t]

end Cert.Kernel3Ideal.Out
-- ==== Proof.OutRef.lean ====
/- The reference of the Hyena output call: each row mixed, then its feed-forward step. -/
module

public import proofs.«01_k».proof.Proof.Ffn
public import proofs.«01_k».proof.Proof.Gen.Reference3Ideal.Read
public import Idealize.ShloMosaic.Lib.Pipeline.ValueKit

@[expose] public section

set_option maxRecDepth 16384

noncomputable section

namespace Cert.Reference3Ideal.Out

open Cert.Reference3Ideal Cert.Reference3Ideal.Read Idealize.ShloMosaic

/-- The reference's result at a row and a column. -/
theorem result (x0 : FVec Ideal S65536x1024 .f32) (x1 x2 x3 : FVec Ideal S65536x1024 .bf16) (x4 : FVec Ideal S16x6x1024 .f32)
    (x5 : FVec Ideal S1024 .f32) (x6 : FVec Ideal S1024x1024 .f32) (x7 x8 : FVec Ideal S1024 .f32)
    (x9 : FVec Ideal S1024x4096 .f32) (x10 : FVec Ideal S4096x1024 .f32) (R : Fin 65536) (n : Fin 1024) :
    val_main_v63 (F := Ideal) x0 x1 x2 x3 x4 x5 x6 x7 x8 x9 x10 (ix2 R n)
      = Ffn.step (Ffn.mixed (fun l => x0 (ix2 R l)) (fun l => x1 (ix2 R l)) (fun l => x2 (ix2 R l)) (fun l => x3 (ix2 R l))
          (fun l => x5 (ix1 l)) (fun l => x4 (ix3 ⟨R / 8192, by omega⟩ 2 l)) (fun l => x7 (ix1 l)) (fun l k => x6 (ix2 l k)))
        (fun l => x8 (ix1 l)) (fun l => x4 (ix3 ⟨R / 8192, by omega⟩ 3 l))
        (fun l => x4 (ix3 ⟨R / 8192, by omega⟩ 4 l)) (fun l => x4 (ix3 ⟨R / 8192, by omega⟩ 5 l))
        (fun l j => x9 (ix2 l j)) (fun j l => x10 (ix2 j l)) n := by
  pointwise [
    val_main_v63, val_main_v62, val_main_v61, val_main_v60, val_main_v59, val_main_v58, val_main_v57,
    val_main_call0_v0, val_main_call0_cst, val_main_v56, val_main_v55, val_main_v54, val_main_v53, val_main_v52,
    val_main_v51, val_main_v50, val_main_cst_2, val_main_v49, val_main_v48, val_main_v47, val_main_v46, val_main_v45,
    val_main_v44, val_main_v43, val_main_v42, val_main_cst_1, val_main_v41, val_main_v40, val_main_cst_0,
    val_main_v39, val_main_v38, val_main_cst, val_main_v37, val_main_v36, val_main_v35, val_main_v34, val_main_v33,
    val_main_v32, val_main_v31, val_main_v30, val_main_v29, val_main_v28, val_main_v27, val_main_v26, val_main_v25,
    val_main_v24, val_main_v23, val_main_v22, val_main_v21, val_main_v20, val_main_v19, val_main_v18, val_main_v17,
    val_main_v16, val_main_v15, val_main_v14, val_main_v13, val_main_v12, val_main_v11, val_main_v10, val_main_v9,
    val_main_v8, val_main_v7, val_main_v6, val_main_v5, val_main_v4, val_main_v3, val_main_v2, val_main_v1,
    val_main_v0]
  rfl

end Cert.Reference3Ideal.Out
-- ==== Proof.Conv.lean ====
/- The input step of the Hyena layer: a row normed and projected, and the centred convolution of three neighbouring rows of
   a sequence, zeros beyond its ends. -/
module

public import proofs.«01_k».proof.Proof.Ffn

@[expose] public section

noncomputable section

namespace Cert.Conv

open Idealize.ShloMosaic

/-- A column of a row's projection, the bias added. -/
def proj (h w : Fin 1024 → EReal) (b : EReal) : EReal := (∑ l, h l * w l) + b

/-- The row before, zero at a sequence's start. -/
def before (q : Fin 65536 → EReal) (R : Fin 65536) : EReal :=
  if R.val % 8192 = 0 then 0 else q ⟨R.val - 1, by omega⟩

/-- The row after, zero at a sequence's end. -/
def after (q : Fin 65536 → EReal) (R : Fin 65536) : EReal :=
  if h : R.val % 8192 = 8191 then 0 else q ⟨R.val + 1, by omega⟩

/-- The centred convolution of three neighbouring rows. -/
def centred (q : Fin 65536 → EReal) (cb c0 c1 c2 : EReal) (R : Fin 65536) : EReal :=
  ((cb + before q R * c0) + q R * c1) + after q R * c2

/-- A bias may be taken out of a product with a real weight. -/
theorem add_mul_real (p : EReal) (b c : ℝ) : (p + b) * c = p * c + (b : EReal) * c := by
  induction p using EReal.rec with
  | coe x => norm_cast; ring_nf
  | bot =>
    rcases lt_trichotomy c 0 with h | h | h
    · rw [EReal.bot_add, EReal.bot_mul_coe_of_neg h, ← EReal.coe_mul, EReal.top_add_coe]
    · subst h; simp
    · rw [EReal.bot_add, EReal.bot_mul_coe_of_pos h, EReal.bot_add]
  | top =>
    rcases lt_trichotomy c 0 with h | h | h
    · rw [EReal.top_add_coe, EReal.top_mul_coe_of_neg h, EReal.bot_add]
    · subst h; simp
    · rw [EReal.top_add_coe, EReal.top_mul_coe_of_pos h, ← EReal.coe_mul, EReal.top_add_coe]

/-- The bias distributed over the weights. -/
theorem bias_out (cb p0 p1 p2 : EReal) (b c0 c1 c2 : ℝ) :
    ((cb + (b : EReal) * (((c0 : EReal) + c1) + c2)) + p0 * c0) + p1 * c1 + p2 * c2
      = ((cb + (p0 + b) * c0) + (p1 + b) * c1) + (p2 + b) * c2 := by
  rw [add_mul_real, add_mul_real, add_mul_real]
  have : (b : EReal) * (((c0 : EReal) + c1) + c2) = (b : EReal) * c0 + (b : EReal) * c1 + (b : EReal) * c2 := by
    norm_cast
    ring
  rw [this]
  abel

end Cert.Conv
-- ==== Proof.Inp.lean ====
/- The Hyena input call's body: the projected rows of a block and its two neighbours pass through scratch, and the
   convolution of width 3 reads them back one row apart. -/
module

public import proofs.«01_k».proof.Proof.Ffn
public import proofs.«01_k».proof.Proof.Gen.Kernel4Ideal.Value
public import Idealize.ShloMosaic.Lib.Pipeline.ValueKit
public import Idealize.ShloMosaic.Lib.Pipeline.ReadBack
public import Idealize.ShloMosaic.Lib.WordCmp
public import Idealize.ShloMosaic.Lib.Claim

@[expose] public section

set_option maxRecDepth 200000

noncomputable section

namespace Cert.Kernel4Ideal.Inp

open Cert.Kernel4Ideal Cert.Kernel4Ideal.Gen Idealize.ShloMosaic Idealize.ShloMosaic.TcCoe Idealize.SL.Sem

/-- A row of the projection as the scratch holds it: minus the bias at the row beyond an end of the sequence. -/
def proj (fst lst : BitVec 1) (b : EReal) (h w : Fin 1024 → EReal) (ρ : ℕ) : EReal :=
  if (fst = 1#1 ∧ ρ = 15) ∨ (lst = 1#1 ∧ ρ = 528) then 0 - b else ∑ l, h l * w l

theorem select_row (k : BitVec 1) (r c : ℕ) (hr : r < 2 ^ 32) (hc : c < 2 ^ 32) (x y : EReal) :
    Scalar.select (IntOp.andi k (IntOp.cmpi .eq (BitVec.ofNat 32 r) (BitVec.ofNat 32 c))) x y
      = if k = 1#1 ∧ r = c then x else y := by
  have hk : k = BitVec.ofBool (decide (k = 1#1)) := by revert k; decide
  rw [WordCmp.cmpi_eq_ofNat hr hc]
  conv_lhs => rw [hk]
  rw [WordCmp.andi_ofBool, ← Bool.decide_and, WordCmp.select_ofBool]
  simp

/-- The convolution of three neighbouring rows, the bias apart. -/
def conv (b cb c0 c1 c2 p0 p1 p2 : EReal) : EReal :=
  ((cb + b * ((c0 + c1) + c2)) + p0 * c0) + p1 * c1 + p2 * c2

section

variable (H : FVec Ideal S544x1024 .bf16) (fst lst : BitVec 1) (b : Vec Ideal S1x256 .f32) (w : Vec Ideal S1024x256 .bf16)

/-- What a scratch buffer holds. -/
def rows : S544x256.Idx → EReal := fun y =>
  proj fst lst (b (ix2 0 (y 1))) (fun l => H (ix2 (y 0) l)) (fun l => w (ix2 l (y 1))) (y 0).val

theorem top (r : Fin 16) (j : Fin 256) : k0_pay31 H (k0_pay12 fst) b w (ix2 r j) = rows H fst lst b w (ix2 ⟨r, by omega⟩ j) := by
  pointwise [k0_pay31, k0_pay30, k0_pay29, k0_pay12]
  refine (select_row fst r 15 (by omega) (by norm_num) _ _).trans ?_
  show _ = proj _ _ _ _ _ r.val
  unfold proj
  congr 1
  have : r.val ≠ 528 := by omega
  simp [this]

theorem mid (r : Fin 512) (j : Fin 256) : k0_pay32 H w (ix2 r j) = rows H fst lst b w (ix2 ⟨16 + r, by omega⟩ j) := by
  pointwise [k0_pay32, k0_pay30]
  show _ = proj _ _ _ _ _ (16 + r.val)
  unfold proj
  rw [if_neg (by omega)]
  rfl

theorem bot (r : Fin 16) (j : Fin 256) :
    k0_pay34 (k0_pay33 H (k0_pay13 lst) b w) (ix2 r j) = rows H fst lst b w (ix2 ⟨528 + r, by omega⟩ j) := by
  pointwise [k0_pay34, k0_pay33, k0_pay30, k0_pay29, k0_pay13]
  refine (select_row lst r 0 (by omega) (by norm_num) _ _).trans ?_
  show _ = proj _ _ _ _ _ (528 + r.val)
  unfold proj
  congr 1
  have : 528 + r.val ≠ 15 := by omega
  simp [this]

/-- A load of 512 rows from the scratch, after its three stores. -/
theorem load {κ : Kind} {sp : Space} (v : View sig κ sp S544x256 .f32) (i0 i1 i2) (rest : List (View.Piece (Elt Ideal) S544x256 .f32))
    (o : ℕ) (inb) (r : Fin 512) (j : Fin 256) (ho : o + r < 544) :
    v.readCov (⟨Rect.unit ![528, 0] ![16, 256] i0, k0_pay34 (k0_pay33 H (k0_pay13 lst) b w)⟩
      :: ⟨Rect.unit ![16, 0] ![512, 256] i1, k0_pay32 H w⟩ :: ⟨Rect.unit ![0, 0] ![16, 256] i2, k0_pay31 H (k0_pay12 fst) b w⟩ :: rest)
      (Rect.unit (s := S544x256) ![o, 0] ![512, 256] inb).toLoadRect (ix2 r j)
      = rows H fst lst b w (ix2 ⟨o + r, ho⟩ j) := by
  rw [View.readCov_eq_canon']
  have hp : View.PiecesOf (Val := Elt Ideal) (e := .f32) (rows H fst lst b w)
      [⟨Rect.unit ![528, 0] ![16, 256] i0, k0_pay34 (k0_pay33 H (k0_pay13 lst) b w)⟩,
        ⟨Rect.unit ![16, 0] ![512, 256] i1, k0_pay32 H w⟩, ⟨Rect.unit ![0, 0] ![16, 256] i2, k0_pay31 H (k0_pay12 fst) b w⟩] := by
    refine ⟨fun x => ?_, fun x => ?_, fun x => ?_, trivial⟩
    · idx_vars x
      refine (bot H fst lst b w x0 x1).trans (congrArg _ ?_)
      blk_ext
    · idx_vars x
      refine (mid H fst lst b w x0 x1).trans (congrArg _ ?_)
      blk_ext
    · idx_vars x
      refine (top H fst lst b w x0 x1).trans (congrArg _ ?_)
      blk_ext
  have := View.canon_append_of_piecesOf (Val := Elt Ideal) (e := .f32) (rows H fst lst b w) rest _ hp
    ((Rect.unit (s := S544x256) ![o, 0] ![512, 256] inb).toLoadRect.idx (ix2 r j))
    (View.cover_of_tiledBy _ ![16, 256] (by sl_kernel_rfl) _)
  refine this.trans (congrArg _ (Shape.idx_ext₂ ?_ ?_))
  · exact Rect.idx_unit_val _ _ _ _ _
  · exact (Rect.idx_unit_val _ _ _ _ _).trans (Nat.zero_add _)

/-- The three stores into a scratch buffer, over what came before. -/
abbrev stores (j0 : ∀ a : Fin S544x256.rank, ![528, 0] a + ![16, 256] a ≤ S544x256.size a)
    (j1 : ∀ a : Fin S544x256.rank, ![16, 0] a + ![512, 256] a ≤ S544x256.size a)
    (j2 : ∀ a : Fin S544x256.rank, ![0, 0] a + ![16, 256] a ≤ S544x256.size a) (rest : List (View.Piece (Elt Ideal) S544x256 .f32)) : List (View.Piece (Elt Ideal) S544x256 .f32) :=
  ⟨Rect.unit ![528, 0] ![16, 256] j0, k0_pay34 (k0_pay33 H (k0_pay13 lst) b w)⟩ :: ⟨Rect.unit ![16, 0] ![512, 256] j1, k0_pay32 H w⟩
    :: ⟨Rect.unit ![0, 0] ![16, 256] j2, k0_pay31 H (k0_pay12 fst) b w⟩ :: rest

end

theorem comb (b cb c0 c1 c2 : Vec Ideal S1x256 .f32) (p0 p1 p2 : Vec Ideal S512x256 .f32) (r : Fin 512) (j : Fin 256) :
    k0_pay19 (k0_pay14 b) cb c0 c1 c2 p0 c0 p1 c1 p2 c2 (ix2 r j)
      = conv (b (ix2 0 j)) (cb (ix2 0 j)) (c0 (ix2 0 j)) (c1 (ix2 0 j)) (c2 (ix2 0 j)) (p0 (ix2 r j)) (p1 (ix2 r j)) (p2 (ix2 r j)) := by
  pointwise [k0_pay19, k0_pay14]
  rfl

theorem comb_mul (b cb c0 c1 c2 : Vec Ideal S1x256 .f32) (p0 p1 p2 : Vec Ideal S512x256 .f32)
    (b' cb' c0' c1' c2' : Vec Ideal S1x256 .f32) (p0' p1' p2' : Vec Ideal S512x256 .f32) (r : Fin 512) (j : Fin 256) :
    k0_pay35 (k0_pay51 (k0_pay14 b) cb c0 c1 c2 p0 c0 p1 c1 p2 c2) (k0_pay29 b') cb' c0' c1' c2' p0' c0' p1' c1' p2' c2' (ix2 r j)
      = conv (b (ix2 0 j)) (cb (ix2 0 j)) (c0 (ix2 0 j)) (c1 (ix2 0 j)) (c2 (ix2 0 j)) (p0 (ix2 r j)) (p1 (ix2 r j)) (p2 (ix2 r j))
        * conv (b' (ix2 0 j)) (cb' (ix2 0 j)) (c0' (ix2 0 j)) (c1' (ix2 0 j)) (c2' (ix2 0 j)) (p0' (ix2 r j)) (p1' (ix2 r j)) (p2' (ix2 r j)) := by
  pointwise [k0_pay35, k0_pay51, k0_pay14, k0_pay29]
  rfl

theorem ld2 {n m k : ℕ} {e : EltTy} (X : Vec Ideal ⟨2, ![n, m]⟩ e) (a o : ℕ) (inb) (r : Fin k) (j : Fin 256)
    (ha : a + r < n) (ho : o + j < m) :
    View.ld X (Rect.unit (s := ⟨2, ![n, m]⟩) ![a, o] ![k, 256] inb) (ix2 r j) = X (ix2 ⟨a + r, ha⟩ ⟨o + j, ho⟩) :=
  View.ld_unit_apply_of _ _ _ _ _ _ (by intro a; fin_cases a <;> rfl)

section

variable (H : FVec Ideal S544x1024 .bf16) (fst lst : BitVec 1) (x5 : Vec Ideal S1024x3072 .bf16) (x6 : Vec Ideal S1x3072 .f32)
  (x7 : Vec Ideal S3x3072 .f32) (x8 : Vec Ideal S1x3072 .f32)

/-- Row `ρ` of the projection at a column. -/
def projAt (ρ : ℕ) (hρ : ρ < 544) (c : Fin 3072) : EReal :=
  proj fst lst (x6 (ix2 0 c)) (fun l => H (ix2 ⟨ρ, hρ⟩ l)) (fun l => x5 (ix2 l c)) ρ

/-- The convolution at a row of the block and a column. -/
def convAt (r : Fin 512) (c : Fin 3072) : EReal :=
  conv (x6 (ix2 0 c)) (x8 (ix2 0 c)) (x7 (ix2 0 c)) (x7 (ix2 1 c)) (x7 (ix2 2 c)) (projAt H fst lst x5 x6 (15 + r) (by omega) c)
    (projAt H fst lst x5 x6 (16 + r) (by omega) c) (projAt H fst lst x5 x6 (17 + r) (by omega) c)

/-- The convolution at a block's row and a column, from the loads it is made of. -/
theorem conv_loads {κ : Kind} {sp : Space} (v : View sig κ sp S544x256 .f32) (j0 j1 j2) (rest : List (View.Piece (Elt Ideal) S544x256 .f32))
    (o : ℕ) (i5 i6 i70 i71 i72 i8 l0 l1 l2) (r : Fin 512) (j : Fin 256) (ho : o + j < 3072) :
    conv (View.ld x6 (Rect.unit (s := S1x3072) ![0, o] ![1, 256] i6) (ix2 0 j)) (View.ld x8 (Rect.unit (s := S1x3072) ![0, o] ![1, 256] i8) (ix2 0 j))
      (View.ld x7 (Rect.unit (s := S3x3072) ![0, o] ![1, 256] i70) (ix2 0 j)) (View.ld x7 (Rect.unit (s := S3x3072) ![1, o] ![1, 256] i71) (ix2 0 j))
      (View.ld x7 (Rect.unit (s := S3x3072) ![2, o] ![1, 256] i72) (ix2 0 j))
      (v.readCov (stores H fst lst (View.ld x6 (Rect.unit (s := S1x3072) ![0, o] ![1, 256] i6)) (View.ld x5 (Rect.unit (s := S1024x3072) ![0, o] ![1024, 256] i5)) j0 j1 j2 rest)
        (Rect.unit (s := S544x256) ![15, 0] ![512, 256] l0).toLoadRect (ix2 r j))
      (v.readCov (stores H fst lst (View.ld x6 (Rect.unit (s := S1x3072) ![0, o] ![1, 256] i6)) (View.ld x5 (Rect.unit (s := S1024x3072) ![0, o] ![1024, 256] i5)) j0 j1 j2 rest)
        (Rect.unit (s := S544x256) ![16, 0] ![512, 256] l1).toLoadRect (ix2 r j))
      (v.readCov (stores H fst lst (View.ld x6 (Rect.unit (s := S1x3072) ![0, o] ![1, 256] i6)) (View.ld x5 (Rect.unit (s := S1024x3072) ![0, o] ![1024, 256] i5)) j0 j1 j2 rest)
        (Rect.unit (s := S544x256) ![17, 0] ![512, 256] l2).toLoadRect (ix2 r j))
      = convAt H fst lst x5 x6 x7 x8 r ⟨o + j, ho⟩ := by
  have hx6 : View.ld x6 (Rect.unit (s := S1x3072) ![0, o] ![1, 256] i6) (ix2 0 j) = x6 (ix2 0 ⟨o + j, ho⟩) := ld2 x6 0 o i6 0 j (by decide) ho
  have hx8 : View.ld x8 (Rect.unit (s := S1x3072) ![0, o] ![1, 256] i8) (ix2 0 j) = x8 (ix2 0 ⟨o + j, ho⟩) := ld2 x8 0 o i8 0 j (by decide) ho
  have h70 : View.ld x7 (Rect.unit (s := S3x3072) ![0, o] ![1, 256] i70) (ix2 0 j) = x7 (ix2 0 ⟨o + j, ho⟩) := ld2 x7 0 o i70 0 j (by decide) ho
  have h71 : View.ld x7 (Rect.unit (s := S3x3072) ![1, o] ![1, 256] i71) (ix2 0 j) = x7 (ix2 1 ⟨o + j, ho⟩) := ld2 x7 1 o i71 0 j (by decide) ho
  have h72 : View.ld x7 (Rect.unit (s := S3x3072) ![2, o] ![1, 256] i72) (ix2 0 j) = x7 (ix2 2 ⟨o + j, ho⟩) := ld2 x7 2 o i72 0 j (by decide) ho
  have hx5 : ∀ l : Fin 1024, View.ld x5 (Rect.unit (s := S1024x3072) ![0, o] ![1024, 256] i5) (ix2 l j) = x5 (ix2 l ⟨o + j, ho⟩) := fun l =>
    (ld2 x5 0 o i5 l j (by omega) ho).trans (congrArg (fun l' => x5 (ix2 l' ⟨o + j, ho⟩)) (Fin.ext (Nat.zero_add _)))
  have hp : ∀ (ρ : ℕ) (hρ : ρ < 544), rows H fst lst (View.ld x6 (Rect.unit (s := S1x3072) ![0, o] ![1, 256] i6))
      (View.ld x5 (Rect.unit (s := S1024x3072) ![0, o] ![1024, 256] i5)) (ix2 ⟨ρ, hρ⟩ j) = projAt H fst lst x5 x6 ρ hρ ⟨o + j, ho⟩ := by
    intro ρ hρ
    show proj _ _ _ _ _ _ = proj _ _ _ _ _ _
    rw [show (fun l => View.ld x5 (Rect.unit (s := S1024x3072) ![0, o] ![1024, 256] i5) (ix2 l ((ix2 ⟨ρ, hρ⟩ j : S544x256.Idx) 1)))
      = fun l => x5 (ix2 l ⟨o + j, ho⟩) from funext hx5]
    exact congrArg (fun b => proj fst lst b _ _ ρ) hx6
  rw [load _ _ _ _ _ v j0 j1 j2 rest 15 l0 r j (by omega), load _ _ _ _ _ v j0 j1 j2 rest 16 l1 r j (by omega),
    load _ _ _ _ _ v j0 j1 j2 rest 17 l2 r j (by omega), hx6, hx8, h70, h71, h72, hp, hp, hp]
  rfl

/-- The two results over the block. -/
def block9 : S512x1024.Idx → EReal := fun y => convAt H fst lst x5 x6 x7 x8 (y 0) ⟨0 + y 1, by have := (y 1).isLt; simp at this; omega⟩
def block10 : S512x1024.Idx → EReal := fun y => convAt H fst lst x5 x6 x7 x8 (y 0) ⟨1024 + y 1, by have := (y 1).isLt; simp at this; omega⟩
  * convAt H fst lst x5 x6 x7 x8 (y 0) ⟨2048 + y 1, by have := (y 1).isLt; simp at this; omega⟩

theorem piece9 (p : ℕ) {κ : Kind} {sp : Space} (v : View sig κ sp S544x256 .f32) (j0 j1 j2) (rest : List (View.Piece (Elt Ideal) S544x256 .f32)) (i5 i6 i70 i71 i72 i8 l0 l1 l2) (inb) (x : S512x256.Idx) :
    k0_pay19 (k0_pay14 (View.ld x6 (Rect.unit (s := S1x3072) ![0, p] ![1, 256] i6)))
      (View.ld x8 (Rect.unit (s := S1x3072) ![0, p] ![1, 256] i8)) (View.ld x7 (Rect.unit (s := S3x3072) ![0, p] ![1, 256] i70))
      (View.ld x7 (Rect.unit (s := S3x3072) ![1, p] ![1, 256] i71)) (View.ld x7 (Rect.unit (s := S3x3072) ![2, p] ![1, 256] i72))
      (v.readCov (stores H fst lst (View.ld x6 (Rect.unit (s := S1x3072) ![0, p] ![1, 256] i6)) (View.ld x5 (Rect.unit (s := S1024x3072) ![0, p] ![1024, 256] i5)) j0 j1 j2 rest) (Rect.unit (s := S544x256) ![15, 0] ![512, 256] l0).toLoadRect)
      (View.ld x7 (Rect.unit (s := S3x3072) ![0, p] ![1, 256] i70))
      (v.readCov (stores H fst lst (View.ld x6 (Rect.unit (s := S1x3072) ![0, p] ![1, 256] i6)) (View.ld x5 (Rect.unit (s := S1024x3072) ![0, p] ![1024, 256] i5)) j0 j1 j2 rest) (Rect.unit (s := S544x256) ![16, 0] ![512, 256] l1).toLoadRect)
      (View.ld x7 (Rect.unit (s := S3x3072) ![1, p] ![1, 256] i71))
      (v.readCov (stores H fst lst (View.ld x6 (Rect.unit (s := S1x3072) ![0, p] ![1, 256] i6)) (View.ld x5 (Rect.unit (s := S1024x3072) ![0, p] ![1024, 256] i5)) j0 j1 j2 rest) (Rect.unit (s := S544x256) ![17, 0] ![512, 256] l2).toLoadRect)
      (View.ld x7 (Rect.unit (s := S3x3072) ![2, p] ![1, 256] i72)) x
      = block9 H fst lst x5 x6 x7 x8 ((Rect.unit (s := S512x1024) ![0, p] ![512, 256] inb).emb x) := by
  idx_vars x
  have hp : p + 256 ≤ 1024 := inb 1
  refine (comb _ _ _ _ _ _ _ _ x0 x1).trans ((conv_loads H fst lst x5 x6 x7 x8 v j0 j1 j2 rest p i5 i6 i70 i71 i72 i8 l0 l1 l2 x0 x1 (by omega)).trans ?_)
  unfold block9
  congr 1
  · exact Fin.ext (((Rect.idx_unit_val (s := S512x1024) ![0, p] ![512, 256] inb (ix2 x0 x1) 0).trans (Nat.zero_add _)).symm)
  · have h := Rect.idx_unit_val (s := S512x1024) ![0, p] ![512, 256] inb (ix2 x0 x1) 1
    exact Fin.ext ((Nat.zero_add _).trans h).symm

theorem piece10 (p o1 o2 : ℕ) (h1 : o1 = 1024 + p) (h2 : o2 = 2048 + p) {κ κ' : Kind} {sp sp' : Space} (v : View sig κ sp S544x256 .f32) (j0 j1 j2) (rest : List (View.Piece (Elt Ideal) S544x256 .f32)) (i5 i6 i70 i71 i72 i8 l0 l1 l2)
    (v' : View sig κ' sp' S544x256 .f32) (j0' j1' j2') (rest' : List (View.Piece (Elt Ideal) S544x256 .f32)) (i5' i6' i70' i71' i72' i8' l0' l1' l2') (inb) (x : S512x256.Idx) :
    k0_pay35 (k0_pay51 (k0_pay14 (View.ld x6 (Rect.unit (s := S1x3072) ![0, o1] ![1, 256] i6)))
      (View.ld x8 (Rect.unit (s := S1x3072) ![0, o1] ![1, 256] i8)) (View.ld x7 (Rect.unit (s := S3x3072) ![0, o1] ![1, 256] i70))
      (View.ld x7 (Rect.unit (s := S3x3072) ![1, o1] ![1, 256] i71)) (View.ld x7 (Rect.unit (s := S3x3072) ![2, o1] ![1, 256] i72))
      (v.readCov (stores H fst lst (View.ld x6 (Rect.unit (s := S1x3072) ![0, o1] ![1, 256] i6)) (View.ld x5 (Rect.unit (s := S1024x3072) ![0, o1] ![1024, 256] i5)) j0 j1 j2 rest) (Rect.unit (s := S544x256) ![15, 0] ![512, 256] l0).toLoadRect)
      (View.ld x7 (Rect.unit (s := S3x3072) ![0, o1] ![1, 256] i70))
      (v.readCov (stores H fst lst (View.ld x6 (Rect.unit (s := S1x3072) ![0, o1] ![1, 256] i6)) (View.ld x5 (Rect.unit (s := S1024x3072) ![0, o1] ![1024, 256] i5)) j0 j1 j2 rest) (Rect.unit (s := S544x256) ![16, 0] ![512, 256] l1).toLoadRect)
      (View.ld x7 (Rect.unit (s := S3x3072) ![1, o1] ![1, 256] i71))
      (v.readCov (stores H fst lst (View.ld x6 (Rect.unit (s := S1x3072) ![0, o1] ![1, 256] i6)) (View.ld x5 (Rect.unit (s := S1024x3072) ![0, o1] ![1024, 256] i5)) j0 j1 j2 rest) (Rect.unit (s := S544x256) ![17, 0] ![512, 256] l2).toLoadRect)
      (View.ld x7 (Rect.unit (s := S3x3072) ![2, o1] ![1, 256] i72)))
      (k0_pay29 (View.ld x6 (Rect.unit (s := S1x3072) ![0, o2] ![1, 256] i6')))
      (View.ld x8 (Rect.unit (s := S1x3072) ![0, o2] ![1, 256] i8')) (View.ld x7 (Rect.unit (s := S3x3072) ![0, o2] ![1, 256] i70'))
      (View.ld x7 (Rect.unit (s := S3x3072) ![1, o2] ![1, 256] i71')) (View.ld x7 (Rect.unit (s := S3x3072) ![2, o2] ![1, 256] i72'))
      (v'.readCov (stores H fst lst (View.ld x6 (Rect.unit (s := S1x3072) ![0, o2] ![1, 256] i6')) (View.ld x5 (Rect.unit (s := S1024x3072) ![0, o2] ![1024, 256] i5')) j0' j1' j2' rest') (Rect.unit (s := S544x256) ![15, 0] ![512, 256] l0').toLoadRect)
      (View.ld x7 (Rect.unit (s := S3x3072) ![0, o2] ![1, 256] i70'))
      (v'.readCov (stores H fst lst (View.ld x6 (Rect.unit (s := S1x3072) ![0, o2] ![1, 256] i6')) (View.ld x5 (Rect.unit (s := S1024x3072) ![0, o2] ![1024, 256] i5')) j0' j1' j2' rest') (Rect.unit (s := S544x256) ![16, 0] ![512, 256] l1').toLoadRect)
      (View.ld x7 (Rect.unit (s := S3x3072) ![1, o2] ![1, 256] i71'))
      (v'.readCov (stores H fst lst (View.ld x6 (Rect.unit (s := S1x3072) ![0, o2] ![1, 256] i6')) (View.ld x5 (Rect.unit (s := S1024x3072) ![0, o2] ![1024, 256] i5')) j0' j1' j2' rest') (Rect.unit (s := S544x256) ![17, 0] ![512, 256] l2').toLoadRect)
      (View.ld x7 (Rect.unit (s := S3x3072) ![2, o2] ![1, 256] i72')) x
      = block10 H fst lst x5 x6 x7 x8 ((Rect.unit (s := S512x1024) ![0, p] ![512, 256] inb).emb x) := by
  idx_vars x
  have hp : p + 256 ≤ 1024 := inb 1
  refine (comb_mul _ _ _ _ _ _ _ _ _ _ _ _ _ _ _ _ x0 x1).trans ((congrArg₂ (· * ·)
    (conv_loads H fst lst x5 x6 x7 x8 v j0 j1 j2 rest o1 i5 i6 i70 i71 i72 i8 l0 l1 l2 x0 x1 (by omega))
    (conv_loads H fst lst x5 x6 x7 x8 v' j0' j1' j2' rest' o2 i5' i6' i70' i71' i72' i8' l0' l1' l2' x0 x1 (by omega))).trans ?_)
  have e0 : x0 = (Rect.unit (s := S512x1024) ![0, p] ![512, 256] inb).emb (ix2 x0 x1) 0 :=
    Fin.ext (((Rect.idx_unit_val (s := S512x1024) ![0, p] ![512, 256] inb (ix2 x0 x1) 0).trans (Nat.zero_add _)).symm)
  have e1 : ((Rect.unit (s := S512x1024) ![0, p] ![512, 256] inb).emb (ix2 x0 x1) 1).val = p + x1.val :=
    Rect.idx_unit_val (s := S512x1024) ![0, p] ![512, 256] inb (ix2 x0 x1) 1
  unfold block10
  refine congrArg₂ (· * ·) (congrArg₂ (convAt H fst lst x5 x6 x7 x8) e0 (Fin.ext ?_)) (congrArg₂ (convAt H fst lst x5 x6 x7 x8) e0 (Fin.ext ?_))
  · show o1 + x1.val = 1024 + _
    omega
  · show o2 + x1.val = 2048 + _
    omega

end

end Cert.Kernel4Ideal.Inp
-- ==== Proof.InpRun.lean ====
/- One run of the Hyena input call's body, opened: its two blocks are the convolution, and a product of two. -/
module

public import proofs.«01_k».proof.Proof.Inp

@[expose] public section

set_option maxRecDepth 200000

noncomputable section

namespace Cert.Kernel4Ideal.Inp

open Cert.Kernel4Ideal Cert.Kernel4Ideal.Gen Idealize.ShloMosaic Idealize.ShloMosaic.TcCoe Idealize.SL.Sem

/-- Whether the tile is number `k` of its sequence of sixteen. -/
def edge (n : ℕ) (k : BitVec 32) : BitVec 1 :=
  Scalar.cmpi .eq (Scalar.select (Scalar.andi (Scalar.xori (Scalar.cmpi .slt (Scalar.remsi (BitVec.ofNat 32 n) 16#32) 0#32) 0#1)
    (Scalar.cmpi .ne (Scalar.remsi (BitVec.ofNat 32 n) 16#32) 0#32)) (Scalar.addi (Scalar.remsi (BitVec.ofNat 32 n) 16#32) 16#32)
    (Scalar.remsi (BitVec.ofNat 32 n) 16#32)) k

theorem edge_eq : ∀ n < 128, edge n 0#32 = BitVec.ofBool (decide (n % 16 = 0)) ∧ edge n 15#32 = BitVec.ofBool (decide (n % 16 = 15)) := by
  decide +kernel

/-- The normalised rows: sixteen of the tile before, the tile's own, sixteen of the tile after. -/
def hrows (x0 : Vec Ideal S512x1024 .f32) (x1 x2 : Vec Ideal S16x1024 .f32) (x3 : Vec Ideal S1x6x1024 .f32) (x4 : Vec Ideal S1x1024 .f32) :
    FVec Ideal S544x1024 .bf16 :=
  k0_pay11 (k0_pay2 x4) (k0_pay3 (View.ld x3 (Rect.unit ![0, 0, 0] ![1, 1, 1024] inb_S1x6x1024_S1x1x1024_0_0_0)))
    (k0_pay7 (k0_pay2 x4) (k0_pay3 (View.ld x3 (Rect.unit ![0, 0, 0] ![1, 1, 1024] inb_S1x6x1024_S1x1x1024_0_0_0)))
      (k0_pay4 (View.ld x3 (Rect.unit ![0, 1, 0] ![1, 1, 1024] inb_S1x6x1024_S1x1x1024_0_1_0))) x1 (k0_pay5 x1) k0_pay6)
    (k0_pay8 (k0_pay2 x4) (k0_pay3 (View.ld x3 (Rect.unit ![0, 0, 0] ![1, 1, 1024] inb_S1x6x1024_S1x1x1024_0_0_0)))
      (k0_pay4 (View.ld x3 (Rect.unit ![0, 1, 0] ![1, 1, 1024] inb_S1x6x1024_S1x1x1024_0_1_0))) x0)
    (k0_pay9 x2) (k0_pay10 (k0_pay4 (View.ld x3 (Rect.unit ![0, 1, 0] ![1, 1, 1024] inb_S1x6x1024_S1x1x1024_0_1_0))))

theorem pieces_cons {G : S512x1024.Idx → EReal} {r : Rect S512x1024} {w : r.shape.Idx → EReal}
    {L : List (View.Piece (Elt Ideal) S512x1024 .bf16)} (h : ∀ x, w x = G (r.emb x))
    (hL : View.PiecesOf (Val := Elt Ideal) (e := .bf16) G L) :
    View.PiecesOf (Val := Elt Ideal) (e := .bf16) G (⟨r, w⟩ :: L) := ⟨h, hL⟩

theorem canon_eq (G : S512x1024.Idx → EReal) (L : List (View.Piece (Elt Ideal) S512x1024 .bf16)) (y : S512x1024.Idx)
    (hL : View.PiecesOf (Val := Elt Ideal) (e := .bf16) G L) (hc : ∀ y, ∃ p ∈ L, y ∈ p.1.set) : View.canon L y = G y := by
  have := View.canon_append_of_piecesOf (Val := Elt Ideal) (e := .bf16) G [] L hL y (hc y)
  rwa [List.append_nil] at this

section

variable (c : Dev nD) (i : grid0.Coords) (arg1 : Memref sig .tc .vmem S512x1024 .f32) (harg1 : arg1.IsWhole) (arg2 : Memref sig .tc .vmem S16x1024 .f32) (harg2 : arg2.IsWhole) (arg3 : Memref sig .tc .vmem S16x1024 .f32) (harg3 : arg3.IsWhole) (arg4 : Memref sig .tc .vmem S1x6x1024 .f32) (harg4 : arg4.IsWhole) (arg5 : Memref sig .tc .vmem S1x1024 .f32) (harg5 : arg5.IsWhole) (arg6 : Memref sig .tc .vmem S1024x3072 .bf16) (harg6 : arg6.IsWhole) (arg7 : Memref sig .tc .vmem S1x3072 .f32) (harg7 : arg7.IsWhole) (arg8 : Memref sig .tc .vmem S3x3072 .f32) (harg8 : arg8.IsWhole) (arg9 : Memref sig .tc .vmem S1x3072 .f32) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S544x256 .f32) (harg12 : arg12.IsWhole) (arg13 : Memref sig .tc .vmem S544x256 .f32) (harg13 : arg13.IsWhole) (arg14 : Memref sig .tc .vmem S544x256 .f32) (harg14 : arg14.IsWhole)
    (x0 : Vec Ideal S512x1024 .f32) (x1 : Vec Ideal S16x1024 .f32) (x2 : Vec Ideal S16x1024 .f32) (x3 : Vec Ideal S1x6x1024 .f32) (x4 : Vec Ideal S1x1024 .f32) (x5 : Vec Ideal S1024x3072 .bf16) (x6 : Vec Ideal S1x3072 .f32) (x7 : Vec Ideal S3x3072 .f32) (x8 : Vec Ideal S1x3072 .f32)

set_option maxHeartbeats 2000000 in
theorem out9_eq (y : S512x1024.Idx) : out0_A_9 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 y
      = block9 (hrows x0 x1 x2 x3 x4) (edge (i 0) 0#32) (edge (i 0) 15#32) x5 x6 x7 x8 y := by
  frame_out
  refine canon_eq _ _ y ?_ (View.cover_of_tiledL _ ![512, 256] (by sl_kernel_rfl))
  unfold_payloads
  refine pieces_cons (piece9 (hrows x0 x1 x2 x3 x4) (edge (i 0) 0#32) (edge (i 0) 15#32) x5 x6 x7 x8 768 arg12.view _ _ _ _ _ _ _ _ _ _ _ _ _ _) ?_
  refine pieces_cons (piece9 (hrows x0 x1 x2 x3 x4) (edge (i 0) 0#32) (edge (i 0) 15#32) x5 x6 x7 x8 512 arg12.view _ _ _ _ _ _ _ _ _ _ _ _ _ _) ?_
  refine pieces_cons (piece9 (hrows x0 x1 x2 x3 x4) (edge (i 0) 0#32) (edge (i 0) 15#32) x5 x6 x7 x8 256 arg12.view _ _ _ _ _ _ _ _ _ _ _ _ _ _) ?_
  refine pieces_cons (piece9 (hrows x0 x1 x2 x3 x4) (edge (i 0) 0#32) (edge (i 0) 15#32) x5 x6 x7 x8 0 arg12.view _ _ _ _ _ _ _ _ _ _ _ _ _ _) ?_
  exact trivial

set_option maxHeartbeats 2000000 in
theorem out10_eq (y : S512x1024.Idx) : out0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 y
      = block10 (hrows x0 x1 x2 x3 x4) (edge (i 0) 0#32) (edge (i 0) 15#32) x5 x6 x7 x8 y := by
  frame_out
  refine canon_eq _ _ y ?_ (View.cover_of_tiledL _ ![512, 256] (by sl_kernel_rfl))
  unfold_payloads
  refine pieces_cons (piece10 (hrows x0 x1 x2 x3 x4) (edge (i 0) 0#32) (edge (i 0) 15#32) x5 x6 x7 x8 768 1792 2816 rfl rfl arg13.view _ _ _ _ _ _ _ _ _ _ _ _ _ arg14.view _ _ _ _ _ _ _ _ _ _ _ _ _ _) ?_
  refine pieces_cons (piece10 (hrows x0 x1 x2 x3 x4) (edge (i 0) 0#32) (edge (i 0) 15#32) x5 x6 x7 x8 512 1536 2560 rfl rfl arg13.view _ _ _ _ _ _ _ _ _ _ _ _ _ arg14.view _ _ _ _ _ _ _ _ _ _ _ _ _ _) ?_
  refine pieces_cons (piece10 (hrows x0 x1 x2 x3 x4) (edge (i 0) 0#32) (edge (i 0) 15#32) x5 x6 x7 x8 256 1280 2304 rfl rfl arg13.view _ _ _ _ _ _ _ _ _ _ _ _ _ arg14.view _ _ _ _ _ _ _ _ _ _ _ _ _ _) ?_
  refine pieces_cons (piece10 (hrows x0 x1 x2 x3 x4) (edge (i 0) 0#32) (edge (i 0) 15#32) x5 x6 x7 x8 0 1024 2048 rfl rfl arg13.view _ _ _ _ _ _ _ _ _ _ _ _ _ arg14.view _ _ _ _ _ _ _ _ _ _ _ _ _ _) ?_
  exact trivial

end

end Cert.Kernel4Ideal.Inp
-- ==== Proof.InpArr.lean ====
/- The Hyena input call's two arrays after the run: at each row and column the centred convolution, and the product of two. -/
module

public import proofs.«01_k».proof.Proof.Conv
public import proofs.«01_k».proof.Proof.InpRun

@[expose] public section

set_option maxRecDepth 16384

noncomputable section

namespace Cert.Kernel4Ideal.Inp

open Cert.Kernel4Ideal Cert.Kernel4Ideal.Gen Idealize.ShloMosaic Idealize.ShloMosaic.TcCoe Idealize.SL.Sem
open Idealize.ShloMosaic.Pipeline (Dat)

/-- The row the tile sees at a row of its three blocks. -/
def seen (x0 : Vec Ideal S512x1024 .f32) (x1 x2 : Vec Ideal S16x1024 .f32) (ρ : Fin 544) (l : Fin 1024) : EReal :=
  if h : ρ.val < 16 then x1 (ix2 ⟨ρ, h⟩ l) else if h : ρ.val - 16 < 512 then x0 (ix2 ⟨ρ - 16, h⟩ l)
  else x2 (ix2 ⟨ρ - 16 - 512, by omega⟩ l)

/-- A normalised row, from the tile before, the tile, or the tile after. -/
theorem hrows_eq (x0 : Vec Ideal S512x1024 .f32) (x1 x2 : Vec Ideal S16x1024 .f32) (x3 : Vec Ideal S1x6x1024 .f32) (x4 : Vec Ideal S1x1024 .f32)
    (ρ : Fin 544) (l : Fin 1024) :
    hrows x0 x1 x2 x3 x4 (ix2 ρ l) = Ffn.normed (seen x0 x1 x2 ρ) (fun l => x4 (ix2 0 l)) (fun l => x3 (ix3 0 0 l)) (fun l => x3 (ix3 0 1 l)) l := by
  rw [Ffn.normed_eq]
  unfold hrows Ffn.invRms seen
  pointwise [k0_pay11, k0_pay7, k0_pay8, k0_pay9, k0_pay10, k0_pay2, k0_pay3, k0_pay4, k0_pay5, k0_pay6]
  split_ifs <;> rfl

variable (m : (ℓ : Loc nD τ sig) → Buf (Elt Ideal) ℓ)

/-- The projection of row `R` at column `c`. -/
def q (d : Dev nD) (c : Fin 3072) (R : Fin 65536) : EReal :=
  Conv.proj (Ffn.normed (fun l => m ((d : Thread nD τ).loc main_arg0) (ix2 R l)) (fun l => m ((d : Thread nD τ).loc main_arg2) (ix1 l))
    (fun l => m ((d : Thread nD τ).loc main_arg1) (ix3 ⟨R / 8192, by omega⟩ 0 l))
    (fun l => m ((d : Thread nD τ).loc main_arg1) (ix3 ⟨R / 8192, by omega⟩ 1 l)))
    (fun l => m ((d : Thread nD τ).loc main_arg3) (ix2 l c)) (m ((d : Thread nD τ).loc main_arg4) (ix1 c))

/-- The block each window stages at each point. -/
theorem idx : ∀ t : Fin cfg0.N, win0_0.index t = ![t.val, 0] ∧ win0_1.index t = ![32 * t.val - 1, 0]
    ∧ win0_2.index t = ![min (32 * t.val + 32) 4095, 0] ∧ win0_3.index t = ![t.val / 16, 0, 0] ∧ win0_4.index t = ![0, 0]
    ∧ win0_5.index t = ![0, 0] ∧ win0_6.index t = ![0, 0] ∧ win0_7.index t = ![0, 0] ∧ win0_8.index t = ![0, 0]
    ∧ win0_9.index t = ![t.val, 0] ∧ win0_10.index t = ![t.val, 0] ∧ (grid0.coords t 0).val = t.val :=
  (by decide +kernel : ∀ t : Fin grid0.N, _)

theorem lt_points (t : Fin cfg0.N) : t.val < 128 :=
  t.isLt.trans_eq (by decide +kernel : grid0.N = 128)

section

variable (d : Dev nD) (t : Fin cfg0.N)

theorem e0 (ht : t.val < 128) (r : Fin 512) (l : Fin 1024) : (iblk m d 0 t : Vec Ideal S512x1024 .f32) (ix2 r l)
    = m ((d : Thread nD τ).loc main_arg0) (ix2 ⟨512 * t + r, by omega⟩ l) := by blk_ext [iblk, V, idx t]

theorem e1 (ht : t.val < 128) (r : Fin 16) (l : Fin 1024) : (iblk m d 1 t : Vec Ideal S16x1024 .f32) (ix2 r l)
    = m ((d : Thread nD τ).loc main_arg0) (ix2 ⟨16 * (32 * t - 1) + r, by omega⟩ l) := by blk_ext [iblk, V, idx t]

theorem e2 (ht : t.val < 128) (r : Fin 16) (l : Fin 1024) : (iblk m d 2 t : Vec Ideal S16x1024 .f32) (ix2 r l)
    = m ((d : Thread nD τ).loc main_arg0) (ix2 ⟨16 * min (32 * t.val + 32) 4095 + r, by omega⟩ l) := by blk_ext [iblk, V, idx t]

theorem e3 (ht : t.val < 128) (s : Fin 6) (l : Fin 1024) : (iblk m d 3 t : Vec Ideal S1x6x1024 .f32) (ix3 0 s l)
    = m ((d : Thread nD τ).loc main_arg1) (ix3 ⟨t / 16, by omega⟩ s l) := by blk_ext [iblk, V, idx t]

theorem e4 (l : Fin 1024) : (iblk m d 4 t : Vec Ideal S1x1024 .f32) (ix2 0 l) = m ((d : Thread nD τ).loc main_arg2) (ix1 l) := by
  refine Eq.trans (b := V m d main_v1 (ix2 0 l)) (by blk_ext [iblk, idx t]) ?_
  entry_read
  pointwise

theorem e5 (l : Fin 1024) (c : Fin 3072) : (iblk m d 5 t : Vec Ideal S1024x3072 .bf16) (ix2 l c) = m ((d : Thread nD τ).loc main_arg3) (ix2 l c) := by
  refine Eq.trans (b := V m d main_v0 (ix2 l c)) (by blk_ext [iblk, idx t]) ?_
  entry_read
  pointwise

theorem e6 (c : Fin 3072) : (iblk m d 6 t : Vec Ideal S1x3072 .f32) (ix2 0 c) = m ((d : Thread nD τ).loc main_arg4) (ix1 c) := by
  refine Eq.trans (b := V m d main_v2 (ix2 0 c)) (by blk_ext [iblk, idx t]) ?_
  entry_read
  pointwise

theorem e7 (k : Fin 3) (c : Fin 3072) : (iblk m d 7 t : Vec Ideal S3x3072 .f32) (ix2 k c) = m ((d : Thread nD τ).loc main_arg5) (ix2 k c) := by
  blk_ext [iblk, V, idx t]

theorem e8 (c : Fin 3072) : (iblk m d 8 t : Vec Ideal S1x3072 .f32) (ix2 0 c) = m ((d : Thread nD τ).loc main_arg6) (ix1 c) := by
  refine Eq.trans (b := V m d main_v3 (ix2 0 c)) (by blk_ext [iblk, idx t]) ?_
  entry_read
  pointwise

/-- A row of the three blocks is a row of the array. -/
theorem seen_eq (ht : t.val < 128) (ρ : Fin 544) (R : Fin 65536) (hR : R.val + 16 = 512 * t + ρ) :
    seen (iblk m d 0 t) (iblk m d 1 t) (iblk m d 2 t) ρ = fun l => m ((d : Thread nD τ).loc main_arg0) (ix2 R l) := by
  funext l
  unfold seen
  split_ifs with h h'
  · exact (e1 m d t ht _ l).trans (congrArg (fun R => m ((d : Thread nD τ).loc main_arg0) (ix2 R l)) (Fin.ext (by simp; omega)))
  · exact (e0 m d t ht _ l).trans (congrArg (fun R => m ((d : Thread nD τ).loc main_arg0) (ix2 R l)) (Fin.ext (by simp; omega)))
  · exact (e2 m d t ht _ l).trans (congrArg (fun R => m ((d : Thread nD τ).loc main_arg0) (ix2 R l)) (Fin.ext (by simp; omega)))

/-- A projected row within the sequence, its bias added. -/
theorem projAt_add (ht : t.val < 128) (ρ : ℕ) (hρ : ρ < 544) (c : Fin 3072) (R : Fin 65536) (hR : R.val + 16 = 512 * t + ρ)
    (hs : R.val / 8192 = t.val / 16) (h15 : t.val % 16 = 0 → ρ ≠ 15) (h528 : t.val % 16 = 15 → ρ ≠ 528) :
    projAt (hrows (iblk m d 0 t) (iblk m d 1 t) (iblk m d 2 t) (iblk m d 3 t) (iblk m d 4 t)) (edge t 0#32) (edge t 15#32)
      (iblk m d 5 t) (iblk m d 6 t) ρ hρ c + m ((d : Thread nD τ).loc main_arg4) (ix1 c) = q m d c R := by
  obtain ⟨a0, a1⟩ := edge_eq t ht
  unfold projAt proj
  rw [a0, a1, if_neg (by
    rintro (⟨h, h'⟩ | ⟨h, h'⟩)
    · exact h15 (by by_contra hn; rw [decide_eq_false hn] at h; exact absurd h (by decide)) h'
    · exact h528 (by by_contra hn; rw [decide_eq_false hn] at h; exact absurd h (by decide)) h')]
  unfold q Conv.proj
  congr 1
  refine Finset.sum_congr rfl fun l _ => congrArg₂ (· * ·) ?_ (e5 m d t l c)
  refine (hrows_eq _ _ _ _ _ ⟨ρ, hρ⟩ l).trans ?_
  have e3' : ∀ (s : Fin 6) (l : Fin 1024), (iblk m d 3 t : Vec Ideal S1x6x1024 .f32) (ix3 0 s l)
      = m ((d : Thread nD τ).loc main_arg1) (ix3 ⟨R / 8192, by omega⟩ s l) := fun s l =>
    (e3 m d t ht s l).trans (congrArg (fun R => m ((d : Thread nD τ).loc main_arg1) (ix3 R s l)) (Fin.ext hs.symm))
  rw [seen_eq m d t ht ⟨ρ, hρ⟩ R hR]
  simp only [e3', e4]

/-- A projected row beyond an end of the sequence, its bias added. -/
theorem projAt_out (ht : t.val < 128) (ρ : ℕ) (hρ : ρ < 544) (c : Fin 3072) (b : ℝ) (hb : m ((d : Thread nD τ).loc main_arg4) (ix1 c) = (b : EReal))
    (h : (t.val % 16 = 0 ∧ ρ = 15) ∨ (t.val % 16 = 15 ∧ ρ = 528)) :
    projAt (hrows (iblk m d 0 t) (iblk m d 1 t) (iblk m d 2 t) (iblk m d 3 t) (iblk m d 4 t)) (edge t 0#32) (edge t 15#32)
      (iblk m d 5 t) (iblk m d 6 t) ρ hρ c + m ((d : Thread nD τ).loc main_arg4) (ix1 c) = 0 := by
  obtain ⟨a0, a1⟩ := edge_eq t ht
  unfold projAt proj
  rw [a0, a1, if_pos (by
    rcases h with ⟨h, h'⟩ | ⟨h, h'⟩
    · exact .inl ⟨by rw [decide_eq_true h]; rfl, h'⟩
    · exact .inr ⟨by rw [decide_eq_true h]; rfl, h'⟩), e6, hb, zero_sub, ← EReal.coe_neg, ← EReal.coe_add, neg_add_cancel, EReal.coe_zero]

/-- The convolution of the tile is the centred convolution of the sequence. -/
theorem convAt_eq (ht : t.val < 128) (r : Fin 512) (c : Fin 3072) (b c0 c1 c2 : ℝ) (hb : m ((d : Thread nD τ).loc main_arg4) (ix1 c) = (b : EReal))
    (h0 : m ((d : Thread nD τ).loc main_arg5) (ix2 0 c) = (c0 : EReal)) (h1 : m ((d : Thread nD τ).loc main_arg5) (ix2 1 c) = (c1 : EReal))
    (h2 : m ((d : Thread nD τ).loc main_arg5) (ix2 2 c) = (c2 : EReal)) :
    convAt (hrows (iblk m d 0 t) (iblk m d 1 t) (iblk m d 2 t) (iblk m d 3 t) (iblk m d 4 t)) (edge t 0#32) (edge t 15#32)
      (iblk m d 5 t) (iblk m d 6 t) (iblk m d 7 t) (iblk m d 8 t) r c
      = Conv.centred (q m d c) (m ((d : Thread nD τ).loc main_arg6) (ix1 c)) (m ((d : Thread nD τ).loc main_arg5) (ix2 0 c))
          (m ((d : Thread nD τ).loc main_arg5) (ix2 1 c)) (m ((d : Thread nD τ).loc main_arg5) (ix2 2 c)) ⟨512 * t + r, by omega⟩ := by
  unfold convAt conv
  rw [e6, e7, e7, e7, e8, hb, h0, h1, h2, Conv.bias_out, ← hb]
  unfold Conv.centred
  refine congrArg₂ (· + ·) (congrArg₂ (· + ·) (congrArg₂ (· + ·) rfl (congrArg (· * _) ?_)) (congrArg (· * _) ?_)) (congrArg (· * _) ?_)
  · unfold Conv.before
    split_ifs with h
    · exact projAt_out m d t ht _ _ c b hb (.inl (by simp at h; omega))
    · exact projAt_add m d t ht _ _ c _ (by simp at h ⊢; omega) (by simp at h ⊢; omega) (by simp at h; omega) (by omega)
  · exact projAt_add m d t ht _ _ c _ (by simp; omega) (by simp; omega) (by omega) (by omega)
  · unfold Conv.after
    split_ifs with h
    · exact projAt_out m d t ht _ _ c b hb (.inr (by simp at h; omega))
    · exact projAt_add m d t ht _ _ c _ (by simp; omega) (by simp at h ⊢; omega) (by omega) (by simp at h; omega)

end

/-- The projection's bias and the convolution's weights are real. -/
def Real (d : Dev nD) : Prop :=
  (∀ c : Fin 3072, m ((d : Thread nD τ).loc main_arg4) (ix1 c) = ((m ((d : Thread nD τ).loc main_arg4) (ix1 c)).toReal : EReal))
    ∧ ∀ (k : Fin 3) (c : Fin 3072), m ((d : Thread nD τ).loc main_arg5) (ix2 k c) = ((m ((d : Thread nD τ).loc main_arg5) (ix2 k c)).toReal : EReal)

/-- The centred convolution at a row and a column. -/
def centred (d : Dev nD) (c : Fin 3072) (R : Fin 65536) : EReal :=
  Conv.centred (q m d c) (m ((d : Thread nD τ).loc main_arg6) (ix1 c)) (m ((d : Thread nD τ).loc main_arg5) (ix2 0 c))
    (m ((d : Thread nD τ).loc main_arg5) (ix2 1 c)) (m ((d : Thread nD τ).loc main_arg5) (ix2 2 c)) R

/-- The first array after the run. -/
theorem final9 (d : Dev nD) (hr : Real m d) (Y : FVec Ideal S65536x1024 .bf16)
    (hY : ∀ (R : Fin 65536) (n : Fin 1024), Y (ix2 R n) = centred m d ⟨n, by omega⟩ R) :
    (dats m 0 d).arrAt 9 (cfgs 0).N = Y := by
  refine (dats m 0 d).arrAt_eq_of_covers 9 _ (by decide +kernel) fun t _ y => ?_
  blk_simp
  rw [after0_9]
  have ht := lt_points t
  idx_vars y
  refine Eq.trans ?_ ((hY ⟨512 * t + y0, by omega⟩ y1).symm.trans (congrArg _ ?_))
  · refine (out9_eq d (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) _ _ _ _ _ _ _ _ _ (ix2 y0 y1)).trans ?_
    rw [(idx t).2.2.2.2.2.2.2.2.2.2.2]
    refine (convAt_eq m d t ht y0 _ _ _ _ _ (hr.1 _) (hr.2 0 _) (hr.2 1 _) (hr.2 2 _)).trans ?_
    exact congrArg (fun c => centred m d c ⟨512 * t + y0, by omega⟩) (Fin.ext (Nat.zero_add _))
  · blk_ext [idx t]

/-- The second array after the run. -/
theorem final10 (d : Dev nD) (hr : Real m d) (Y : FVec Ideal S65536x1024 .bf16)
    (hY : ∀ (R : Fin 65536) (n : Fin 1024), Y (ix2 R n) = centred m d ⟨1024 + n, by omega⟩ R * centred m d ⟨2048 + n, by omega⟩ R) :
    (dats m 0 d).arrAt 10 (cfgs 0).N = Y := by
  refine (dats m 0 d).arrAt_eq_of_covers 10 _ (by decide +kernel) fun t _ y => ?_
  blk_simp
  rw [after0_10]
  have ht := lt_points t
  idx_vars y
  refine Eq.trans ?_ ((hY ⟨512 * t + y0, by omega⟩ y1).symm.trans (congrArg _ ?_))
  · refine (out10_eq d (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) _ _ _ _ _ _ _ _ _ (ix2 y0 y1)).trans ?_
    rw [(idx t).2.2.2.2.2.2.2.2.2.2.2]
    exact congrArg₂ (· * ·) (convAt_eq m d t ht y0 _ _ _ _ _ (hr.1 _) (hr.2 0 _) (hr.2 1 _) (hr.2 2 _))
      (convAt_eq m d t ht y0 _ _ _ _ _ (hr.1 _) (hr.2 0 _) (hr.2 1 _) (hr.2 2 _))
  · blk_ext [idx t]

end Cert.Kernel4Ideal.Inp
-- ==== Proof.InpFinite.lean ====
/- The precondition of the Hyena input call: the projection's bias and the convolution's weights are real numbers. -/
module

public import proofs.«01_k».proof.Defs
public import proofs.«01_k».proof.Proof.Finite
public import proofs.«01_k».proof.Proof.InpArr
public import proofs.«01_k».proof.Proof.Gen.Pre_finite_conv

@[expose] public section

set_option maxRecDepth 16384

noncomputable section

namespace Cert.Kernel4Ideal.Inp

open Cert.Kernel4Ideal Cert.Kernel4Ideal.Gen Idealize.ShloMosaic Idealize.ShloMosaic.TcCoe Idealize.SL.Sem

theorem real (m : (ℓ : Loc nD τ sig) → Buf (Elt Ideal) ℓ) (h : Pre_Kernel4Ideal_finite_conv m) (d : Dev nD) : Real m d := by
  obtain ⟨h1, h2⟩ := h d
  constructor
  · intro c
    have e := congrFun h1 (ix1 c)
    unfold Cert.Pre_finite_conv.fn at e
    pointwise at e
    exact KernelIdeal.Att.coe_of_lt _ e
  · intro k c
    have e := congrFun h2 (ix2 k c)
    unfold Cert.Pre_finite_conv.fn at e
    pointwise at e
    exact KernelIdeal.Att.coe_of_lt _ e

end Cert.Kernel4Ideal.Inp
-- ==== Proof.InpRef.lean ====
/- The reference of the Hyena input call: the centred convolution of the projected rows. -/
module

public import proofs.«01_k».proof.Proof.Conv
public import proofs.«01_k».proof.Proof.Gen.Reference4Ideal.Read
public import Idealize.ShloMosaic.Lib.Pipeline.ValueKit

@[expose] public section

set_option maxRecDepth 16384

noncomputable section

namespace Cert.Reference4Ideal.Inp

open Cert.Reference4Ideal Cert.Reference4Ideal.Read Idealize.ShloMosaic

variable (x0 : FVec Ideal S65536x1024 .f32) (x1 : FVec Ideal S16x6x1024 .f32) (x2 : FVec Ideal S1024 .f32)
  (x3 : FVec Ideal S1024x3072 .f32) (x4 : FVec Ideal S3072 .f32) (x5 : FVec Ideal S3x3072 .f32) (x6 : FVec Ideal S3072 .f32)

/-- The projection of row `R` at column `c`. -/
def q (c : Fin 3072) (R : Fin 65536) : EReal :=
  Conv.proj (Ffn.normed (fun l => x0 (ix2 R l)) (fun l => x2 (ix1 l)) (fun l => x1 (ix3 ⟨R / 8192, by omega⟩ 0 l))
    (fun l => x1 (ix3 ⟨R / 8192, by omega⟩ 1 l))) (fun l => x3 (ix2 l c)) (x4 (ix1 c))

theorem proj (t : Fin 8) (s : Fin 8192) (c : Fin 3072) :
    val_main_v29 (F := Ideal) x0 x1 x2 x3 x4 (ix3 t s c) = q x0 x1 x2 x3 x4 c ⟨t * 8192 + s, by omega⟩ := by
  unfold q
  rw [show (⟨(⟨t.val * 8192 + s.val, by omega⟩ : Fin 65536).val / 8192, by omega⟩ : Fin 16) = ⟨t.val, by omega⟩ from
    Fin.ext (by show (t.val * 8192 + s.val) / 8192 = t.val; omega)]
  pointwise [
    val_main_v29, val_main_v28, val_main_v27, val_main_v26, val_main_v25, val_main_v24, val_main_v23, val_main_v22,
    val_main_v21, val_main_v20, val_main_v19, val_main_v18, val_main_v17, val_main_cst_2, val_main_v16, val_main_v15,
    val_main_v14, val_main_v13, val_main_v12, val_main_v11, val_main_v10, val_main_v9, val_main_v8, val_main_v7,
    val_main_v6, val_main_cst_1, val_main_v5, val_main_v4, val_main_cst_0, val_main_v3, val_main_v2, val_main_cst,
    val_main_v1, val_main_v0]
  rfl

theorem padded (t : Fin 8) (s : Fin 8194) (c : Fin 3072) :
    val_main_v30 (F := Ideal) x0 x1 x2 x3 x4 (ix3 t s c)
      = if h : 1 ≤ s.val ∧ s.val - 1 < 8192 then q x0 x1 x2 x3 x4 c ⟨t * 8192 + (s.val - 1), by omega⟩ else 0 := by
  pointwise [val_main_v30, val_main_call0_v0, val_main_c]
  congr 1
  · funext h
    exact proj x0 x1 x2 x3 x4 t ⟨s - 1, h.2⟩ c
  · funext _
    exact (Ideal.scalar_sitofp_def (φ := .f32) 0#32).trans (by simp)

/-- The convolution before the split. -/
theorem out (t : Fin 8) (s : Fin 8192) (c : Fin 3072) :
    val_main_v53 (F := Ideal) x0 x1 x2 x3 x4 x5 x6 (ix3 t s c)
      = Conv.centred (q x0 x1 x2 x3 x4 c) (x6 (ix1 c)) (x5 (ix2 0 c)) (x5 (ix2 1 c)) (x5 (ix2 2 c)) ⟨t * 8192 + s, by omega⟩ := by
  have h0 : val_main_v30 (F := Ideal) x0 x1 x2 x3 x4 (ix3 t ⟨s, by omega⟩ c)
      = Conv.before (q x0 x1 x2 x3 x4 c) ⟨t * 8192 + s, by omega⟩ := by
    rw [padded]
    unfold Conv.before
    split_ifs with h h' h'
    · exact absurd h' (by show ¬ (t.val * 8192 + s.val) % 8192 = 0; have := h.1; simp at this; omega)
    · exact congrArg _ (Fin.ext (by have := h.1; simp at this ⊢; omega))
    · rfl
    · exact absurd ⟨by by_contra hs; exact h' (by show (t.val * 8192 + s.val) % 8192 = 0; simp at hs; omega), by show s.val - 1 < 8192; omega⟩ h
  have h1 : val_main_v30 (F := Ideal) x0 x1 x2 x3 x4 (ix3 t ⟨1 + s, by omega⟩ c)
      = q x0 x1 x2 x3 x4 c ⟨t * 8192 + s, by omega⟩ := by
    rw [padded, dif_pos ⟨by simp, by simp⟩]
    exact congrArg _ (Fin.ext (by simp))
  have h2 : val_main_v30 (F := Ideal) x0 x1 x2 x3 x4 (ix3 t ⟨2 + s, by omega⟩ c)
      = Conv.after (q x0 x1 x2 x3 x4 c) ⟨t * 8192 + s, by omega⟩ := by
    rw [padded]
    unfold Conv.after
    split_ifs with h h' h'
    · exact absurd h' (by show ¬ (t.val * 8192 + s.val) % 8192 = 8191; have := h.2; simp at this; omega)
    · exact congrArg _ (Fin.ext (by show t.val * 8192 + (2 + s.val - 1) = t.val * 8192 + s.val + 1; omega))
    · rfl
    · exact absurd ⟨by show 1 ≤ 2 + s.val; omega, by
        by_contra hs; exact h' (by show (t.val * 8192 + s.val) % 8192 = 8191; simp at hs; omega)⟩ h
  unfold Conv.centred
  rw [← h0, ← h1, ← h2]
  pointwise [
    val_main_v53, val_main_v52, val_main_v51, val_main_v50, val_main_v49, val_main_v48, val_main_v47, val_main_v46,
    val_main_v45, val_main_v44, val_main_v43, val_main_v42, val_main_v41, val_main_v40, val_main_v39, val_main_v38,
    val_main_v37, val_main_v36, val_main_v35, val_main_v34, val_main_v33, val_main_v32, val_main_v31]

/-- The first result, the gate. -/
theorem gate (R : Fin 65536) (n : Fin 1024) :
    val_main_v59 (F := Ideal) x0 x1 x2 x3 x4 x5 x6 (ix2 R n)
      = Conv.centred (q x0 x1 x2 x3 x4 ⟨n, by omega⟩) (x6 (ix1 ⟨n, by omega⟩)) (x5 (ix2 0 ⟨n, by omega⟩)) (x5 (ix2 1 ⟨n, by omega⟩))
          (x5 (ix2 2 ⟨n, by omega⟩)) R := by
  pointwise [val_main_v59, val_main_v58, val_main_v54]
  refine (out x0 x1 x2 x3 x4 x5 x6 _ _ _).trans (congrArg _ (Fin.ext ?_))
  show R.val / 8192 * 8192 + R.val % 8192 = R.val
  omega

/-- The second result, the product. -/
theorem product (R : Fin 65536) (n : Fin 1024) :
    val_main_v61 (F := Ideal) x0 x1 x2 x3 x4 x5 x6 (ix2 R n)
      = Conv.centred (q x0 x1 x2 x3 x4 ⟨1024 + n, by omega⟩) (x6 (ix1 ⟨1024 + n, by omega⟩)) (x5 (ix2 0 ⟨1024 + n, by omega⟩))
          (x5 (ix2 1 ⟨1024 + n, by omega⟩)) (x5 (ix2 2 ⟨1024 + n, by omega⟩)) R
        * Conv.centred (q x0 x1 x2 x3 x4 ⟨2048 + n, by omega⟩) (x6 (ix1 ⟨2048 + n, by omega⟩)) (x5 (ix2 0 ⟨2048 + n, by omega⟩))
          (x5 (ix2 1 ⟨2048 + n, by omega⟩)) (x5 (ix2 2 ⟨2048 + n, by omega⟩)) R := by
  pointwise [val_main_v61, val_main_v60, val_main_v57, val_main_v56, val_main_v55]
  have hR : ∀ h, (⟨R.val / 8192 * 8192 + R.val % 8192, h⟩ : Fin 65536) = R := fun h => Fin.ext (by show R.val / 8192 * 8192 + R.val % 8192 = R.val; omega)
  refine congrArg₂ (· * ·) ((out x0 x1 x2 x3 x4 x5 x6 _ _ _).trans (congrArg _ (hR _))) ((out x0 x1 x2 x3 x4 x5 x6 _ _ _).trans (congrArg _ (hR _)))

end Cert.Reference4Ideal.Inp
-- ==== Proof.Rope.lean ====
/- A head's normalisation and its axial rotation over the extended reals: as the reference writes them, half by half and
   quarter by quarter, and as the kernel does, whole slabs of columns at a time with tables and a rolled partner. -/
module

public import proofs.«01_k».proof.Proof.Soft
public import Idealize.ShloMosaic.Lib.WordCmp

@[expose] public section

noncomputable section

namespace Cert.Rope

open Idealize.ShloMosaic

/-- The angle of frequency `f` at position `n`. -/
def angle (n f : ℕ) : EReal :=
  FloatOps.sitofp (F := Ideal) .f32 (BitVec.ofNat 32 n)
    * Ideal.pow (Ideal.ofBits .f32 1176256512#32) (Ideal.div (-(FloatOps.sitofp (F := Ideal) .f32 (BitVec.ofNat 32 f) : EReal)) (Ideal.ofBits .f32 1098907648#32))

/-- A head of a projected row, divided by the root of its mean square and weighted. -/
def normed (p g : Fin 64 → EReal) (e : Fin 64) : EReal :=
  p e * Ideal.rsqrt (Ideal.div (∑ x, p x * p x) (Ideal.ofBits .f32 1115684864#32) + Ideal.ofBits .f32 897988541#32) * g e

/-- The table of cosines at sequence position `s`: row angles, then column angles, each twice. -/
def cosAt (s e : ℕ) : EReal :=
  if e < 16 then Ideal.cos (angle (s / 64) e) else if e - 16 < 16 then Ideal.cos (angle (s / 64) (e - 16))
  else if e - 16 - 16 < 16 then Ideal.cos (angle (s % 64) (e - 16 - 16)) else Ideal.cos (angle (s % 64) (e - 16 - 16 - 16))

/-- The table of signed sines. -/
def sinAt (s e : ℕ) : EReal :=
  if e < 16 then -Ideal.sin (angle (s / 64) e) else if e - 16 < 16 then Ideal.sin (angle (s / 64) (e - 16))
  else if e - 16 - 16 < 16 then -Ideal.sin (angle (s % 64) (e - 16 - 16)) else Ideal.sin (angle (s % 64) (e - 16 - 16 - 16))

/-- The rotation of a head, a half for each axis. -/
def rotated (s : ℕ) (x : Fin 64 → EReal) (e : Fin 64) : EReal :=
  if h : e.val < 32 then
    if h : e.val < 16 then
      x ⟨e, by omega⟩ * Ideal.cos (angle (s / 64) e) - x ⟨16 + e, by omega⟩ * Ideal.sin (angle (s / 64) e)
    else
      x ⟨16 + (e - 16), by omega⟩ * Ideal.cos (angle (s / 64) (e - 16)) + x ⟨e - 16, by omega⟩ * Ideal.sin (angle (s / 64) (e - 16))
  else
    if h : e.val - 32 < 16 then
      x ⟨32 + (e - 32), by omega⟩ * Ideal.cos (angle (s % 64) (e - 32)) - x ⟨32 + (16 + (e - 32)), by omega⟩ * Ideal.sin (angle (s % 64) (e - 32))
    else
      x ⟨32 + (16 + (e - 32 - 16)), by omega⟩ * Ideal.cos (angle (s % 64) (e - 32 - 16))
        + x ⟨32 + (e - 32 - 16), by omega⟩ * Ideal.sin (angle (s % 64) (e - 32 - 16))

/-- The rotation by a cosine and a signed sine, with the partner sixteen columns away. -/
def turned (C S : EReal) (x : Fin 64 → EReal) (e : Fin 64) : EReal :=
  x e * C + (if h : 16 ≤ e.val % 32 then x ⟨e - 16, by omega⟩ else x ⟨e + 16, by omega⟩) * S

theorem turned_eq (s : ℕ) (x : Fin 64 → EReal) (e : Fin 64) : turned (cosAt s e) (sinAt s e) x e = rotated s x e := by
  have he := e.isLt
  have two : ∀ (a a' b b' : Fin 64) (C S : EReal), a = a' → b = b' → x a * C + x b * -S = x a' * C - x b' * S := by
    rintro a _ b _ C S rfl rfl
    rw [sub_eq_add_neg, mul_neg]
  have two' : ∀ (a a' b b' : Fin 64) (C S : EReal), a = a' → b = b' → x a * C + x b * S = x a' * C + x b' * S := by
    rintro a _ b _ C S rfl rfl
    rfl
  unfold turned rotated cosAt sinAt
  by_cases h0 : e.val < 16
  · rw [if_pos h0, if_pos h0, dif_neg (by omega), dif_pos (by omega), dif_pos h0]
    exact two _ _ _ _ _ _ rfl (Fin.ext (Nat.add_comm _ _))
  · rw [if_neg h0, if_neg h0]
    by_cases h1 : e.val - 16 < 16
    · rw [if_pos h1, if_pos h1, dif_pos (by omega), dif_pos (by omega), dif_neg h0]
      exact two' _ _ _ _ _ _ (Fin.ext (by show e.val = 16 + (e.val - 16); omega)) rfl
    · rw [if_neg h1, if_neg h1]
      by_cases h2 : e.val - 16 - 16 < 16
      · rw [if_pos h2, if_pos h2, dif_neg (by omega), dif_neg (by omega), dif_pos (by omega), show e.val - 16 - 16 = e.val - 32 by omega]
        exact two _ _ _ _ _ _ (Fin.ext (by show e.val = 32 + (e.val - 32); omega)) (Fin.ext (by show e.val + 16 = 32 + (16 + (e.val - 32)); omega))
      · rw [if_neg h2, if_neg h2, dif_pos (by omega), dif_neg (by omega), dif_neg (by omega), show e.val - 16 - 16 - 16 = e.val - 32 - 16 by omega]
        exact two' _ _ _ _ _ _ (Fin.ext (by show e.val = 32 + (16 + (e.val - 32 - 16)); omega)) (Fin.ext (by show e.val - 16 = 32 + (e.val - 32 - 16); omega))

/-- A factor that is real and not negative moves out of the rotation. -/
theorem turned_mul (C S : EReal) (x : Fin 64 → EReal) (e : Fin 64) {r : ℝ} (hr : 0 ≤ r) :
    turned C S (fun e => x e * (r : EReal)) e = turned C S x e * (r : EReal) := by
  unfold turned
  rw [Soft.add_mul_coe _ _ hr]
  split_ifs <;> rw [mul_right_comm, mul_right_comm (x _) (r : EReal)]

theorem sixtyfour : Ideal.ofBits .f32 1115684864#32 = ((64 : ℝ) : EReal) := by
  simp [Ideal.ofBits, Ideal.ieee, -EReal.coe_mul]
  norm_num

theorem sixtyfourth : Ideal.ofBits .f32 1015021568#32 = ((64⁻¹ : ℝ) : EReal) := by
  simp [Ideal.ofBits, Ideal.ieee, -EReal.coe_mul]
  norm_num

/-- The product with the block matrix of means takes the mean over the column's own head. -/
theorem mean (f : Fin 256 → EReal) (j : Fin 256) :
    ∑ x : Fin 256, f x * (if x.val / 64 = j.val / 64 then Ideal.ofBits .f32 1015021568#32 else 0)
      = Ideal.div (∑ e : Fin 64, f ⟨j / 64 * 64 + e, by omega⟩) (Ideal.ofBits .f32 1115684864#32) := by
  rw [sixtyfour, sixtyfourth, Soft.div_coe _ (by norm_num), Soft.sum_mul_coe _ _ (by norm_num),
    ← Equiv.sum_comp (finProdFinEquiv : Fin 4 × Fin 64 ≃ Fin 256), Fintype.sum_prod_type,
    Finset.sum_eq_single (⟨j / 64, by omega⟩ : Fin 4)]
  · refine Finset.sum_congr rfl fun e _ => ?_
    have h : (finProdFinEquiv ((⟨j / 64, by omega⟩ : Fin 4), e) : Fin 256) = ⟨j / 64 * 64 + e, by omega⟩ :=
      Fin.ext (by show e.val + 64 * (j.val / 64) = j.val / 64 * 64 + e.val; omega)
    rw [h, if_pos (by show (j.val / 64 * 64 + e.val) / 64 = j.val / 64; omega)]
  · intro b _ hb
    refine Finset.sum_eq_zero fun e _ => ?_
    rw [if_neg (by
      intro h
      refine hb (Fin.ext ?_)
      have h' : (e.val + 64 * b.val) / 64 = j.val / 64 := h
      show b.val = j.val / 64
      omega), mul_zero]
  · intro h
    exact absurd (Finset.mem_univ _) h

/-- An entry of the block matrix of means, chosen by the head numbers of its row and column. -/
theorem select_head (i j : ℕ) (hi : i < 256) (hj : j < 256) (x y : EReal) :
    Scalar.select (IntOp.cmpi .eq (BitVec.ofNat 32 (i / 64)) (BitVec.ofNat 32 (j / 64))) x y = if i / 64 = j / 64 then x else y := by
  rw [WordCmp.cmpi_eq_ofNat (by omega) (by omega), WordCmp.select_ofBool]
  simp

/-- A normalised entry of a slab, its mean square from the product with the block matrix. -/
theorem slab_head (P : Fin 256 → EReal) (bd : Fin 256 → Fin 256 → EReal)
    (hbd : ∀ i j : Fin 256, bd i j = if i.val / 64 = j.val / 64 then Ideal.ofBits .f32 1015021568#32 else 0) (g : Fin 64 → EReal) (c : Fin 256)
    (w : EReal) (hw : w = g ⟨c % 64, by omega⟩) :
    P c * Ideal.rsqrt (∑ x, P x * P x * bd x c + Ideal.ofBits .f32 897988541#32) * w
      = normed (fun e => P ⟨c / 64 * 64 + e, by omega⟩) g ⟨c % 64, by omega⟩ := by
  unfold normed
  simp only [hbd]
  rw [mean (fun x => P x * P x), hw]
  refine congrArg (· * _) (congrArg (· * _) (congrArg P (Fin.ext ?_)))
  show c.val = c.val / 64 * 64 + c.val % 64
  omega

/-- A column is in the upper half of its pair exactly when its bit of sixteen is set. -/
theorem upper : ∀ j < 128, IntOp.cmpi .ne (IntOp.andi (BitVec.ofNat 32 j) 16#32) 0#32 = BitVec.ofBool (decide (16 ≤ j % 32)) := by
  decide +kernel

/-- The rotation of a row of columns, whole heads side by side. -/
def lane {W : ℕ} (hW : W % 128 = 0) (Q : Fin W → EReal) (C S : Fin 128 → EReal) (c : Fin W) : EReal :=
  Q c * C ⟨c % 128, by omega⟩
    + (if h : 16 ≤ c.val % 32 then Q ⟨c - 16, by omega⟩ else Q ⟨c + 16, by omega⟩) * S ⟨c % 128, by omega⟩

/-- One slab of 128 columns from column `o`, the partner taken by rolling the slab either way. -/
theorem piece {W : ℕ} (hW : W % 128 = 0) (Q : Fin W → EReal) (C S : Fin 128 → EReal) (c : Fin W) (o j : ℕ) (hj : j < 128) (hc : c.val = o + j)
    (ho : o % 128 = 0) (q0 q1 q2 : Fin W) (j' j'' : Fin 128) (h0 : q0.val = o + j) (h1 : q1.val = o + (j + 128 - 16) % 128)
    (h2 : q2.val = o + (j + 128 - 112) % 128) (h3 : j'.val = j) (h4 : j''.val = j) :
    Q q0 * C j' + Scalar.select (IntOp.cmpi .ne (IntOp.andi (BitVec.ofNat 32 j) 16#32) 0#32) (Q q1) (Q q2) * S j'' = lane hW Q C S c := by
  have hj' : c.val % 128 = j := by omega
  rw [upper j hj, WordCmp.select_ofBool]
  unfold lane
  refine congrArg₂ (· + ·) (congrArg₂ (· * ·) (congrArg Q (Fin.ext (h0.trans hc.symm))) (congrArg C (Fin.ext (h3.trans hj'.symm))))
    (congrArg₂ (· * ·) ?_ (congrArg S (Fin.ext (h4.trans hj'.symm))))
  by_cases h : 16 ≤ j % 32
  · rw [dif_pos (by omega), if_pos (by simpa using h)]
    exact congrArg Q (Fin.ext (by rw [h1]; show _ = c.val - 16; omega))
  · rw [dif_neg (by omega), if_neg (by simpa using h)]
    exact congrArg Q (Fin.ext (by rw [h2]; show _ = c.val + 16; omega))

/-- The rotation of whole heads, read at one of them. -/
theorem lane_head {W : ℕ} (hW : W % 128 = 0) (Q : Fin W → EReal) (C S : Fin 128 → EReal) (Y : Fin W → Fin 64 → EReal)
    (hY : ∀ c c' : Fin W, c.val / 64 = c'.val / 64 → Y c = Y c') (hQ : ∀ c : Fin W, Q c = Y c ⟨c % 64, by omega⟩) (c : Fin W) :
    lane hW Q C S c = turned (C ⟨c % 128, by omega⟩) (S ⟨c % 128, by omega⟩) (Y c) ⟨c % 64, by omega⟩ := by
  unfold lane turned
  have hc := c.isLt
  congr 2
  · exact hQ c
  · by_cases h : 16 ≤ c.val % 32
    · rw [dif_pos h, dif_pos (by show 16 ≤ c.val % 64 % 32; omega), hQ, hY _ c (by show (c.val - 16) / 64 = _; omega)]
      exact congrArg _ (Fin.ext (by show (c.val - 16) % 64 = c.val % 64 - 16; omega))
    · rw [dif_neg h, dif_neg (by show ¬ 16 ≤ c.val % 64 % 32; omega), hQ, hY _ c (by show (c.val + 16) / 64 = _; omega)]
      exact congrArg _ (Fin.ext (by show (c.val + 16) % 64 = c.val % 64 + 16; omega))

/-- The scale of the queries: the reciprocal of the root of the head's width, over the logarithm of two. -/
theorem scale : ((Real.log 256)⁻¹ : ℝ) = (1 / 8 : ℝ) * (Real.log 2)⁻¹ := by
  rw [show (256 : ℝ) = 2 ^ 8 by norm_num, Real.log_pow, mul_inv]
  norm_num

theorem eighth : Ideal.ofBits .f32 1040187392#32 = ((1 / 8 : ℝ) : EReal) := by
  simp [Ideal.ofBits, Ideal.ieee, -EReal.coe_mul]
  norm_num

theorem two : Ideal.ofBits .f32 1073741824#32 = ((2 : ℝ) : EReal) := by
  simp [Ideal.ofBits, Ideal.ieee, -EReal.coe_mul]
  norm_num

theorem scaled (x : EReal) : Ideal.div (x * Ideal.ofBits .f32 1040187392#32) (Real.log 2 : EReal) = x * (((Real.log 256)⁻¹ : ℝ) : EReal) := by
  rw [Soft.div_coe _ (Real.log_pos (by norm_num)).ne', eighth, scale, mul_assoc, EReal.coe_mul]

end Cert.Rope
-- ==== Proof.Qkv.lean ====
/- The query, key and value call at one tile: each block it writes, at a row and a column, from what its staged blocks hold. -/
module

public import proofs.«01_k».proof.Proof.Conv
public import proofs.«01_k».proof.Proof.Rope
public import proofs.«01_k».proof.Proof.Gen.Kernel5Ideal.Value
public import Idealize.ShloMosaic.Lib.Pipeline.ValueKit
public import Idealize.ShloMosaic.Lib.Claim

@[expose] public section

set_option maxRecDepth 16384

noncomputable section

namespace Cert.Kernel5Ideal.Qkv

open Cert.Kernel5Ideal Cert.Kernel5Ideal.Gen Idealize.ShloMosaic Idealize.ShloMosaic.TcCoe Idealize.SL.Sem

/-- A matrix whose entries are a sixty-fourth within a head and zero elsewhere. -/
def Means (bd : Vec Ideal S256x256 .bf16) : Prop :=
  ∀ i j : Fin 256, bd (ix2 i j) = if i.val / 64 = j.val / 64 then Ideal.ofBits .f32 1015021568#32 else 0

/-- The name of the queries' scale stands for the reciprocal of the logarithm of 256. -/
theorem qscale : Named.named (F := Ideal) Cert.Kernel5Ideal.κ "qscale" (φ := .f32) 0x3E38AA3B#32 = (((Real.log 256)⁻¹ : ℝ) : EReal) :=
  IdealRules.named_const.ideal_named_scalar _ _ _ _ rfl

/-- A tile's projected queries, each head normed, scaled. -/
theorem query (v24 v35 : FVec Ideal S1024x1024 .bf16) (v37 v41 : Vec Ideal S1x1024 .f32) (v43 : Vec Ideal S256x256 .bf16) (hbd : Means v43)
    (g : Fin 64 → EReal) (hg : ∀ c : Fin 1024, v41 (ix2 0 c) = g ⟨c % 64, by omega⟩) (r c : Fin 1024) :
    k0_pay7 v24 v35 (constant S1024x1024 .f32 0x00000000#32) v37 v41 v43 (ix2 r c)
      = Rope.normed (fun e => Conv.proj (fun l => v24 (ix2 r l)) (fun l => v35 (ix2 l ⟨c / 64 * 64 + e, by omega⟩)) (v37 (ix2 0 ⟨c / 64 * 64 + e, by omega⟩)))
          g ⟨c % 64, by omega⟩ * (((Real.log 256)⁻¹ : ℝ) : EReal) := by
  have key : ∀ (o : ℕ) (ho : o + 256 ≤ 1024) (ho' : o % 64 = 0) (j : Fin 256) (hc : c.val = o + j),
      (∑ x, v24 (ix2 r x) * v35 (ix2 x c) + v37 (ix2 0 c)) * Ideal.rsqrt (∑ x : Fin 256,
          (∑ l, v24 (ix2 r l) * v35 (ix2 l ⟨o + x, by omega⟩) + v37 (ix2 0 ⟨o + x, by omega⟩))
            * (∑ l, v24 (ix2 r l) * v35 (ix2 l ⟨o + x, by omega⟩) + v37 (ix2 0 ⟨o + x, by omega⟩)) * v43 (ix2 x j)
          + Ideal.ofBits .f32 897988541#32) * v41 (ix2 0 c)
      = Rope.normed (fun e => Conv.proj (fun l => v24 (ix2 r l)) (fun l => v35 (ix2 l ⟨c / 64 * 64 + e, by omega⟩)) (v37 (ix2 0 ⟨c / 64 * 64 + e, by omega⟩)))
          g ⟨c % 64, by omega⟩ := by
    intro o ho ho' j hc
    have h := Rope.slab_head (fun x => ∑ l, v24 (ix2 r l) * v35 (ix2 l ⟨o + x, by omega⟩) + v37 (ix2 0 ⟨o + x, by omega⟩))
      (fun i j => v43 (ix2 i j)) hbd g j (v41 (ix2 0 c)) ((hg c).trans (congrArg g (Fin.ext (by show c.val % 64 = j.val % 64; omega))))
    have e1 : (⟨o + j, by omega⟩ : Fin 1024) = c := Fin.ext hc.symm
    have e2 : ∀ e : Fin 64, (⟨o + (j / 64 * 64 + e), by omega⟩ : Fin 1024) = ⟨c / 64 * 64 + e, by omega⟩ := fun e =>
      Fin.ext (by show o + (j.val / 64 * 64 + e.val) = c.val / 64 * 64 + e.val; omega)
    have e3 : (⟨j % 64, by omega⟩ : Fin 64) = ⟨c % 64, by omega⟩ := Fin.ext (by show j.val % 64 = c.val % 64; omega)
    simp only [e1, e2, e3] at h
    exact h
  pointwise [k0_pay7]
  rw [qscale]
  refine congrArg (· * _) ?_
  by_cases h0 : c.val < 256
  · rw [dif_pos h0]
    refine Eq.trans ?_ (key 0 (by omega) (by omega) ⟨c, by omega⟩ (Nat.zero_add _).symm)
    simp only [Nat.zero_add]
  rw [dif_neg h0]
  by_cases h1 : c.val - 256 < 256
  · rw [dif_pos h1]
    exact key 256 (by omega) (by omega) ⟨c - 256, by omega⟩ (by show c.val = 256 + (c.val - 256); omega)
  rw [dif_neg h1]
  by_cases h2 : c.val - 256 - 256 < 256
  · rw [dif_pos h2]
    exact key 512 (by omega) (by omega) ⟨c - 256 - 256, by omega⟩ (by show c.val = 512 + (c.val - 256 - 256); omega)
  rw [dif_neg h2]
  exact key 768 (by omega) (by omega) ⟨c - 256 - 256 - 256, by omega⟩ (by show c.val = 768 + (c.val - 256 - 256 - 256); omega)

/-- A tile's queries, rotated. -/
theorem queries (v24 v35 : FVec Ideal S1024x1024 .bf16) (z : FVec Ideal S1024x1024 .f32) (v26 v28 : FVec Ideal S1024x128 .f32)
    (v37 v41 : Vec Ideal S1x1024 .f32) (v43 : Vec Ideal S256x256 .bf16) (r c : Fin 1024) :
    k0_pay11 v26 v28 k0_pay5 (k0_pay7 v24 v35 z v37 v41 v43) (k0_pay8 v24 v26 v28 k0_pay5 v35 z v37 v41 v43) (k0_pay9 v24 v26 v28 k0_pay5 v35 z v37 v41 v43)
        (k0_pay10 v24 v35 z v37 v41 v43) 16#32 (ix2 r c)
      = Rope.lane (W := 1024) (by norm_num) (fun c => k0_pay7 v24 v35 z v37 v41 v43 (ix2 r c)) (fun j => v26 (ix2 r j)) (fun j => v28 (ix2 r j)) c := by
  have key := fun (o j : ℕ) (hj : j < 128) (hc : c.val = o + j) (ho : o % 128 = 0) (ho' : o + 128 ≤ 1024) =>
    Rope.piece (W := 1024) (by norm_num) (fun c => k0_pay7 v24 v35 z v37 v41 v43 (ix2 r c)) (fun j => v26 (ix2 r j)) (fun j => v28 (ix2 r j))
      c o j hj hc ho ⟨o + j, by omega⟩ ⟨o + (j + 128 - 16) % 128, by omega⟩ ⟨o + (j + 128 - 112) % 128, by omega⟩ ⟨j, hj⟩ ⟨j, hj⟩ rfl rfl rfl rfl rfl
  unfold k0_pay8 k0_pay9 k0_pay10
  generalize k0_pay7 v24 v35 z v37 v41 v43 = Q at key ⊢
  pointwise [k0_pay11, k0_pay5]
  have hc := c.isLt
  by_cases h0 : c.val < 128
  · rw [dif_pos h0]
    refine Eq.trans ?_ (key 0 c (by omega) (Nat.zero_add _).symm (by omega) (by omega))
    simp only [Nat.zero_add]
  rw [dif_neg h0]
  by_cases h1 : c.val - 128 < 128
  · rw [dif_pos h1]
    exact key 128 (c - 128) (by omega) (by omega) (by omega) (by omega)
  rw [dif_neg h1]
  by_cases h2 : c.val - 128 - 128 < 128
  · rw [dif_pos h2]
    exact key 256 (c - 128 - 128) (by omega) (by omega) (by omega) (by omega)
  rw [dif_neg h2]
  by_cases h3 : c.val - 128 - 128 - 128 < 128
  · rw [dif_pos h3]
    exact key 384 (c - 128 - 128 - 128) (by omega) (by omega) (by omega) (by omega)
  rw [dif_neg h3]
  by_cases h4 : c.val - 128 - 128 - 128 - 128 < 128
  · rw [dif_pos h4]
    exact key 512 (c - 128 - 128 - 128 - 128) (by omega) (by omega) (by omega) (by omega)
  rw [dif_neg h4]
  by_cases h5 : c.val - 128 - 128 - 128 - 128 - 128 < 128
  · rw [dif_pos h5]
    exact key 640 (c - 128 - 128 - 128 - 128 - 128) (by omega) (by omega) (by omega) (by omega)
  rw [dif_neg h5]
  by_cases h6 : c.val - 128 - 128 - 128 - 128 - 128 - 128 < 128
  · rw [dif_pos h6]
    exact key 768 (c - 128 - 128 - 128 - 128 - 128 - 128) (by omega) (by omega) (by omega) (by omega)
  rw [dif_neg h6]
  exact key 896 (c - 128 - 128 - 128 - 128 - 128 - 128 - 128) (by omega) (by omega) (by omega) (by omega)

/-- A tile's keys, each head normed and rotated, the block transposed. -/
theorem keys (v24 : FVec Ideal S1024x1024 .bf16) (v26 v28 : FVec Ideal S1024x128 .f32) (v123 : Vec Ideal S1024x256 .bf16)
    (v126 v130 : Vec Ideal S1x256 .f32) (v132 : Vec Ideal S256x256 .bf16) (hbd : Means v132)
    (g : Fin 64 → EReal) (hg : ∀ c : Fin 256, v130 (ix2 0 c) = g ⟨c % 64, by omega⟩) (c : Fin 256) (r : Fin 1024) :
    k0_pay12 v24 v26 v28 k0_pay5 v123 v126 v130 v132 (ix2 c r)
      = Rope.turned (v26 (ix2 r ⟨c % 128, by omega⟩)) (v28 (ix2 r ⟨c % 128, by omega⟩))
          (Rope.normed (fun e => Conv.proj (fun l => v24 (ix2 r l)) (fun l => v123 (ix2 l ⟨c / 64 * 64 + e, by omega⟩)) (v126 (ix2 0 ⟨c / 64 * 64 + e, by omega⟩))) g)
          ⟨c % 64, by omega⟩ := by
  let Q : Fin 256 → EReal := fun c => (∑ x, v24 (ix2 r x) * v123 (ix2 x c) + v126 (ix2 0 c))
    * Ideal.rsqrt (∑ x : Fin 256, (∑ l, v24 (ix2 r l) * v123 (ix2 l x) + v126 (ix2 0 x)) * (∑ l, v24 (ix2 r l) * v123 (ix2 l x) + v126 (ix2 0 x)) * v132 (ix2 x c)
      + Ideal.ofBits .f32 897988541#32) * v130 (ix2 0 c)
  have hl := Rope.lane_head (W := 256) (by norm_num) Q (fun j => v26 (ix2 r j)) (fun j => v28 (ix2 r j))
    (fun c => Rope.normed (fun e => Conv.proj (fun l => v24 (ix2 r l)) (fun l => v123 (ix2 l ⟨c / 64 * 64 + e, by omega⟩)) (v126 (ix2 0 ⟨c / 64 * 64 + e, by omega⟩))) g)
    (fun c c' h => by simp only [h])
    (fun c => Rope.slab_head (fun x => ∑ l, v24 (ix2 r l) * v123 (ix2 l x) + v126 (ix2 0 x)) (fun i j => v132 (ix2 i j)) hbd g c _ (hg c)) c
  refine Eq.trans ?_ hl
  have key := fun (o j : ℕ) (hj : j < 128) (hc : c.val = o + j) (ho : o % 128 = 0) (ho' : o + 128 ≤ 256) =>
    Rope.piece (W := 256) (by norm_num) Q (fun j => v26 (ix2 r j)) (fun j => v28 (ix2 r j))
      c o j hj hc ho ⟨o + j, by omega⟩ ⟨o + (j + 128 - 16) % 128, by omega⟩ ⟨o + (j + 128 - 112) % 128, by omega⟩ ⟨j, hj⟩ ⟨j, hj⟩ rfl rfl rfl rfl rfl
  pointwise [k0_pay12, k0_pay5]
  by_cases h0 : c.val < 128
  · rw [dif_pos h0]
    refine Eq.trans ?_ (key 0 c (by omega) (Nat.zero_add _).symm (by omega) (by omega))
    simp only [Nat.zero_add]
    rfl
  · rw [dif_neg h0]
    exact key 128 (c - 128) (by omega) (by omega) (by omega) (by omega)

variable (x0 : Vec Ideal S1024x1024 .f32) (x1 : Vec Ideal S1x6x1024 .f32) (x2 : Vec Ideal S1x1024 .f32) (x3 : Vec Ideal S1024x1536 .bf16)
  (x4 : Vec Ideal S1x1536 .f32) (x5 : Vec Ideal S256x256 .bf16) (x6 : Vec Ideal S1x1024 .f32) (x7 : Vec Ideal S1x256 .f32)
  (x8 x9 : Vec Ideal S1024x128 .f32)

/-- The projection of a tile's row at a column. -/
def projAt (r : Fin 1024) (c : Fin 1536) : EReal :=
  Conv.proj (Ffn.normed (fun l => x0 (ix2 r l)) (fun l => x2 (ix2 0 l)) (fun l => x1 (ix3 0 0 l)) (fun l => x1 (ix3 0 1 l)))
    (fun l => x3 (ix2 l c)) (x4 (ix2 0 c))

theorem rows (r l : Fin 1024) : k0_pay15 (F := Ideal) x0 x1 x2 x3 x4 x5 x6 x7 x8 x9 (ix2 r l)
    = Ffn.normed (fun l => x0 (ix2 r l)) (fun l => x2 (ix2 0 l)) (fun l => x1 (ix3 0 0 l)) (fun l => x1 (ix3 0 1 l)) l := by
  rw [Ffn.normed_eq]
  unfold Ffn.invRms k0_pay15
  pointwise [k0_pay2]

theorem cosines : k0_pay16 x0 x1 x2 x3 x4 x5 x6 x7 x8 x9 = x8 := by
  funext y
  idx_vars y
  pointwise [k0_pay16, k0_pay3]

theorem sines : k0_pay17 x0 x1 x2 x3 x4 x5 x6 x7 x8 x9 = x9 := by
  funext y
  idx_vars y
  pointwise [k0_pay17, k0_pay4]

/-- The block of values. -/
theorem out12 (r : Fin 1024) (c : Fin 256) :
    out0_12 x0 x1 x2 x3 x4 x5 x6 x7 x8 x9 (ix2 r c) = projAt x0 x1 x2 x3 x4 r ⟨1280 + c, by omega⟩ := by
  unfold projAt
  rw [← funext (rows x0 x1 x2 x3 x4 x5 x6 x7 x8 x9 r)]
  frame_out
  generalize k0_pay15 x0 x1 x2 x3 x4 x5 x6 x7 x8 x9 = H
  unfold Conv.proj
  pointwise [k0_pay1, k0_pay13]

/-- The block of keys, transposed. -/
theorem out11 (hbd : Means x5) (g : Fin 64 → EReal) (hg : ∀ c : Fin 256, x7 (ix2 0 c) = g ⟨c % 64, by omega⟩) (c : Fin 256) (r : Fin 1024) :
    out0_11 x0 x1 x2 x3 x4 x5 x6 x7 x8 x9 (ix2 c r)
      = Rope.turned (x8 (ix2 r ⟨c % 128, by omega⟩)) (x9 (ix2 r ⟨c % 128, by omega⟩))
          (Rope.normed (fun e => projAt x0 x1 x2 x3 x4 r ⟨1024 + (c / 64 * 64 + e), by omega⟩) g) ⟨c % 64, by omega⟩ := by
  unfold projAt
  rw [← funext (rows x0 x1 x2 x3 x4 x5 x6 x7 x8 x9 r)]
  frame_out
  rw [cosines, sines]
  generalize k0_pay15 x0 x1 x2 x3 x4 x5 x6 x7 x8 x9 = H
  have hw : ∀ (l : Fin 1024) (c : Fin 256), (View.ld x3 r0_8 : Vec Ideal S1024x256 .bf16) (ix2 l c) = x3 (ix2 l ⟨1024 + c, by omega⟩) :=
    fun l c => by pointwise
  have hb : ∀ c : Fin 256, (View.ld x4 r0_9 : Vec Ideal S1x256 .f32) (ix2 0 c) = x4 (ix2 0 ⟨1024 + c, by omega⟩) := fun c => by pointwise
  refine (keys H x8 x9 (View.ld x3 r0_8) (View.ld x4 r0_9) x7 x5 hbd g hg c r).trans ?_
  simp only [hw, hb]

/-- The block of queries. -/
theorem out10 (hbd : Means x5) (g : Fin 64 → EReal) (hg : ∀ c : Fin 1024, x6 (ix2 0 c) = g ⟨c % 64, by omega⟩) (r c : Fin 1024) :
    out0_10 x0 x1 x2 x3 x4 x5 x6 x7 x8 x9 (ix2 r c)
      = Rope.turned (x8 (ix2 r ⟨c % 128, by omega⟩)) (x9 (ix2 r ⟨c % 128, by omega⟩))
          (Rope.normed (fun e => projAt x0 x1 x2 x3 x4 r ⟨c / 64 * 64 + e, by omega⟩) g) ⟨c % 64, by omega⟩ * (((Real.log 256)⁻¹ : ℝ) : EReal) := by
  unfold projAt
  rw [← funext (rows x0 x1 x2 x3 x4 x5 x6 x7 x8 x9 r)]
  frame_out
  rw [cosines, sines]
  generalize k0_pay15 x0 x1 x2 x3 x4 x5 x6 x7 x8 x9 = H
  have hw : ∀ l c : Fin 1024, k0_pay19 x0 x1 x2 x3 x4 x5 x6 x7 x8 x9 (ix2 l c) = x3 (ix2 l ⟨c, by omega⟩) :=
    fun l c => by pointwise [k0_pay19, k0_pay6]
  have hb : ∀ c : Fin 1024, (View.ld x4 r0_6 : Vec Ideal S1x1024 .f32) (ix2 0 c) = x4 (ix2 0 ⟨c, by omega⟩) := fun c => by pointwise
  generalize k0_pay19 x0 x1 x2 x3 x4 x5 x6 x7 x8 x9 = W at hw ⊢
  refine (queries H W (constant S1024x1024 .f32 0x00000000#32) x8 x9 (View.ld x4 r0_6) x6 x5 r c).trans ?_
  have hl := Rope.lane_head (W := 1024) (by norm_num) (fun c => k0_pay7 H W (constant S1024x1024 .f32 0x00000000#32) (View.ld x4 r0_6) x6 x5 (ix2 r c))
    (fun j => x8 (ix2 r j)) (fun j => x9 (ix2 r j))
    (fun c e => Rope.normed (fun e => Conv.proj (fun l => H (ix2 r l)) (fun l => W (ix2 l ⟨c / 64 * 64 + e, by omega⟩))
      ((View.ld x4 r0_6 : Vec Ideal S1x1024 .f32) (ix2 0 ⟨c / 64 * 64 + e, by omega⟩))) g e * (((Real.log 256)⁻¹ : ℝ) : EReal))
    (fun c c' h => by simp only [h])
    (fun c => query H W (View.ld x4 r0_6) x6 x5 hbd g hg r c) c
  rw [Rope.turned_mul _ _ _ _ (inv_nonneg.mpr (Real.log_nonneg (by norm_num)))] at hl
  refine hl.trans ?_
  simp only [hw, hb]

end Cert.Kernel5Ideal.Qkv
-- ==== Proof.QkvArr.lean ====
/- The query, key and value call's three arrays after the run: at each row and column the rotated heads of queries and of keys, and the values. -/
module

public import proofs.«01_k».proof.Proof.Qkv
public import Idealize.ShloMosaic.Lib.StableHlo.RunRead

@[expose] public section

set_option maxRecDepth 200000

noncomputable section

namespace Cert.Kernel5Ideal.Qkv

open Cert.Kernel5Ideal Cert.Kernel5Ideal.Gen Idealize.ShloMosaic Idealize.ShloMosaic.TcCoe Idealize.SL.Sem
open Idealize.ShloMosaic.Pipeline (Dat)

/-- The block each window stages at each point. -/
theorem idx : ∀ t : Fin cfg0.N, win0_0.index t = ![t.val, 0] ∧ win0_1.index t = ![t.val / 8, 0, 0]
    ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![t.val % 8, 0]
    ∧ win0_9.index t = ![t.val % 8, 0] ∧ win0_10.index t = ![t.val, 0] ∧ win0_11.index t = ![0, t.val] ∧ win0_12.index t = ![t.val, 0] :=
  (by decide +kernel : ∀ t : Fin grid0.N, _)

theorem lt_points (t : Fin cfg0.N) : t.val < 64 :=
  t.isLt.trans_eq (by decide +kernel : grid0.N = 64)

variable (m : (ℓ : Loc nD τ sig) → Buf (Elt Ideal) ℓ)

/-- The projection of row `R` at column `c`. -/
def q (d : Dev nD) (R : Fin 65536) (c : Fin 1536) : EReal :=
  Conv.proj (Ffn.normed (fun l => m ((d : Thread nD τ).loc main_arg0) (ix2 R l)) (fun l => m ((d : Thread nD τ).loc main_arg2) (ix1 l))
    (fun l => m ((d : Thread nD τ).loc main_arg1) (ix3 ⟨R / 8192, by omega⟩ 0 l))
    (fun l => m ((d : Thread nD τ).loc main_arg1) (ix3 ⟨R / 8192, by omega⟩ 1 l)))
    (fun l => m ((d : Thread nD τ).loc main_arg3) (ix2 l c)) (m ((d : Thread nD τ).loc main_arg4) (ix1 c))

section

variable (d : Dev nD) (t : Fin cfg0.N)

theorem e0 (ht : t.val < 64) (r : Fin 1024) (l : Fin 1024) : (iblk m d 0 t : Vec Ideal S1024x1024 .f32) (ix2 r l)
    = m ((d : Thread nD τ).loc main_arg0) (ix2 ⟨1024 * t + r, by omega⟩ l) := by blk_ext [iblk, V, idx t]

theorem e1 (ht : t.val < 64) (s : Fin 6) (l : Fin 1024) : (iblk m d 1 t : Vec Ideal S1x6x1024 .f32) (ix3 0 s l)
    = m ((d : Thread nD τ).loc main_arg1) (ix3 ⟨t / 8, by omega⟩ s l) := by blk_ext [iblk, V, idx t]

theorem e2 (l : Fin 1024) : (iblk m d 2 t : Vec Ideal S1x1024 .f32) (ix2 0 l) = m ((d : Thread nD τ).loc main_arg2) (ix1 l) := by
  refine Eq.trans (b := V m d main_v53 (ix2 0 l)) (by blk_ext [iblk, idx t]) ?_
  entry_read
  pointwise

theorem e3 (l : Fin 1024) (c : Fin 1536) : (iblk m d 3 t : Vec Ideal S1024x1536 .bf16) (ix2 l c) = m ((d : Thread nD τ).loc main_arg3) (ix2 l c) := by
  refine Eq.trans (b := V m d main_v0 (ix2 l c)) (by blk_ext [iblk, idx t]) ?_
  entry_read
  pointwise

theorem e4 (c : Fin 1536) : (iblk m d 4 t : Vec Ideal S1x1536 .f32) (ix2 0 c) = m ((d : Thread nD τ).loc main_arg4) (ix1 c) := by
  refine Eq.trans (b := V m d main_v54 (ix2 0 c)) (by blk_ext [iblk, idx t]) ?_
  entry_read
  pointwise

/-- The block matrix of means. -/
theorem e5 : Means (iblk m d 5 t) := by
  intro i j
  refine Eq.trans (b := V m d main_v55 (ix2 i j)) (by blk_ext [iblk, idx t]) ?_
  refine Eq.trans ?_ (Rope.select_head i j i.isLt j.isLt _ _)
  entry_read
  pointwise

theorem e6 (c : Fin 1024) : (iblk m d 6 t : Vec Ideal S1x1024 .f32) (ix2 0 c) = m ((d : Thread nD τ).loc main_arg5) (ix1 ⟨c % 64, by omega⟩) := by
  refine Eq.trans (b := V m d main_v59 (ix2 0 c)) (by blk_ext [iblk, idx t]) ?_
  entry_read
  pointwise

theorem e7 (c : Fin 256) : (iblk m d 7 t : Vec Ideal S1x256 .f32) (ix2 0 c) = m ((d : Thread nD τ).loc main_arg6) (ix1 ⟨c % 64, by omega⟩) := by
  refine Eq.trans (b := V m d main_v63 (ix2 0 c)) (by blk_ext [iblk, idx t]) ?_
  entry_read
  pointwise

/-- The table of cosines. -/
theorem e8 (ht : t.val < 64) (r : Fin 1024) (j : Fin 128) :
    (iblk m d 8 t : Vec Ideal S1024x128 .f32) (ix2 r j) = Rope.cosAt (1024 * (t % 8) + r) (j % 64) := by
  refine Eq.trans (b := (V m d main_v38 : Vec Ideal S8192x128 .f32) (ix2 ⟨1024 * (t % 8) + r, by omega⟩ j)) (by blk_ext [iblk, idx t]) ?_
  unfold V
  after_reads_simp
  pointwise
  after_reads_simp
  pointwise
  rfl

/-- The table of signed sines. -/
theorem e9 (ht : t.val < 64) (r : Fin 1024) (j : Fin 128) :
    (iblk m d 9 t : Vec Ideal S1024x128 .f32) (ix2 r j) = Rope.sinAt (1024 * (t % 8) + r) (j % 64) := by
  refine Eq.trans (b := (V m d main_v41 : Vec Ideal S8192x128 .f32) (ix2 ⟨1024 * (t % 8) + r, by omega⟩ j)) (by blk_ext [iblk, idx t]) ?_
  unfold V
  after_reads_simp
  pointwise
  after_reads_simp
  pointwise
  rfl

/-- A tile's projected row is the array's. -/
theorem projAt_eq (ht : t.val < 64) (r : Fin 1024) (c : Fin 1536) :
    projAt (iblk m d 0 t) (iblk m d 1 t) (iblk m d 2 t) (iblk m d 3 t) (iblk m d 4 t) r c = q m d ⟨1024 * t + r, by omega⟩ c := by
  have e1' : ∀ (s : Fin 6) (l : Fin 1024), (iblk m d 1 t : Vec Ideal S1x6x1024 .f32) (ix3 0 s l)
      = m ((d : Thread nD τ).loc main_arg1) (ix3 ⟨(1024 * t + r) / 8192, by omega⟩ s l) := fun s l =>
    (e1 m d t ht s l).trans (congrArg (fun R => m ((d : Thread nD τ).loc main_arg1) (ix3 R s l)) (Fin.ext (by show t.val / 8 = (1024 * t.val + r.val) / 8192; omega)))
  unfold projAt q
  simp only [e0 m d t ht, e1', e2, e3, e4]

/-- A head turned by the tables is the head rotated at the row's position. -/
theorem turned_at (ht : t.val < 64) (r : Fin 1024) (j : Fin 128) (x : Fin 64 → EReal) (e : Fin 64) (he : e.val = j % 64) :
    Rope.turned ((iblk m d 8 t : Vec Ideal S1024x128 .f32) (ix2 r j)) ((iblk m d 9 t : Vec Ideal S1024x128 .f32) (ix2 r j)) x e
      = Rope.rotated ((1024 * t + r) % 8192) x e := by
  rw [e8 m d t ht, e9 m d t ht, ← he, Rope.turned_eq, show (1024 * t.val + r.val) % 8192 = 1024 * (t.val % 8) + r.val by omega]

end

/-- The queries' array after the run. -/
theorem final10 (d : Dev nD) (Y : FVec Ideal S65536x1024 .bf16)
    (hY : ∀ (R : Fin 65536) (c : Fin 1024), Y (ix2 R c)
      = Rope.rotated (R % 8192) (Rope.normed (fun e => q m d R ⟨c / 64 * 64 + e, by omega⟩) (fun e => m ((d : Thread nD τ).loc main_arg5) (ix1 e)))
          ⟨c % 64, by omega⟩ * (((Real.log 256)⁻¹ : ℝ) : EReal)) :
    (dats m 0 d).arrAt 10 (cfgs 0).N = Y := by
  refine (dats m 0 d).arrAt_eq_of_covers 10 _ (by decide +kernel) fun t _ y => ?_
  blk_simp
  rw [after0_10]
  have ht := lt_points t
  idx_vars y
  refine Eq.trans ?_ ((hY ⟨1024 * t + y0, by omega⟩ y1).symm.trans (congrArg _ ?_))
  · refine (out10 (iblk m d 0 t) (iblk m d 1 t) (iblk m d 2 t) (iblk m d 3 t) (iblk m d 4 t) (iblk m d 5 t) (iblk m d 6 t) (iblk m d 7 t)
      (iblk m d 8 t) (iblk m d 9 t) (e5 m d t) (fun e => m ((d : Thread nD τ).loc main_arg5) (ix1 e)) (e6 m d t) y0 y1).trans ?_
    rw [turned_at m d t ht y0 _ _ _ (by show y1.val % 64 = y1.val % 128 % 64; omega)]
    simp only [projAt_eq m d t ht]
  · blk_ext [idx t]

/-- The keys' array after the run. -/
theorem final11 (d : Dev nD) (Y : FVec Ideal S256x65536 .bf16)
    (hY : ∀ (c : Fin 256) (R : Fin 65536), Y (ix2 c R)
      = Rope.rotated (R % 8192) (Rope.normed (fun e => q m d R ⟨1024 + (c / 64 * 64 + e), by omega⟩) (fun e => m ((d : Thread nD τ).loc main_arg6) (ix1 e)))
          ⟨c % 64, by omega⟩) :
    (dats m 0 d).arrAt 11 (cfgs 0).N = Y := by
  refine (dats m 0 d).arrAt_eq_of_covers 11 _ (by decide +kernel) fun t _ y => ?_
  blk_simp
  rw [after0_11]
  have ht := lt_points t
  idx_vars y
  refine Eq.trans ?_ ((hY y0 ⟨1024 * t + y1, by omega⟩).symm.trans (congrArg _ ?_))
  · refine (out11 (iblk m d 0 t) (iblk m d 1 t) (iblk m d 2 t) (iblk m d 3 t) (iblk m d 4 t) (iblk m d 5 t) (iblk m d 6 t) (iblk m d 7 t)
      (iblk m d 8 t) (iblk m d 9 t) (e5 m d t) (fun e => m ((d : Thread nD τ).loc main_arg6) (ix1 e)) (e7 m d t) y0 y1).trans ?_
    rw [turned_at m d t ht y1 _ _ _ (by show y0.val % 64 = y0.val % 128 % 64; omega)]
    simp only [projAt_eq m d t ht]
  · blk_ext [idx t]

/-- The values' array after the run. -/
theorem final12 (d : Dev nD) (Y : FVec Ideal S65536x256 .bf16)
    (hY : ∀ (R : Fin 65536) (c : Fin 256), Y (ix2 R c) = q m d R ⟨1280 + c, by omega⟩) :
    (dats m 0 d).arrAt 12 (cfgs 0).N = Y := by
  refine (dats m 0 d).arrAt_eq_of_covers 12 _ (by decide +kernel) fun t _ y => ?_
  blk_simp
  rw [after0_12]
  have ht := lt_points t
  idx_vars y
  refine Eq.trans ?_ ((hY ⟨1024 * t + y0, by omega⟩ y1).symm.trans (congrArg _ ?_))
  · exact (out12 (iblk m d 0 t) (iblk m d 1 t) (iblk m d 2 t) (iblk m d 3 t) (iblk m d 4 t) (iblk m d 5 t) (iblk m d 6 t) (iblk m d 7 t)
      (iblk m d 8 t) (iblk m d 9 t) y0 y1).trans (projAt_eq m d t ht y0 _)
  · blk_ext [idx t]

end Cert.Kernel5Ideal.Qkv
-- ==== Proof.QkvRef.lean ====
/- The reference of the query, key and value call: the projected rows, the heads of queries and keys normed and rotated. -/
module

public import proofs.«01_k».proof.Proof.Conv
public import proofs.«01_k».proof.Proof.Rope
public import proofs.«01_k».proof.Proof.Gen.Reference5Ideal.Read
public import Idealize.ShloMosaic.Lib.Pipeline.ValueKit

@[expose] public section

set_option maxRecDepth 16384

noncomputable section

namespace Cert.Reference5Ideal.Qkv

open Cert.Reference5Ideal Cert.Reference5Ideal.Read Idealize.ShloMosaic

variable (x0 : FVec Ideal S65536x1024 .f32) (x1 : FVec Ideal S16x6x1024 .f32) (x2 : FVec Ideal S1024 .f32)
  (x3 : FVec Ideal S1024x1536 .f32) (x4 : FVec Ideal S1536 .f32) (x5 : FVec Ideal S64 .f32) (x6 : FVec Ideal S64 .f32)

/-- The projection of row `R` at column `c`. -/
def q (R : Fin 65536) (c : Fin 1536) : EReal :=
  Conv.proj (Ffn.normed (fun l => x0 (ix2 R l)) (fun l => x2 (ix1 l)) (fun l => x1 (ix3 ⟨R / 8192, by omega⟩ 0 l))
    (fun l => x1 (ix3 ⟨R / 8192, by omega⟩ 1 l))) (fun l => x3 (ix2 l c)) (x4 (ix1 c))

theorem proj (t : Fin 8) (s : Fin 8192) (c : Fin 1536) :
    val_main_v29 (F := Ideal) x0 x1 x2 x3 x4 (ix3 t s c) = q x0 x1 x2 x3 x4 ⟨t * 8192 + s, by omega⟩ c := by
  unfold q
  rw [show (⟨(⟨t.val * 8192 + s.val, by omega⟩ : Fin 65536).val / 8192, by omega⟩ : Fin 16) = ⟨t.val, by omega⟩ from
    Fin.ext (by show (t.val * 8192 + s.val) / 8192 = t.val; omega)]
  pointwise [
    val_main_v29, val_main_v28, val_main_v27, val_main_v26, val_main_v25, val_main_v24, val_main_v23, val_main_v22,
    val_main_v21, val_main_v20, val_main_v19, val_main_v18, val_main_v17, val_main_cst_2, val_main_v16, val_main_v15,
    val_main_v14, val_main_v13, val_main_v12, val_main_v11, val_main_v10, val_main_v9, val_main_v8, val_main_v7,
    val_main_v6, val_main_cst_1, val_main_v5, val_main_v4, val_main_cst_0, val_main_v3, val_main_v2, val_main_cst,
    val_main_v1, val_main_v0]
  rfl

/-- A head of the queries, normed. -/
theorem queryHead (t : Fin 8) (s : Fin 8192) (h : Fin 16) (e : Fin 64) :
    val_main_v46 (F := Ideal) x0 x1 x2 x3 x4 x5 (ix4 t s h e)
      = Rope.normed (fun e => q x0 x1 x2 x3 x4 ⟨t * 8192 + s, by omega⟩ ⟨h * 64 + e, by omega⟩) (fun e => x5 (ix1 e)) e := by
  unfold Rope.normed
  simp only [← proj x0 x1 x2 x3 x4 t s]
  pointwise [val_main_v46, val_main_v45, val_main_v44, val_main_v43, val_main_v42, val_main_v41, val_main_v40, val_main_v39,
    val_main_v38, val_main_v37, val_main_v36, val_main_v35, val_main_v34, val_main_v33, val_main_v30, val_main_cst_3, val_main_cst_4,
    val_main_cst_5]

/-- A head of the queries, rotated. -/
theorem queryTurned (t : Fin 8) (s : Fin 8192) (h : Fin 16) (e : Fin 64) :
    val_main_v106 (F := Ideal) x0 x1 x2 x3 x4 x5 (ix4 t s h e)
      = Rope.rotated s (fun e => val_main_v46 (F := Ideal) x0 x1 x2 x3 x4 x5 (ix4 t s h e)) e := by
  pointwise [val_main_v106, val_main_v105, val_main_v104, val_main_v103, val_main_v102, val_main_v101, val_main_v100, val_main_v99,
    val_main_v98, val_main_v97, val_main_v96, val_main_v95, val_main_v94, val_main_v93, val_main_v92, val_main_v91, val_main_v90,
    val_main_v89, val_main_v88, val_main_v87, val_main_v86, val_main_v85, val_main_v84, val_main_v83, val_main_v82, val_main_v81,
    val_main_v80, val_main_v79, val_main_v78, val_main_v77, val_main_v76, val_main_v75, val_main_v74, val_main_v73, val_main_v72,
    val_main_v71, val_main_v70, val_main_v69, val_main_v68, val_main_v67, val_main_v66, val_main_v65, val_main_v64, val_main_v63,
    val_main_v62, val_main_v61, val_main_v60, val_main_v59, val_main_v58, val_main_v57, val_main_v56, val_main_v55, val_main_v54,
    val_main_v53, val_main_v52, val_main_v51, val_main_v50, val_main_v49, val_main_v48, val_main_v47, val_main_cst_6, val_main_cst_7]
  rfl

/-- A head of the keys, normed. -/
theorem keyHead (t : Fin 8) (s : Fin 8192) (h : Fin 4) (e : Fin 64) :
    val_main_v126 (F := Ideal) x0 x1 x2 x3 x4 x6 (ix4 t s h e)
      = Rope.normed (fun e => q x0 x1 x2 x3 x4 ⟨t * 8192 + s, by omega⟩ ⟨1024 + (h * 64 + e), by omega⟩) (fun e => x6 (ix1 e)) e := by
  unfold Rope.normed
  simp only [← proj x0 x1 x2 x3 x4 t s]
  pointwise [val_main_v126, val_main_v125, val_main_v124, val_main_v123, val_main_v122, val_main_v121, val_main_v120, val_main_v119,
    val_main_v118, val_main_v117, val_main_v116, val_main_v115, val_main_v114, val_main_v113, val_main_v31, val_main_cst_10,
    val_main_cst_11, val_main_cst_12]

/-- A head of the keys, rotated. -/
theorem keyTurned (t : Fin 8) (s : Fin 8192) (h : Fin 4) (e : Fin 64) :
    val_main_v186 (F := Ideal) x0 x1 x2 x3 x4 x6 (ix4 t s h e)
      = Rope.rotated s (fun e => val_main_v126 (F := Ideal) x0 x1 x2 x3 x4 x6 (ix4 t s h e)) e := by
  pointwise [val_main_v186, val_main_v185, val_main_v184, val_main_v183, val_main_v182, val_main_v181, val_main_v180, val_main_v179,
    val_main_v178, val_main_v177, val_main_v176, val_main_v175, val_main_v174, val_main_v173, val_main_v172, val_main_v171,
    val_main_v170, val_main_v169, val_main_v168, val_main_v167, val_main_v166, val_main_v165, val_main_v164, val_main_v163,
    val_main_v162, val_main_v161, val_main_v160, val_main_v159, val_main_v158, val_main_v157, val_main_v156, val_main_v155,
    val_main_v154, val_main_v153, val_main_v152, val_main_v151, val_main_v150, val_main_v149, val_main_v148, val_main_v147,
    val_main_v146, val_main_v145, val_main_v144, val_main_v143, val_main_v142, val_main_v141, val_main_v140, val_main_v139,
    val_main_v138, val_main_v137, val_main_v136, val_main_v135, val_main_v134, val_main_v133, val_main_v132, val_main_v131,
    val_main_v130, val_main_v129, val_main_v128, val_main_v127, val_main_cst_13, val_main_cst_14]
  rfl

/-- The row that a batch and a position make. -/
theorem row (R : Fin 65536) (h) : (⟨R.val / 8192 * 8192 + R.val % 8192, h⟩ : Fin 65536) = R :=
  Fin.ext (by show R.val / 8192 * 8192 + R.val % 8192 = R.val; omega)

theorem log2 : Host.log (constant S_ .f32 1073741824#32 : FVec Ideal S_ .f32) ix0 = (Real.log 2 : EReal) := by
  have h : (constant S_ .f32 1073741824#32 : FVec Ideal S_ .f32) ix0 = ((2 : ℝ) : EReal) := Rope.two
  show FloatOps.hostUnary .log ((constant S_ .f32 1073741824#32 : FVec Ideal S_ .f32) ix0) = _
  rw [h, Ideal.hostUnary_log_def]
  show (if (2 : ℝ) ≤ 0 then ⊥ else (Real.log 2 : EReal)) = _
  rw [if_neg (by norm_num)]

/-- The first result, the queries. -/
theorem queries (R : Fin 65536) (c : Fin 1024) :
    val_main_v191 (F := Ideal) x0 x1 x2 x3 x4 x5 (ix2 R c)
      = Rope.rotated (R % 8192) (Rope.normed (fun e => q x0 x1 x2 x3 x4 R ⟨c / 64 * 64 + e, by omega⟩) (fun e => x5 (ix1 e))) ⟨c % 64, by omega⟩
          * (((Real.log 256)⁻¹ : ℝ) : EReal) := by
  rw [← Rope.scaled]
  pointwise [val_main_v191, val_main_v187, val_main_v112, val_main_v111, val_main_v110, val_main_v109, val_main_v108, val_main_v107,
    val_main_cst_8, val_main_cst_9]
  refine congrArg₂ Ideal.div (congrArg (· * _) ?_) log2
  rw [queryTurned]
  simp only [queryHead, row]

/-- The second result, the keys, transposed. -/
theorem keys (c : Fin 256) (R : Fin 65536) :
    val_main_v192 (F := Ideal) x0 x1 x2 x3 x4 x6 (ix2 c R)
      = Rope.rotated (R % 8192) (Rope.normed (fun e => q x0 x1 x2 x3 x4 R ⟨1024 + (c / 64 * 64 + e), by omega⟩) (fun e => x6 (ix1 e))) ⟨c % 64, by omega⟩ := by
  pointwise [val_main_v192, val_main_v189, val_main_v188]
  rw [keyTurned]
  simp only [keyHead, row]

/-- The third result, the values. -/
theorem values (R : Fin 65536) (c : Fin 256) :
    val_main_v193 (F := Ideal) x0 x1 x2 x3 x4 (ix2 R c) = q x0 x1 x2 x3 x4 R ⟨1280 + c, by omega⟩ := by
  pointwise [val_main_v193, val_main_v190, val_main_v32]
  rw [proj, row]

end Cert.Reference5Ideal.Qkv
-- ==== Proof.lean ====
/- The claims about each call, assembled: each program's frame, the named constants of the idealized kernels, and the
   equality of each idealized kernel with its reference. -/
module

public import proofs.«01_k».proof.Defs
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.Pre_finite_scores
public import proofs.«01_k».proof.Proof.Gen.Pre_finite_conv
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4
public import proofs.«01_k».proof.Proof.Gen.Reference4Ideal
public import proofs.«01_k».proof.Proof.Gen.Reference4Ideal.Run
public import proofs.«01_k».proof.Proof.Gen.Reference4Ideal.Read
public import proofs.«01_k».proof.Proof.Arr
public import proofs.«01_k».proof.Proof.Finite
public import proofs.«01_k».proof.Proof.Mlp
public import proofs.«01_k».proof.Proof.MlpRef
public import proofs.«01_k».proof.Proof.Out
public import proofs.«01_k».proof.Proof.OutRef
public import proofs.«01_k».proof.Proof.InpFinite
public import proofs.«01_k».proof.Proof.InpRef
public import proofs.«01_k».proof.Proof.QkvArr
public import proofs.«01_k».proof.Proof.QkvRef
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs and leaves its arguments as they were. -/
theorem frame_Reference : Cert.quiescent_Reference := by
  intro m g _
  hlo_run
  · simp
  · exact sem_eq_zero_of_no_sems (sig := Cert.Reference.sig) rfl _

/-- The idealized reference runs and leaves its arguments as they were. -/
theorem frame_ReferenceIdeal : Cert.quiescent_ReferenceIdeal := by
  intro m g _
  hlo_run
  · simp
  · exact sem_eq_zero_of_no_sems (sig := Cert.ReferenceIdeal.sig) rfl _

/-- The two named constants are the ones the idealized kernel names. -/
theorem preserves_Kernel : Cert.preserves_Kernel_KernelIdeal :=
  ⟨IdealRules.named_const.statement Cert.KernelIdeal.κ "mask" .f32 0xF149F2CA#32 ⊥ rfl,
    IdealRules.named_const.statement Cert.KernelIdeal.κ "log2e" .f32 0x3FB8AA3B#32 (((Real.log 2)⁻¹ : ℝ) : EReal) rfl⟩

/-- The idealized attention call ends at the reference's term of its arguments. -/
theorem algebraic : Cert.algebraic_KernelIdeal_ReferenceIdeal_pre_finite_scores := by
  intro m g m' g' hpre hargs
  refine ⟨_, (θ_run _ _ _).mono (fun r h c => ⟨(h c).1.trans
    (KernelIdeal.Att.final m c (KernelIdeal.Att.seqs m c) (KernelIdeal.Att.holds m hpre c)), (h c).2⟩)
    (Cert.KernelIdeal.Value.run_blocks m g), (θ_run _ _ _).mono (fun r h c => ⟨(h c).1.trans ?_, (h c).2⟩)
    (Cert.ReferenceIdeal.Value.run m' g')⟩
  obtain ⟨h0, h1, h2, h3, h4, h5, h6, h7, h8, h9⟩ := hargs c
  rw [Cert.ReferenceIdeal.Read.val_main_v64_eq, h0, h1, h2, h3, h4, h5, h6, h7, h8, h9]

theorem frame_Reference2 : Cert.quiescent_Reference2 := by
  intro m g _
  hlo_run
  · simp
  · exact sem_eq_zero_of_no_sems (sig := Cert.Reference2.sig) rfl _

theorem frame_Reference2Ideal : Cert.quiescent_Reference2Ideal := by
  intro m g _
  hlo_run
  · simp
  · exact sem_eq_zero_of_no_sems (sig := Cert.Reference2Ideal.sig) rfl _

theorem frame_Reference3 : Cert.quiescent_Reference3 := by
  intro m g _
  hlo_run
  · simp
  · exact sem_eq_zero_of_no_sems (sig := Cert.Reference3.sig) rfl _

theorem frame_Reference3Ideal : Cert.quiescent_Reference3Ideal := by
  intro m g _
  hlo_run
  · simp
  · exact sem_eq_zero_of_no_sems (sig := Cert.Reference3Ideal.sig) rfl _

/-- The idealized MLP call ends at its reference's term of its arguments. -/
theorem algebraic2 : Cert.algebraic_Kernel2Ideal_Reference2Ideal := by
  intro m g m' g' _ hargs
  refine ⟨_, (θ_run _ _ _).mono (fun r h c => ⟨(h c).1.trans
    (Kernel2Ideal.Mlp.final m c _ (Reference2Ideal.Mlp.result _ _ _ _ _)), (h c).2⟩)
    (Cert.Kernel2Ideal.Value.run_blocks m g), (θ_run _ _ _).mono (fun r h c => ⟨(h c).1.trans ?_, (h c).2⟩)
    (Cert.Reference2Ideal.Value.run m' g')⟩
  obtain ⟨h0, h1, h2, h3, h4⟩ := hargs c
  rw [Cert.Reference2Ideal.Read.val_main_v45_eq, h0, h1, h2, h3, h4]

/-- The idealized Hyena output call ends at its reference's term of its arguments. -/
theorem algebraic3 : Cert.algebraic_Kernel3Ideal_Reference3Ideal := by
  intro m g m' g' _ hargs
  refine ⟨_, (θ_run _ _ _).mono (fun r h c => ⟨(h c).1.trans
    (Kernel3Ideal.Out.final m c _ (Reference3Ideal.Out.result _ _ _ _ _ _ _ _ _ _ _)), (h c).2⟩)
    (Cert.Kernel3Ideal.Value.run_blocks m g), (θ_run _ _ _).mono (fun r h c => ⟨(h c).1.trans ?_, (h c).2⟩)
    (Cert.Reference3Ideal.Value.run m' g')⟩
  obtain ⟨h0, h1, h2, h3, h4, h5, h6, h7, h8, h9, h10⟩ := hargs c
  rw [Cert.Reference3Ideal.Read.val_main_v63_eq, h0, h1, h2, h3, h4, h5, h6, h7, h8, h9, h10]

theorem frame_Reference4 : Cert.quiescent_Reference4 := by
  intro m g _
  hlo_run
  · simp
  · exact sem_eq_zero_of_no_sems (sig := Cert.Reference4.sig) rfl _

theorem frame_Reference4Ideal : Cert.quiescent_Reference4Ideal := by
  intro m g _
  hlo_run
  · simp
  · exact sem_eq_zero_of_no_sems (sig := Cert.Reference4Ideal.sig) rfl _

/-- The idealized Hyena input call ends at its reference's two terms of its arguments. -/
theorem algebraic4 : Cert.algebraic_Kernel4Ideal_Reference4Ideal_pre_finite_conv := by
  intro m g m' g' hpre hargs
  refine ⟨_, _, (θ_run _ _ _).mono (fun r h c => ⟨(h c).1.trans
    (Kernel4Ideal.Inp.final9 m c (Kernel4Ideal.Inp.real m hpre c) _ (Reference4Ideal.Inp.gate _ _ _ _ _ _ _)), (h c).2.1.trans
    (Kernel4Ideal.Inp.final10 m c (Kernel4Ideal.Inp.real m hpre c) _ (Reference4Ideal.Inp.product _ _ _ _ _ _ _)), (h c).2.2⟩)
    (Cert.Kernel4Ideal.Value.run_blocks m g), (θ_run _ _ _).mono (fun r h c => ⟨(h c).1.trans ?_, (h c).2.1.trans ?_, (h c).2.2⟩)
    (Cert.Reference4Ideal.Value.run m' g')⟩
  · obtain ⟨h0, h1, h2, h3, h4, h5, h6⟩ := hargs c
    rw [Cert.Reference4Ideal.Read.val_main_v59_eq, h0, h1, h2, h3, h4, h5, h6]
  · obtain ⟨h0, h1, h2, h3, h4, h5, h6⟩ := hargs c
    rw [Cert.Reference4Ideal.Read.val_main_v61_eq, h0, h1, h2, h3, h4, h5, h6]

theorem frame_Reference5 : Cert.quiescent_Reference5 := by
  intro m g _
  hlo_run
  · simp
  · exact sem_eq_zero_of_no_sems (sig := Cert.Reference5.sig) rfl _

theorem frame_Reference5Ideal : Cert.quiescent_Reference5Ideal := by
  intro m g _
  hlo_run
  · simp
  · exact sem_eq_zero_of_no_sems (sig := Cert.Reference5Ideal.sig) rfl _

/-- The named constant is the one the idealized query, key and value call names. -/
theorem preserves_Kernel5 : Cert.preserves_Kernel5_Kernel5Ideal :=
  IdealRules.named_const.statement Cert.Kernel5Ideal.κ "qscale" .f32 0x3E38AA3B#32 (((Real.log 256)⁻¹ : ℝ) : EReal) rfl

/-- The idealized query, key and value call ends at its reference's three terms of its arguments. -/
theorem algebraic5 : Cert.algebraic_Kernel5Ideal_Reference5Ideal := by
  intro m g m' g' _ hargs
  refine ⟨_, _, _, (θ_run _ _ _).mono (fun r h c => ⟨(h c).1.trans
    (Kernel5Ideal.Qkv.final10 m c _ (Reference5Ideal.Qkv.queries _ _ _ _ _ _)), (h c).2.1.trans
    (Kernel5Ideal.Qkv.final11 m c _ (Reference5Ideal.Qkv.keys _ _ _ _ _ _)), (h c).2.2.1.trans
    (Kernel5Ideal.Qkv.final12 m c _ (Reference5Ideal.Qkv.values _ _ _ _ _)), (h c).2.2.2⟩)
    (Cert.Kernel5Ideal.Value.run_blocks m g), (θ_run _ _ _).mono
      (fun r h c => ⟨(h c).1.trans ?_, (h c).2.1.trans ?_, (h c).2.2.1.trans ?_, (h c).2.2.2⟩) (Cert.Reference5Ideal.Value.run m' g')⟩
  · obtain ⟨h0, h1, h2, h3, h4, h5, h6⟩ := hargs c
    rw [Cert.Reference5Ideal.Read.val_main_v191_eq, ← h0, ← h1, ← h2, ← h3, ← h4, ← h5]
  · obtain ⟨h0, h1, h2, h3, h4, h5, h6⟩ := hargs c
    rw [Cert.Reference5Ideal.Read.val_main_v192_eq, ← h0, ← h1, ← h2, ← h3, ← h4, ← h6]
  · obtain ⟨h0, h1, h2, h3, h4, h5, h6⟩ := hargs c
    rw [Cert.Reference5Ideal.Read.val_main_v193_eq, ← h0, ← h1, ← h2, ← h3, ← h4]

theorem claim : Cert.Claim := ⟨Cert.Kernel.Gen.facts, Cert.KernelIdeal.Gen.facts, Cert.ReferenceIdeal.Gen.facts, Cert.Reference.Gen.facts,
  Cert.Kernel2.Gen.facts, Cert.Kernel2Ideal.Gen.facts, Cert.Reference2Ideal.Gen.facts, Cert.Reference2.Gen.facts,
  Cert.Kernel3.Gen.facts, Cert.Kernel3Ideal.Gen.facts, Cert.Reference3Ideal.Gen.facts, Cert.Reference3.Gen.facts,
  Cert.Kernel4.Gen.facts, Cert.Kernel4Ideal.Gen.facts, Cert.Reference4Ideal.Gen.facts, Cert.Reference4.Gen.facts,
  Cert.Kernel5.Gen.facts, Cert.Kernel5Ideal.Gen.facts, Cert.Reference5Ideal.Gen.facts, Cert.Reference5.Gen.facts,
  Cert.Pre_finite_scores.Gen.facts, Cert.Pre_finite_conv.Gen.facts,
  fun m ρ _ => Cert.Kernel.Gen.frame m ρ, fun m ρ _ => Cert.KernelIdeal.Gen.frame m ρ, fun m ρ _ => Cert.KernelIdeal.Gen.frame m ρ,
  frame_ReferenceIdeal, fun m ρ _ => frame_ReferenceIdeal m ρ trivial, frame_Reference,
  fun m ρ _ => Cert.Kernel2.Gen.frame m ρ, fun m ρ _ => Cert.Kernel2Ideal.Gen.frame m ρ, frame_Reference2Ideal, frame_Reference2,
  fun m ρ _ => Cert.Kernel3.Gen.frame m ρ, fun m ρ _ => Cert.Kernel3Ideal.Gen.frame m ρ, frame_Reference3Ideal, frame_Reference3,
  fun m ρ _ => Cert.Kernel4.Gen.frame m ρ, fun m ρ _ => Cert.Kernel4Ideal.Gen.frame m ρ, fun m ρ _ => Cert.Kernel4Ideal.Gen.frame m ρ,
  frame_Reference4Ideal, fun m ρ _ => frame_Reference4Ideal m ρ trivial, frame_Reference4,
  fun m ρ _ => Cert.Kernel5.Gen.frame m ρ, fun m ρ _ => Cert.Kernel5Ideal.Gen.frame m ρ, frame_Reference5Ideal, frame_Reference5,
  preserves_Kernel, trivial, algebraic, trivial, trivial, algebraic2, trivial, trivial, algebraic3,
  trivial, trivial, algebraic4, preserves_Kernel5, trivial, algebraic5⟩

end Cert.Proof

end
